-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel

variable [Facts]

def fn {F : FTy → Type} [FloatOps F] (main_arg0 : FVec F S32x1000000 .f32) : IVec S_ 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  let main_c : IVec S_ 1 := constantI S_ 1 1#1
  let main_v3 : IVec S_ 1 := (fun x v => Host.reduce IntOp.andi x v reducesTo_S32x1000000_S_d0_1 h_S_) main_v2 main_c
  main_v3
-- ==== Kernel.lean ====
abbrev S32x1000000 : Shape := ⟨2, ![32, 1000000]⟩
abbrev S32x32 : Shape := ⟨2, ![32, 32]⟩
abbrev S2x28672 : Shape := ⟨2, ![2, 28672]⟩
abbrev S32 : Shape := ⟨1, ![32]⟩
abbrev S_ : Shape := ⟨0, ![]⟩
abbrev S576 : Shape := ⟨1, ![576]⟩
abbrev S1x28672 : Shape := ⟨2, ![1, 28672]⟩
abbrev S28672 : Shape := ⟨1, ![28672]⟩
abbrev S1x576 : Shape := ⟨2, ![1, 576]⟩
abbrev S16 : Shape := ⟨1, ![16]⟩
abbrev S1x16 : Shape := ⟨2, ![1, 16]⟩
abbrev S1x32 : Shape := ⟨2, ![1, 32]⟩
abbrev S32x512 : Shape := ⟨2, ![32, 512]⟩
abbrev S32x8192 : Shape := ⟨2, ![32, 8192]⟩
abbrev S32x544 : Shape := ⟨2, ![32, 544]⟩
abbrev S32x1 : Shape := ⟨2, ![32, 1]⟩
abbrev S32x544x1 : Shape := ⟨3, ![32, 544, 1]⟩
abbrev S1 : Shape := ⟨1, ![1]⟩
abbrev S1x1x1 : Shape := ⟨3, ![1, 1, 1]⟩

abbrev nBuf : Table → Nat
  | .hbm => 301
  | .local .tc .vmem => 10
  | .local .scVector .vmem => 5
  | _ => 0

abbrev hbmTy0_0 (i : Nat) : BufTy := match i % 128 with
  | 0 => ⟨S32x1000000, .f32⟩
  | 1 => ⟨S32x32, .f32⟩
  | 2 => ⟨S32x32, .f32⟩
  | 3 => ⟨S32x32, .i32⟩
  | 4 => ⟨S32x512, .f32⟩
  | 5 => ⟨S32x512, .f32⟩
  | 6 => ⟨S32x512, .i32⟩
  | 7 => ⟨S32x544, .f32⟩
  | 8 => ⟨S32x544, .f32⟩
  | 9 => ⟨S32x544, .i32⟩
  | 10 => ⟨S_, .f32⟩
  | 11 => ⟨S32, .f32⟩
  | 12 => ⟨S32x1, .f32⟩
  | 13 => ⟨S32x544, .f32⟩
  | 14 => ⟨S32x544, .f32⟩
  | 15 => ⟨S32x544, .f32⟩
  | 16 => ⟨S32x544, .f32⟩
  | 17 => ⟨S_, .f32⟩
  | 18 => ⟨S32, .f32⟩
  | 19 => ⟨S_, .i32⟩
  | 20 => ⟨S32x544, .i32⟩
  | 21 => ⟨S32x544, .i1⟩
  | 22 => ⟨S_, .i32⟩
  | 23 => ⟨S32x544, .i32⟩
  | 24 => ⟨S32x544, .i32⟩
  | 25 => ⟨S32x544, .i32⟩
  | 26 => ⟨S32x544x1, .i32⟩
  | 27 => ⟨S1, .i32⟩
  | 28 => ⟨S_, .i32⟩
  | 29 => ⟨S32x544x1, .i32⟩
  | 30 => ⟨S32x544x1, .i1⟩
  | 31 => ⟨S1x1x1, .i32⟩
  | 32 => ⟨S32x544x1, .i32⟩
  | 33 => ⟨S32x544x1, .i1⟩
  | 34 => ⟨S32x544x1, .i1⟩
  | 35 => ⟨S_, .i1⟩
  | 36 => ⟨S32x544, .i1⟩
  | 37 => ⟨S32x544, .f32⟩
  | 38 => ⟨S_, .f32⟩
  | 39 => ⟨S32x544, .f32⟩
  | 40 => ⟨S32x544, .f32⟩
  | 41 => ⟨S32, .i32⟩
  | 42 => ⟨S32x1, .i32⟩
  | 43 => ⟨S_, .i32⟩
  | 44 => ⟨S32x1, .i32⟩
  | 45 => ⟨S32x1, .i32⟩
  | 46 => ⟨S32x544, .i32⟩
  | 47 => ⟨S32x544, .i32⟩
  | 48 => ⟨S32x544, .i32⟩
  | 49 => ⟨S_, .i32⟩
  | 50 => ⟨S32x544, .i32⟩
  | 51 => ⟨S32x544, .i32⟩
  | 52 => ⟨S_, .i32⟩
  | 53 => ⟨S32x544, .i32⟩
  | 54 => ⟨S32x544, .i32⟩
  | 55 => ⟨S_, .i32⟩
  | 56 => ⟨S32x544, .i32⟩
  | 57 => ⟨S32x544, .i32⟩
  | 58 => ⟨S32x544, .i32⟩
  | 59 => ⟨S32x544, .i32⟩
  | 60 => ⟨S32x544, .i32⟩
  | 61 => ⟨S_, .i32⟩
  | 62 => ⟨S32x544, .i32⟩
  | 63 => ⟨S32x544, .i32⟩
  | 64 => ⟨S_, .i32⟩
  | 65 => ⟨S32x544, .i32⟩
  | 66 => ⟨S32x544, .i32⟩
  | 67 => ⟨S32x544, .i32⟩
  | 68 => ⟨S32x544, .i32⟩
  | 69 => ⟨S32x544, .i32⟩
  | 70 => ⟨S_, .i32⟩
  | 71 => ⟨S32x544, .i32⟩
  | 72 => ⟨S32x544, .i32⟩
  | 73 => ⟨S_, .i32⟩
  | 74 => ⟨S32x544, .i32⟩
  | 75 => ⟨S32x544, .i32⟩
  | 76 => ⟨S32x544, .i32⟩
  | 77 => ⟨S32x544, .i32⟩
  | 78 => ⟨S32x544, .i32⟩
  | 79 => ⟨S_, .i32⟩
  | 80 => ⟨S32x544, .i32⟩
  | 81 => ⟨S32x544, .i32⟩
  | 82 => ⟨S_, .i32⟩
  | 83 => ⟨S32x544, .i32⟩
  | 84 => ⟨S32x544, .i32⟩
  | 85 => ⟨S32x544, .i32⟩
  | 86 => ⟨S32x544, .i32⟩
  | 87 => ⟨S_, .i32⟩
  | 88 => ⟨S32x544, .i32⟩
  | 89 => ⟨S32x544, .i32⟩
  | 90 => ⟨S_, .i32⟩
  | 91 => ⟨S32x544, .i32⟩
  | 92 => ⟨S32x544, .i32⟩
  | 93 => ⟨S32x544, .i32⟩
  | 94 => ⟨S_, .i32⟩
  | 95 => ⟨S32x544, .i32⟩
  | 96 => ⟨S32x544, .i32⟩
  | 97 => ⟨S_, .i32⟩
  | 98 => ⟨S32x544, .i32⟩
  | 99 => ⟨S32x544, .i32⟩
  | 100 => ⟨S32x544, .i32⟩
  | 101 => ⟨S32x544, .i32⟩
  | 102 => ⟨S32x544, .i32⟩
  | 103 => ⟨S_, .i32⟩
  | 104 => ⟨S32x544, .i32⟩
  | 105 => ⟨S32x544, .i32⟩
  | 106 => ⟨S_, .i32⟩
  | 107 => ⟨S32x544, .i32⟩
  | 108 => ⟨S32x544, .i32⟩
  | 109 => ⟨S32x544, .i32⟩
  | 110 => ⟨S32x544, .i32⟩
  | 111 => ⟨S32x544, .i32⟩
  | 112 => ⟨S_, .i32⟩
  | 113 => ⟨S32x544, .i32⟩
  | 114 => ⟨S32x544, .i32⟩
  | 115 => ⟨S_, .i32⟩
  | 116 => ⟨S32x544, .i32⟩
  | 117 => ⟨S32x544, .i32⟩
  | 118 => ⟨S32x544, .i32⟩
  | 119 => ⟨S32x544, .i32⟩
  | 120 => ⟨S32x544, .i32⟩
  | 121 => ⟨S_, .i32⟩
  | 122 => ⟨S32x544, .i32⟩
  | 123 => ⟨S32x544, .i32⟩
  | 124 => ⟨S_, .i32⟩
  | 125 => ⟨S32x544, .i32⟩
  | 126 => ⟨S32x544, .i32⟩
  | 127 => ⟨S32x544, .i32⟩
  | _ => ⟨S32x1000000, .f32⟩

abbrev hbmTy0_1 (i : Nat) : BufTy := match i % 128 with
  | 0 => ⟨S32x544, .i32⟩
  | 1 => ⟨S_, .i32⟩
  | 2 => ⟨S32x544, .i32⟩
  | 3 => ⟨S32x544, .i32⟩
  | 4 => ⟨S_, .i32⟩
  | 5 => ⟨S32x544, .i32⟩
  | 6 => ⟨S32x544, .i32⟩
  | 7 => ⟨S32x544, .i32⟩
  | 8 => ⟨S_, .i32⟩
  | 9 => ⟨S32x544, .i32⟩
  | 10 => ⟨S32x544, .i32⟩
  | 11 => ⟨S_, .i32⟩
  | 12 => ⟨S32x544, .i32⟩
  | 13 => ⟨S32x544, .i32⟩
  | 14 => ⟨S32x544, .i32⟩
  | 15 => ⟨S32x544, .i32⟩
  | 16 => ⟨S32x544, .i32⟩
  | 17 => ⟨S_, .i32⟩
  | 18 => ⟨S32x544, .i32⟩
  | 19 => ⟨S32x544, .i32⟩
  | 20 => ⟨S_, .i32⟩
  | 21 => ⟨S32x544, .i32⟩
  | 22 => ⟨S32x544, .i32⟩
  | 23 => ⟨S32x544, .i32⟩
  | 24 => ⟨S32x544, .i32⟩
  | 25 => ⟨S32x544, .i32⟩
  | 26 => ⟨S_, .i32⟩
  | 27 => ⟨S32x544, .i32⟩
  | 28 => ⟨S32x544, .i32⟩
  | 29 => ⟨S_, .i32⟩
  | 30 => ⟨S32x544, .i32⟩
  | 31 => ⟨S32x544, .i32⟩
  | 32 => ⟨S32x544, .i32⟩
  | 33 => ⟨S32x544, .i32⟩
  | 34 => ⟨S32x544, .i32⟩
  | 35 => ⟨S_, .i32⟩
  | 36 => ⟨S32x544, .i32⟩
  | 37 => ⟨S32x544, .i32⟩
  | 38 => ⟨S_, .i32⟩
  | 39 => ⟨S32x544, .i32⟩
  | 40 => ⟨S32x544, .i32⟩
  | 41 => ⟨S32x544, .i32⟩
  | 42 => ⟨S32x544, .i32⟩
  | 43 => ⟨S_, .i32⟩
  | 44 => ⟨S32x544, .i32⟩
  | 45 => ⟨S32x544, .i32⟩
  | 46 => ⟨S_, .i32⟩
  | 47 => ⟨S32x544, .i32⟩
  | 48 => ⟨S32x544, .i32⟩
  | 49 => ⟨S32x544, .i32⟩
  | 50 => ⟨S_, .i32⟩
  | 51 => ⟨S32x544, .i32⟩
  | 52 => ⟨S32x544, .i32⟩
  | 53 => ⟨S_, .i32⟩
  | 54 => ⟨S32x544, .i32⟩
  | 55 => ⟨S32x544, .i32⟩
  | 56 => ⟨S32x544, .i32⟩
  | 57 => ⟨S32x544, .i32⟩
  | 58 => ⟨S32x544, .i32⟩
  | 59 => ⟨S_, .i32⟩
  | 60 => ⟨S32x544, .i32⟩
  | 61 => ⟨S32x544, .i32⟩
  | 62 => ⟨S_, .i32⟩
  | 63 => ⟨S32x544, .i32⟩
  | 64 => ⟨S32x544, .i32⟩
  | 65 => ⟨S32x544, .i32⟩
  | 66 => ⟨S32x544, .i32⟩
  | 67 => ⟨S32x544, .i32⟩
  | 68 => ⟨S_, .i32⟩
  | 69 => ⟨S32x544, .i32⟩
  | 70 => ⟨S32x544, .i32⟩
  | 71 => ⟨S_, .i32⟩
  | 72 => ⟨S32x544, .i32⟩
  | 73 => ⟨S32x544, .i32⟩
  | 74 => ⟨S32x544, .i32⟩
  | 75 => ⟨S32x544, .i32⟩
  | 76 => ⟨S32x544, .i32⟩
  | 77 => ⟨S_, .i32⟩
  | 78 => ⟨S32x544, .i32⟩
  | 79 => ⟨S32x544, .i32⟩
  | 80 => ⟨S_, .i32⟩
  | 81 => ⟨S32x544, .i32⟩
  | 82 => ⟨S32x544, .i32⟩
  | 83 => ⟨S32x544, .i32⟩
  | 84 => ⟨S32x544, .i32⟩
  | 85 => ⟨S_, .i32⟩
  | 86 => ⟨S32x544, .i32⟩
  | 87 => ⟨S32x544, .i32⟩
  | 88 => ⟨S_, .i32⟩
  | 89 => ⟨S32x544, .i32⟩
  | 90 => ⟨S32x544, .i32⟩
  | 91 => ⟨S32x544, .i32⟩
  | 92 => ⟨S_, .i32⟩
  | 93 => ⟨S32x544, .i32⟩
  | 94 => ⟨S32x544, .i32⟩
  | 95 => ⟨S_, .i32⟩
  | 96 => ⟨S32x544, .i32⟩
  | 97 => ⟨S32x544, .i32⟩
  | 98 => ⟨S32x544, .i32⟩
  | 99 => ⟨S32x544, .i32⟩
  | 100 => ⟨S32x544, .i32⟩
  | 101 => ⟨S_, .i32⟩
  | 102 => ⟨S32x544, .i32⟩
  | 103 => ⟨S32x544, .i32⟩
  | 104 => ⟨S_, .i32⟩
  | 105 => ⟨S32x544, .i32⟩
  | 106 => ⟨S32x544, .i32⟩
  | 107 => ⟨S32x544, .i32⟩
  | 108 => ⟨S32x544, .i32⟩
  | 109 => ⟨S32x544, .i32⟩
  | 110 => ⟨S_, .i32⟩
  | 111 => ⟨S32x544, .i32⟩
  | 112 => ⟨S32x544, .i32⟩
  | 113 => ⟨S_, .i32⟩
  | 114 => ⟨S32x544, .i32⟩
  | 115 => ⟨S32x544, .i32⟩
  | 116 => ⟨S32x544, .i32⟩
  | 117 => ⟨S32x544, .i32⟩
  | 118 => ⟨S32x544, .i32⟩
  | 119 => ⟨S_, .i32⟩
  | 120 => ⟨S32x544, .i32⟩
  | 121 => ⟨S32x544, .i32⟩
  | 122 => ⟨S_, .i32⟩
  | 123 => ⟨S32x544, .i32⟩
  | 124 => ⟨S32x544, .i32⟩
  | 125 => ⟨S32x544, .i32⟩
  | 126 => ⟨S32x544, .i32⟩
  | 127 => ⟨S_, .i32⟩
  | _ => ⟨S32x1000000, .f32⟩

abbrev hbmTy0_2 (i : Nat) : BufTy := match i % 128 with
  | 0 => ⟨S32x544, .i32⟩
  | 1 => ⟨S32x544, .i32⟩
  | 2 => ⟨S_, .i32⟩
  | 3 => ⟨S32x544, .i32⟩
  | 4 => ⟨S32x544, .i32⟩
  | 5 => ⟨S32x544, .i32⟩
  | 6 => ⟨S_, .i32⟩
  | 7 => ⟨S32x544, .i32⟩
  | 8 => ⟨S32x544, .i32⟩
  | 9 => ⟨S_, .i32⟩
  | 10 => ⟨S32x544, .i32⟩
  | 11 => ⟨S32x544, .i32⟩
  | 12 => ⟨S32x544, .f32⟩
  | 13 => ⟨S_, .f32⟩
  | 14 => ⟨S32x544, .f32⟩
  | 15 => ⟨S32x544, .f32⟩
  | 16 => ⟨S_, .f32⟩
  | 17 => ⟨S32x544, .f32⟩
  | 18 => ⟨S32x544, .f32⟩
  | 19 => ⟨S_, .f32⟩
  | 20 => ⟨S32x544, .f32⟩
  | 21 => ⟨S32x544, .f32⟩
  | 22 => ⟨S32x544, .f32⟩
  | 23 => ⟨S32x544, .f32⟩
  | 24 => ⟨S32x544, .f32⟩
  | 25 => ⟨S32x544, .f32⟩
  | 26 => ⟨S32x1, .f32⟩
  | 27 => ⟨S32x544, .f32⟩
  | 28 => ⟨S32x544, .f32⟩
  | 29 => ⟨S32x544, .f32⟩
  | 30 => ⟨S32x1, .f32⟩
  | 31 => ⟨S32x544, .f32⟩
  | 32 => ⟨S32x544, .f32⟩
  | 33 => ⟨S32x544, .f32⟩
  | 34 => ⟨S32x544, .f32⟩
  | 35 => ⟨S_, .f32⟩
  | 36 => ⟨S32, .f32⟩
  | 37 => ⟨S32x1, .f32⟩
  | 38 => ⟨S32x544, .f32⟩
  | 39 => ⟨S32x544, .i1⟩
  | 40 => ⟨S_, .i32⟩
  | 41 => ⟨S32x544, .i32⟩
  | 42 => ⟨S32x544, .i32⟩
  | 43 => ⟨S_, .i32⟩
  | 44 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (nBuf tb) → BufTy
  | .hbm, ⟨i, _⟩ => hbmTy i
  | .local .tc .vmem, ⟨0, _⟩ => ⟨S32x8192, .f32⟩
  | .local .tc .vmem, ⟨1, _⟩ => ⟨S32x8192, .f32⟩
  | .local .tc .vmem, ⟨2, _⟩ => ⟨S32x512, .f32⟩
  | .local .tc .vmem, ⟨3, _⟩ => ⟨S32x512, .f32⟩
  | .local .tc .vmem, ⟨4, _⟩ => ⟨S32x512, .i32⟩
  | .local .tc .vmem, ⟨5, _⟩ => ⟨S32x512, .f32⟩
  | .local .tc .vmem, ⟨6, _⟩ => ⟨S32x512, .f32⟩
  | .local .tc .vmem, ⟨7, _⟩ => ⟨S32x512, .f32⟩
  | .local .tc .vmem, ⟨8, _⟩ => ⟨S32x512, .f32⟩
  | .local .tc .vmem, ⟨9, _⟩ => ⟨S32x512, .i32⟩
  | .local .scVector .vmem, ⟨0, _⟩ => ⟨S2x28672, .f32⟩
  | .local .scVector .vmem, ⟨1, _⟩ => ⟨S32, .f32⟩
  | .local .scVector .vmem, ⟨2, _⟩ => ⟨S32, .f32⟩
  | .local .scVector .vmem, ⟨3, _⟩ => ⟨S32, .i32⟩
  | .local .scVector .vmem, ⟨4, _⟩ => ⟨S576, .f32⟩
  | _, _ => ⟨S32x1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_1 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_v22 : Ref sig .tc := ⟨.hbm, 53, rfl⟩
abbrev main_v23 : Ref sig .tc := ⟨.hbm, 54, rfl⟩
abbrev main_c_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_4 : Ref sig .tc := ⟨.hbm, 61, rfl⟩
abbrev main_v29 : Ref sig .tc := ⟨.hbm, 62, rfl⟩
abbrev main_v30 : Ref sig .tc := ⟨.hbm, 63, rfl⟩
abbrev main_c_5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_6 : Ref sig .tc := ⟨.hbm, 70, rfl⟩
abbrev main_v36 : Ref sig .tc := ⟨.hbm, 71, rfl⟩
abbrev main_v37 : Ref sig .tc := ⟨.hbm, 72, rfl⟩
abbrev main_c_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_8 : Ref sig .tc := ⟨.hbm, 79, rfl⟩
abbrev main_v43 : Ref sig .tc := ⟨.hbm, 80, rfl⟩
abbrev main_v44 : Ref sig .tc := ⟨.hbm, 81, rfl⟩
abbrev main_c_9 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_10 : Ref sig .tc := ⟨.hbm, 87, rfl⟩
abbrev main_v49 : Ref sig .tc := ⟨.hbm, 88, rfl⟩
abbrev main_v50 : Ref sig .tc := ⟨.hbm, 89, rfl⟩
abbrev main_c_11 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_12 : Ref sig .tc := ⟨.hbm, 94, rfl⟩
abbrev main_v54 : Ref sig .tc := ⟨.hbm, 95, rfl⟩
abbrev main_v55 : Ref sig .tc := ⟨.hbm, 96, rfl⟩
abbrev main_c_13 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_14 : Ref sig .tc := ⟨.hbm, 103, rfl⟩
abbrev main_v61 : Ref sig .tc := ⟨.hbm, 104, rfl⟩
abbrev main_v62 : Ref sig .tc := ⟨.hbm, 105, rfl⟩
abbrev main_c_15 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_16 : Ref sig .tc := ⟨.hbm, 112, rfl⟩
abbrev main_v68 : Ref sig .tc := ⟨.hbm, 113, rfl⟩
abbrev main_v69 : Ref sig .tc := ⟨.hbm, 114, rfl⟩
abbrev main_c_17 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_18 : Ref sig .tc := ⟨.hbm, 121, rfl⟩
abbrev main_v75 : Ref sig .tc := ⟨.hbm, 122, rfl⟩
abbrev main_v76 : Ref sig .tc := ⟨.hbm, 123, rfl⟩
abbrev main_c_19 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_20 : Ref sig .tc := ⟨.hbm, 129, rfl⟩
abbrev main_v81 : Ref sig .tc := ⟨.hbm, 130, rfl⟩
abbrev main_v82 : Ref sig .tc := ⟨.hbm, 131, rfl⟩
abbrev main_c_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_22 : Ref sig .tc := ⟨.hbm, 136, rfl⟩
abbrev main_v86 : Ref sig .tc := ⟨.hbm, 137, rfl⟩
abbrev main_v87 : Ref sig .tc := ⟨.hbm, 138, rfl⟩
abbrev main_c_23 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_24 : Ref sig .tc := ⟨.hbm, 145, rfl⟩
abbrev main_v93 : Ref sig .tc := ⟨.hbm, 146, rfl⟩
abbrev main_v94 : Ref sig .tc := ⟨.hbm, 147, rfl⟩
abbrev main_c_25 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_26 : Ref sig .tc := ⟨.hbm, 154, rfl⟩
abbrev main_v100 : Ref sig .tc := ⟨.hbm, 155, rfl⟩
abbrev main_v101 : Ref sig .tc := ⟨.hbm, 156, rfl⟩
abbrev main_c_27 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_c_28 : Ref sig .tc := ⟨.hbm, 163, rfl⟩
abbrev main_v107 : Ref sig .tc := ⟨.hbm, 164, rfl⟩
abbrev main_v108 : Ref sig .tc := ⟨.hbm, 165, rfl⟩
abbrev main_c_29 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_30 : Ref sig .tc := ⟨.hbm, 171, rfl⟩
abbrev main_v113 : Ref sig .tc := ⟨.hbm, 172, rfl⟩
abbrev main_v114 : Ref sig .tc := ⟨.hbm, 173, rfl⟩
abbrev main_c_31 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_32 : Ref sig .tc := ⟨.hbm, 178, rfl⟩
abbrev main_v118 : Ref sig .tc := ⟨.hbm, 179, rfl⟩
abbrev main_v119 : Ref sig .tc := ⟨.hbm, 180, rfl⟩
abbrev main_c_33 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_c_34 : Ref sig .tc := ⟨.hbm, 187, rfl⟩
abbrev main_v125 : Ref sig .tc := ⟨.hbm, 188, rfl⟩
abbrev main_v126 : Ref sig .tc := ⟨.hbm, 189, rfl⟩
abbrev main_c_35 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_c_36 : Ref sig .tc := ⟨.hbm, 196, rfl⟩
abbrev main_v132 : Ref sig .tc := ⟨.hbm, 197, rfl⟩
abbrev main_v133 : Ref sig .tc := ⟨.hbm, 198, rfl⟩
abbrev main_c_37 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_c_38 : Ref sig .tc := ⟨.hbm, 205, rfl⟩
abbrev main_v139 : Ref sig .tc := ⟨.hbm, 206, rfl⟩
abbrev main_v140 : Ref sig .tc := ⟨.hbm, 207, rfl⟩
abbrev main_c_39 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_c_40 : Ref sig .tc := ⟨.hbm, 213, rfl⟩
abbrev main_v145 : Ref sig .tc := ⟨.hbm, 214, rfl⟩
abbrev main_v146 : Ref sig .tc := ⟨.hbm, 215, rfl⟩
abbrev main_c_41 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_c_42 : Ref sig .tc := ⟨.hbm, 220, rfl⟩
abbrev main_v150 : Ref sig .tc := ⟨.hbm, 221, rfl⟩
abbrev main_v151 : Ref sig .tc := ⟨.hbm, 222, rfl⟩
abbrev main_c_43 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_c_44 : Ref sig .tc := ⟨.hbm, 229, rfl⟩
abbrev main_v157 : Ref sig .tc := ⟨.hbm, 230, rfl⟩
abbrev main_v158 : Ref sig .tc := ⟨.hbm, 231, rfl⟩
abbrev main_c_45 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_c_46 : Ref sig .tc := ⟨.hbm, 238, rfl⟩
abbrev main_v164 : Ref sig .tc := ⟨.hbm, 239, rfl⟩
abbrev main_v165 : Ref sig .tc := ⟨.hbm, 240, rfl⟩
abbrev main_c_47 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_c_48 : Ref sig .tc := ⟨.hbm, 247, rfl⟩
abbrev main_v171 : Ref sig .tc := ⟨.hbm, 248, rfl⟩
abbrev main_v172 : Ref sig .tc := ⟨.hbm, 249, rfl⟩
abbrev main_c_49 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_c_50 : Ref sig .tc := ⟨.hbm, 255, rfl⟩
abbrev main_v177 : Ref sig .tc := ⟨.hbm, 256, rfl⟩
abbrev main_v178 : Ref sig .tc := ⟨.hbm, 257, rfl⟩
abbrev main_c_51 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_c_52 : Ref sig .tc := ⟨.hbm, 262, rfl⟩
abbrev main_v182 : Ref sig .tc := ⟨.hbm, 263, rfl⟩
abbrev main_v183 : Ref sig .tc := ⟨.hbm, 264, rfl⟩
abbrev main_c_53 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_54 : Ref sig .tc := ⟨.hbm, 269, rfl⟩
abbrev main_v187 : Ref sig .tc := ⟨.hbm, 270, rfl⟩
abbrev main_v188 : Ref sig .tc := ⟨.hbm, 271, rfl⟩
abbrev main_cst_55 : Ref sig .tc := ⟨.hbm, 272, rfl⟩
abbrev main_v189 : Ref sig .tc := ⟨.hbm, 273, rfl⟩
abbrev main_v190 : Ref sig .tc := ⟨.hbm, 274, rfl⟩
abbrev main_cst_56 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_cst_57 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_c_58 : Ref sig .tc := ⟨.hbm, 296, rfl⟩
abbrev main_call1_v0 : Ref sig .tc := ⟨.hbm, 297, rfl⟩
abbrev main_v210 : Ref sig .tc := ⟨.hbm, 298, rfl⟩
abbrev main_c_59 : Ref sig .tc := ⟨.hbm, 299, rfl⟩
abbrev main_v211 : Ref sig .tc := ⟨.hbm, 300, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev main_v0_2_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc1_scratch2 : Ref sig .tc := ⟨.vmem, 7, rfl⟩
abbrev cc1_scratch3 : Ref sig .tc := ⟨.vmem, 8, rfl⟩
abbrev cc1_scratch4 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch6 : Ref sig .scVector := ⟨.vmem, 4, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c999424_i32 : BitVec 32 := 999424#32
  ![v1.toNat, 999424]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  ![v1.toNat, 28672]
@[reducible] def k0_t1_loop : Scf.Loop 32 :=
  let c0_i32_17 : BitVec 32 := 0#32
  let c896_i32 : BitVec 32 := 896#32
  let v38 : BitVec 32 := Scalar.addi c0_i32_17 c896_i32
  let c1_i32_18 : BitVec 32 := 1#32
  ⟨c0_i32_17, v38, c1_i32_18⟩
def k0_off4 (k0_t1 : Fin k0_t1_loop.trips) (c0_i32_116 : BitVec 32) : Fin 2 → Nat :=
  let c0_i32_117 : BitVec 32 := 0#32
  let v184 : Index := Scalar.indexCast c0_i32_117
  let c0_i32_17 : BitVec 32 := 0#32
  let c1_i32_18 : BitVec 32 := 1#32
  let arg14 : BitVec 32 := Scf.iv c0_i32_17 c1_i32_18 k0_t1
  let c32_i32 : BitVec 32 := 32#32
  let v182 : BitVec 32 := Scalar.muli arg14 c32_i32
  let v183 : BitVec 32 := Scalar.addi v182 c0_i32_116
  let v185 : Index := Scalar.indexCast v183
  ![0, v185.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c57344_i32 : BitVec 32 := 57344#32
  ![v1.toNat, 57344]
@[reducible] def k0_t2_loop : Scf.Loop 32 :=
  let c0_i32_29 : BitVec 32 := 0#32
  let c896_i32_30 : BitVec 32 := 896#32
  let v56 : BitVec 32 := Scalar.addi c0_i32_29 c896_i32_30
  let c1_i32_31 : BitVec 32 := 1#32
  ⟨c0_i32_29, v56, c1_i32_31⟩
def k0_off6 (k0_t2 : Fin k0_t2_loop.trips) (c0_i32_116 : BitVec 32) : Fin 2 → Nat :=
  let c1_i32_117 : BitVec 32 := 1#32
  let v184 : Index := Scalar.indexCast c1_i32_117
  let c0_i32_29 : BitVec 32 := 0#32
  let c1_i32_31 : BitVec 32 := 1#32
  let arg14 : BitVec 32 := Scf.iv c0_i32_29 c1_i32_31 k0_t2
  let c32_i32 : BitVec 32 := 32#32
  let v182 : BitVec 32 := Scalar.muli arg14 c32_i32
  let v183 : BitVec 32 := Scalar.addi v182 c0_i32_116
  let v185 : Index := Scalar.indexCast v183
  ![1, v185.toNat]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c86016_i32 : BitVec 32 := 86016#32
  ![v1.toNat, 86016]
@[reducible] def k0_t3_loop : Scf.Loop 32 :=
  let c0_i32_42 : BitVec 32 := 0#32
  let c896_i32_43 : BitVec 32 := 896#32
  let v74 : BitVec 32 := Scalar.addi c0_i32_42 c896_i32_43
  let c1_i32_44 : BitVec 32 := 1#32
  ⟨c0_i32_42, v74, c1_i32_44⟩
def k0_off8 (k0_t3 : Fin k0_t3_loop.trips) (c0_i32_116 : BitVec 32) : Fin 2 → Nat :=
  let c0_i32_117 : BitVec 32 := 0#32
  let v184 : Index := Scalar.indexCast c0_i32_117
  let c0_i32_42 : BitVec 32 := 0#32
  let c1_i32_44 : BitVec 32 := 1#32
  let arg14 : BitVec 32 := Scf.iv c0_i32_42 c1_i32_44 k0_t3
  let c32_i32 : BitVec 32 := 32#32
  let v182 : BitVec 32 := Scalar.muli arg14 c32_i32
  let v183 : BitVec 32 := Scalar.addi v182 c0_i32_116
  let v185 : Index := Scalar.indexCast v183
  ![0, v185.toNat]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  ![v1.toNat, 114688]
@[reducible] def k0_t4_loop : Scf.Loop 32 :=
  let c0_i32_55 : BitVec 32 := 0#32
  let c896_i32_56 : BitVec 32 := 896#32
  let v92 : BitVec 32 := Scalar.addi c0_i32_55 c896_i32_56
  let c1_i32_57 : BitVec 32 := 1#32
  ⟨c0_i32_55, v92, c1_i32_57⟩
def k0_off10 (k0_t4 : Fin k0_t4_loop.trips) (c0_i32_116 : BitVec 32) : Fin 2 → Nat :=
  let c1_i32_117 : BitVec 32 := 1#32
  let v184 : Index := Scalar.indexCast c1_i32_117
  let c0_i32_55 : BitVec 32 := 0#32
  let c1_i32_57 : BitVec 32 := 1#32
  let arg14 : BitVec 32 := Scf.iv c0_i32_55 c1_i32_57 k0_t4
  let c32_i32 : BitVec 32 := 32#32
  let v182 : BitVec 32 := Scalar.muli arg14 c32_i32
  let v183 : BitVec 32 := Scalar.addi v182 c0_i32_116
  let v185 : Index := Scalar.indexCast v183
  ![1, v185.toNat]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c143360_i32 : BitVec 32 := 143360#32
  ![v1.toNat, 143360]
@[reducible] def k0_t5_loop : Scf.Loop 32 :=
  let c0_i32_68 : BitVec 32 := 0#32
  let c896_i32_69 : BitVec 32 := 896#32
  let v110 : BitVec 32 := Scalar.addi c0_i32_68 c896_i32_69
  let c1_i32_70 : BitVec 32 := 1#32
  ⟨c0_i32_68, v110, c1_i32_70⟩
def k0_off12 (k0_t5 : Fin k0_t5_loop.trips) (c0_i32_116 : BitVec 32) : Fin 2 → Nat :=
  let c0_i32_117 : BitVec 32 := 0#32
  let v184 : Index := Scalar.indexCast c0_i32_117
  let c0_i32_68 : BitVec 32 := 0#32
  let c1_i32_70 : BitVec 32 := 1#32
  let arg14 : BitVec 32 := Scf.iv c0_i32_68 c1_i32_70 k0_t5
  let c32_i32 : BitVec 32 := 32#32
  let v182 : BitVec 32 := Scalar.muli arg14 c32_i32
  let v183 : BitVec 32 := Scalar.addi v182 c0_i32_116
  let v185 : Index := Scalar.indexCast v183
  ![0, v185.toNat]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c172032_i32 : BitVec 32 := 172032#32
  ![v1.toNat, 172032]
@[reducible] def k0_t6_loop : Scf.Loop 32 :=
  let c0_i32_81 : BitVec 32 := 0#32
  let c896_i32_82 : BitVec 32 := 896#32
  let v128 : BitVec 32 := Scalar.addi c0_i32_81 c896_i32_82
  let c1_i32_83 : BitVec 32 := 1#32
  ⟨c0_i32_81, v128, c1_i32_83⟩
def k0_off14 (k0_t6 : Fin k0_t6_loop.trips) (c0_i32_116 : BitVec 32) : Fin 2 → Nat :=
  let c1_i32_117 : BitVec 32 := 1#32
  let v184 : Index := Scalar.indexCast c1_i32_117
  let c0_i32_81 : BitVec 32 := 0#32
  let c1_i32_83 : BitVec 32 := 1#32
  let arg14 : BitVec 32 := Scf.iv c0_i32_81 c1_i32_83 k0_t6
  let c32_i32 : BitVec 32 := 32#32
  let v182 : BitVec 32 := Scalar.muli arg14 c32_i32
  let v183 : BitVec 32 := Scalar.addi v182 c0_i32_116
  let v185 : Index := Scalar.indexCast v183
  ![1, v185.toNat]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200704_i32 : BitVec 32 := 200704#32
  ![v1.toNat, 200704]
@[reducible] def k0_t7_loop : Scf.Loop 32 :=
  let c0_i32_94 : BitVec 32 := 0#32
  let c896_i32_95 : BitVec 32 := 896#32
  let v146 : BitVec 32 := Scalar.addi c0_i32_94 c896_i32_95
  let c1_i32_96 : BitVec 32 := 1#32
  ⟨c0_i32_94, v146, c1_i32_96⟩
def k0_off16 (k0_t7 : Fin k0_t7_loop.trips) (c0_i32_116 : BitVec 32) : Fin 2 → Nat :=
  let c0_i32_117 : BitVec 32 := 0#32
  let v184 : Index := Scalar.indexCast c0_i32_117
  let c0_i32_94 : BitVec 32 := 0#32
  let c1_i32_96 : BitVec 32 := 1#32
  let arg14 : BitVec 32 := Scf.iv c0_i32_94 c1_i32_96 k0_t7
  let c32_i32 : BitVec 32 := 32#32
  let v182 : BitVec 32 := Scalar.muli arg14 c32_i32
  let v183 : BitVec 32 := Scalar.addi v182 c0_i32_116
  let v185 : Index := Scalar.indexCast v183
  ![0, v185.toNat]
@[reducible] def k0_t8_loop : Scf.Loop 32 :=
  let c0_i32_103 : BitVec 32 := 0#32
  let c896_i32_104 : BitVec 32 := 896#32
  let v156 : BitVec 32 := Scalar.addi c0_i32_103 c896_i32_104
  let c1_i32_105 : BitVec 32 := 1#32
  ⟨c0_i32_103, v156, c1_i32_105⟩
def k0_off17 (k0_t8 : Fin k0_t8_loop.trips) (c0_i32_116 : BitVec 32) : Fin 2 → Nat :=
  let c1_i32_117 : BitVec 32 := 1#32
  let v184 : Index := Scalar.indexCast c1_i32_117
  let c0_i32_103 : BitVec 32 := 0#32
  let c1_i32_105 : BitVec 32 := 1#32
  let arg14 : BitVec 32 := Scf.iv c0_i32_103 c1_i32_105 k0_t8
  let c32_i32 : BitVec 32 := 32#32
  let v182 : BitVec 32 := Scalar.muli arg14 c32_i32
  let v183 : BitVec 32 := Scalar.addi v182 c0_i32_116
  let v185 : Index := Scalar.indexCast v183
  ![1, v185.toNat]
@[reducible] def k0_t9_loop : Scf.Loop 32 :=
  let c0_i32_109 : BitVec 32 := 0#32
  let c18_i32 : BitVec 32 := 18#32
  let v162 : BitVec 32 := Scalar.addi c0_i32_109 c18_i32
  let c1_i32_110 : BitVec 32 := 1#32
  ⟨c0_i32_109, v162, c1_i32_110⟩
def k0_off18 (k0_t9 : Fin k0_t9_loop.trips) (c0_i32_116 : BitVec 32) : Fin 1 → Nat :=
  let c0_i32_109 : BitVec 32 := 0#32
  let c1_i32_110 : BitVec 32 := 1#32
  let arg14 : BitVec 32 := Scf.iv c0_i32_109 c1_i32_110 k0_t9
  let c32_i32 : BitVec 32 := 32#32
  let v182 : BitVec 32 := Scalar.muli arg14 c32_i32
  let v183 : BitVec 32 := Scalar.addi v182 c0_i32_116
  let v184 : Index := Scalar.indexCast v183
  ![v184.toNat]
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_116_r0 : BitVec 32 := 0#32
  ![v1.toNat, 0]
abbrev grid1 : Pipeline.Grid := ⟨1, ![94], ![false]⟩

def k1_cond2 (i : grid1.Coords) : BitVec 1 :=
  let arg0 : BitVec 32 := BitVec.ofNat 32 (i 0).val
  let c93_i32 : BitVec 32 := 93#32
  let v3207 : BitVec 1 := Scalar.cmpi .eq arg0 c93_i32
  let v3208 : BitVec 32 := Scalar.extui v3207
  let c0_i32_958 : BitVec 32 := 0#32
  let v3209 : BitVec 1 := Scalar.cmpi .ne v3208 c0_i32_958
  v3209

def cc1_transform_0 (i : grid1.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩

abbrev nBuf : Space → Nat
  | .hbm => 299
  | .vmem => 0
  | .smem => 0
  | _ => 0

abbrev hbmTy0_0 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S_, .f32⟩
  | 5 => ⟨S32, .f32⟩
  | 6 => ⟨S_, .f32⟩
  | 7 => ⟨S32, .f32⟩
  | 8 => ⟨S32, .f32⟩
  | 9 => ⟨S32x1, .f32⟩
  | 10 => ⟨S32x1000000, .f32⟩
  | 11 => ⟨S32x1000000, .f32⟩
  | 12 => ⟨S32x1000000, .f32⟩
  | 13 => ⟨S_, .f32⟩
  | 14 => ⟨S32, .f32⟩
  | 15 => ⟨S32x1, .f32⟩
  | 16 => ⟨S32x1000000, .f32⟩
  | 17 => ⟨S32x1000000, .f32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S1, .i32⟩
  | 29 => ⟨S_, .i32⟩
  | 30 => ⟨S1, .i32⟩
  | 31 => ⟨S_, .i32⟩
  | 32 => ⟨S32x1000000, .i64⟩
  | 33 => ⟨S32x1000000, .i64⟩
  | 34 => ⟨S_, .i64⟩
  | 35 => ⟨S32x1000000, .i64⟩
  | 36 => ⟨S32x1000000, .i64⟩
  | 37 => ⟨S_, .i64⟩
  | 38 => ⟨S32x1000000, .i64⟩
  | 39 => ⟨S32x1000000, .i64⟩
  | 40 => ⟨S32x1000000, .i64⟩
  | 41 => ⟨S_, .i64⟩
  | 42 => ⟨S32x1000000, .i64⟩
  | 43 => ⟨S32x1000000, .i64⟩
  | 44 => ⟨S32x1000000, .i32⟩
  | 45 => ⟨S32x1000000, .i32⟩
  | 46 => ⟨S_, .i32⟩
  | 47 => ⟨S_, .i32⟩
  | 48 => ⟨S_, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S32x1000000, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S_, .i32⟩
  | _ => ⟨S32x1000000, .f32⟩

abbrev hbmTy0_1 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S32x1000000, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S32x1000000, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S32x1000000, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_2 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S32x1000000, .f32⟩
  | 20 => ⟨S_, .f32⟩
  | 21 => ⟨S32x1000000, .f32⟩
  | 22 => ⟨S32x1000000, .f32⟩
  | 23 => ⟨S_, .f32⟩
  | 24 => ⟨S32x1000000, .f32⟩
  | 25 => ⟨S32x1000000, .f32⟩
  | 26 => ⟨S_, .f32⟩
  | 27 => ⟨S32x1000000, .f32⟩
  | 28 => ⟨S32x1000000, .f32⟩
  | 29 => ⟨S_, .f32⟩
  | 30 => ⟨S32x1000000, .f32⟩
  | 31 => ⟨S32x1000000, .f32⟩
  | 32 => ⟨S32x1000000, .f32⟩
  | 33 => ⟨S32x1000000, .f32⟩
  | 34 => ⟨S32x1000000, .f32⟩
  | 35 => ⟨S32x1000000, .f32⟩
  | 36 => ⟨S32x1000000, .f32⟩
  | 37 => ⟨S32x1000000, .f32⟩
  | 38 => ⟨S32x1000000, .i32⟩
  | 39 => ⟨S_, .f32⟩
  | 40 => ⟨S_, .i32⟩
  | 41 => ⟨S32, .f32⟩
  | 42 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_c_0 : Ref sig .tc := ⟨.hbm, 54, rfl⟩
abbrev main_call0_v7 : Ref sig .tc := ⟨.hbm, 55, rfl⟩
abbrev main_call0_v8 : Ref sig .tc := ⟨.hbm, 56, rfl⟩
abbrev main_call0_c_1 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_c_2 : Ref sig .tc := ⟨.hbm, 63, rfl⟩
abbrev main_call0_v14 : Ref sig .tc := ⟨.hbm, 64, rfl⟩
abbrev main_call0_v15 : Ref sig .tc := ⟨.hbm, 65, rfl⟩
abbrev main_call0_c_3 : Ref sig .tc := ⟨.hbm, 66, rfl⟩
abbrev main_call0_v16 : Ref sig .tc := ⟨.hbm, 67, rfl⟩
abbrev main_call0_v17 : Ref sig .tc := ⟨.hbm, 68, rfl⟩
abbrev main_call0_v18 : Ref sig .tc := ⟨.hbm, 69, rfl⟩
abbrev main_call0_v19 : Ref sig .tc := ⟨.hbm, 70, rfl⟩
abbrev main_call0_v20 : Ref sig .tc := ⟨.hbm, 71, rfl⟩
abbrev main_call0_c_4 : Ref sig .tc := ⟨.hbm, 72, rfl⟩
abbrev main_call0_v21 : Ref sig .tc := ⟨.hbm, 73, rfl⟩
abbrev main_call0_v22 : Ref sig .tc := ⟨.hbm, 74, rfl⟩
abbrev main_call0_c_5 : Ref sig .tc := ⟨.hbm, 75, rfl⟩
abbrev main_call0_v23 : Ref sig .tc := ⟨.hbm, 76, rfl⟩
abbrev main_call0_v24 : Ref sig .tc := ⟨.hbm, 77, rfl⟩
abbrev main_call0_v25 : Ref sig .tc := ⟨.hbm, 78, rfl⟩
abbrev main_call0_v26 : Ref sig .tc := ⟨.hbm, 79, rfl⟩
abbrev main_call0_v27 : Ref sig .tc := ⟨.hbm, 80, rfl⟩
abbrev main_call0_c_6 : Ref sig .tc := ⟨.hbm, 81, rfl⟩
abbrev main_call0_v28 : Ref sig .tc := ⟨.hbm, 82, rfl⟩
abbrev main_call0_v29 : Ref sig .tc := ⟨.hbm, 83, rfl⟩
abbrev main_call0_c_7 : Ref sig .tc := ⟨.hbm, 84, rfl⟩
abbrev main_call0_v30 : Ref sig .tc := ⟨.hbm, 85, rfl⟩
abbrev main_call0_v31 : Ref sig .tc := ⟨.hbm, 86, rfl⟩
abbrev main_call0_v32 : Ref sig .tc := ⟨.hbm, 87, rfl⟩
abbrev main_call0_v33 : Ref sig .tc := ⟨.hbm, 88, rfl⟩
abbrev main_call0_v34 : Ref sig .tc := ⟨.hbm, 89, rfl⟩
abbrev main_call0_v35 : Ref sig .tc := ⟨.hbm, 90, rfl⟩
abbrev main_call0_v36 : Ref sig .tc := ⟨.hbm, 91, rfl⟩
abbrev main_call0_v37 : Ref sig .tc := ⟨.hbm, 92, rfl⟩
abbrev main_call0_c_8 : Ref sig .tc := ⟨.hbm, 93, rfl⟩
abbrev main_call0_v38 : Ref sig .tc := ⟨.hbm, 94, rfl⟩
abbrev main_call0_v39 : Ref sig .tc := ⟨.hbm, 95, rfl⟩
abbrev main_call0_v40 : Ref sig .tc := ⟨.hbm, 96, rfl⟩
abbrev main_call0_c_9 : Ref sig .tc := ⟨.hbm, 97, rfl⟩
abbrev main_call0_v41 : Ref sig .tc := ⟨.hbm, 98, rfl⟩
abbrev main_call0_v42 : Ref sig .tc := ⟨.hbm, 99, rfl⟩
abbrev main_call0_c_10 : Ref sig .tc := ⟨.hbm, 100, rfl⟩
abbrev main_call0_v43 : Ref sig .tc := ⟨.hbm, 101, rfl⟩
abbrev main_call0_v44 : Ref sig .tc := ⟨.hbm, 102, rfl⟩
abbrev main_call0_v45 : Ref sig .tc := ⟨.hbm, 103, rfl⟩
abbrev main_call0_v46 : Ref sig .tc := ⟨.hbm, 104, rfl⟩
abbrev main_call0_v47 : Ref sig .tc := ⟨.hbm, 105, rfl⟩
abbrev main_call0_c_11 : Ref sig .tc := ⟨.hbm, 106, rfl⟩
abbrev main_call0_v48 : Ref sig .tc := ⟨.hbm, 107, rfl⟩
abbrev main_call0_v49 : Ref sig .tc := ⟨.hbm, 108, rfl⟩
abbrev main_call0_c_12 : Ref sig .tc := ⟨.hbm, 109, rfl⟩
abbrev main_call0_v50 : Ref sig .tc := ⟨.hbm, 110, rfl⟩
abbrev main_call0_v51 : Ref sig .tc := ⟨.hbm, 111, rfl⟩
abbrev main_call0_v52 : Ref sig .tc := ⟨.hbm, 112, rfl⟩
abbrev main_call0_v53 : Ref sig .tc := ⟨.hbm, 113, rfl⟩
abbrev main_call0_v54 : Ref sig .tc := ⟨.hbm, 114, rfl⟩
abbrev main_call0_c_13 : Ref sig .tc := ⟨.hbm, 115, rfl⟩
abbrev main_call0_v55 : Ref sig .tc := ⟨.hbm, 116, rfl⟩
abbrev main_call0_v56 : Ref sig .tc := ⟨.hbm, 117, rfl⟩
abbrev main_call0_c_14 : Ref sig .tc := ⟨.hbm, 118, rfl⟩
abbrev main_call0_v57 : Ref sig .tc := ⟨.hbm, 119, rfl⟩
abbrev main_call0_v58 : Ref sig .tc := ⟨.hbm, 120, rfl⟩
abbrev main_call0_v59 : Ref sig .tc := ⟨.hbm, 121, rfl⟩
abbrev main_call0_v60 : Ref sig .tc := ⟨.hbm, 122, rfl⟩
abbrev main_call0_v61 : Ref sig .tc := ⟨.hbm, 123, rfl⟩
abbrev main_call0_c_15 : Ref sig .tc := ⟨.hbm, 124, rfl⟩
abbrev main_call0_v62 : Ref sig .tc := ⟨.hbm, 125, rfl⟩
abbrev main_call0_v63 : Ref sig .tc := ⟨.hbm, 126, rfl⟩
abbrev main_call0_c_16 : Ref sig .tc := ⟨.hbm, 127, rfl⟩
abbrev main_call0_v64 : Ref sig .tc := ⟨.hbm, 128, rfl⟩
abbrev main_call0_v65 : Ref sig .tc := ⟨.hbm, 129, rfl⟩
abbrev main_call0_v66 : Ref sig .tc := ⟨.hbm, 130, rfl⟩
abbrev main_call0_v67 : Ref sig .tc := ⟨.hbm, 131, rfl⟩
abbrev main_call0_v68 : Ref sig .tc := ⟨.hbm, 132, rfl⟩
abbrev main_call0_v69 : Ref sig .tc := ⟨.hbm, 133, rfl⟩
abbrev main_call0_v70 : Ref sig .tc := ⟨.hbm, 134, rfl⟩
abbrev main_call0_v71 : Ref sig .tc := ⟨.hbm, 135, rfl⟩
abbrev main_call0_c_17 : Ref sig .tc := ⟨.hbm, 136, rfl⟩
abbrev main_call0_v72 : Ref sig .tc := ⟨.hbm, 137, rfl⟩
abbrev main_call0_v73 : Ref sig .tc := ⟨.hbm, 138, rfl⟩
abbrev main_call0_v74 : Ref sig .tc := ⟨.hbm, 139, rfl⟩
abbrev main_call0_c_18 : Ref sig .tc := ⟨.hbm, 140, rfl⟩
abbrev main_call0_v75 : Ref sig .tc := ⟨.hbm, 141, rfl⟩
abbrev main_call0_v76 : Ref sig .tc := ⟨.hbm, 142, rfl⟩
abbrev main_call0_c_19 : Ref sig .tc := ⟨.hbm, 143, rfl⟩
abbrev main_call0_v77 : Ref sig .tc := ⟨.hbm, 144, rfl⟩
abbrev main_call0_v78 : Ref sig .tc := ⟨.hbm, 145, rfl⟩
abbrev main_call0_v79 : Ref sig .tc := ⟨.hbm, 146, rfl⟩
abbrev main_call0_v80 : Ref sig .tc := ⟨.hbm, 147, rfl⟩
abbrev main_call0_v81 : Ref sig .tc := ⟨.hbm, 148, rfl⟩
abbrev main_call0_c_20 : Ref sig .tc := ⟨.hbm, 149, rfl⟩
abbrev main_call0_v82 : Ref sig .tc := ⟨.hbm, 150, rfl⟩
abbrev main_call0_v83 : Ref sig .tc := ⟨.hbm, 151, rfl⟩
abbrev main_call0_c_21 : Ref sig .tc := ⟨.hbm, 152, rfl⟩
abbrev main_call0_v84 : Ref sig .tc := ⟨.hbm, 153, rfl⟩
abbrev main_call0_v85 : Ref sig .tc := ⟨.hbm, 154, rfl⟩
abbrev main_call0_v86 : Ref sig .tc := ⟨.hbm, 155, rfl⟩
abbrev main_call0_v87 : Ref sig .tc := ⟨.hbm, 156, rfl⟩
abbrev main_call0_v88 : Ref sig .tc := ⟨.hbm, 157, rfl⟩
abbrev main_call0_c_22 : Ref sig .tc := ⟨.hbm, 158, rfl⟩
abbrev main_call0_v89 : Ref sig .tc := ⟨.hbm, 159, rfl⟩
abbrev main_call0_v90 : Ref sig .tc := ⟨.hbm, 160, rfl⟩
abbrev main_call0_c_23 : Ref sig .tc := ⟨.hbm, 161, rfl⟩
abbrev main_call0_v91 : Ref sig .tc := ⟨.hbm, 162, rfl⟩
abbrev main_call0_v92 : Ref sig .tc := ⟨.hbm, 163, rfl⟩
abbrev main_call0_v93 : Ref sig .tc := ⟨.hbm, 164, rfl⟩
abbrev main_call0_v94 : Ref sig .tc := ⟨.hbm, 165, rfl⟩
abbrev main_call0_v95 : Ref sig .tc := ⟨.hbm, 166, rfl⟩
abbrev main_call0_c_24 : Ref sig .tc := ⟨.hbm, 167, rfl⟩
abbrev main_call0_v96 : Ref sig .tc := ⟨.hbm, 168, rfl⟩
abbrev main_call0_v97 : Ref sig .tc := ⟨.hbm, 169, rfl⟩
abbrev main_call0_c_25 : Ref sig .tc := ⟨.hbm, 170, rfl⟩
abbrev main_call0_v98 : Ref sig .tc := ⟨.hbm, 171, rfl⟩
abbrev main_call0_v99 : Ref sig .tc := ⟨.hbm, 172, rfl⟩
abbrev main_call0_v100 : Ref sig .tc := ⟨.hbm, 173, rfl⟩
abbrev main_call0_v101 : Ref sig .tc := ⟨.hbm, 174, rfl⟩
abbrev main_call0_v102 : Ref sig .tc := ⟨.hbm, 175, rfl⟩
abbrev main_call0_v103 : Ref sig .tc := ⟨.hbm, 176, rfl⟩
abbrev main_call0_v104 : Ref sig .tc := ⟨.hbm, 177, rfl⟩
abbrev main_call0_v105 : Ref sig .tc := ⟨.hbm, 178, rfl⟩
abbrev main_call0_c_26 : Ref sig .tc := ⟨.hbm, 179, rfl⟩
abbrev main_call0_v106 : Ref sig .tc := ⟨.hbm, 180, rfl⟩
abbrev main_call0_v107 : Ref sig .tc := ⟨.hbm, 181, rfl⟩
abbrev main_call0_v108 : Ref sig .tc := ⟨.hbm, 182, rfl⟩
abbrev main_call0_c_27 : Ref sig .tc := ⟨.hbm, 183, rfl⟩
abbrev main_call0_v109 : Ref sig .tc := ⟨.hbm, 184, rfl⟩
abbrev main_call0_v110 : Ref sig .tc := ⟨.hbm, 185, rfl⟩
abbrev main_call0_c_28 : Ref sig .tc := ⟨.hbm, 186, rfl⟩
abbrev main_call0_v111 : Ref sig .tc := ⟨.hbm, 187, rfl⟩
abbrev main_call0_v112 : Ref sig .tc := ⟨.hbm, 188, rfl⟩
abbrev main_call0_v113 : Ref sig .tc := ⟨.hbm, 189, rfl⟩
abbrev main_call0_v114 : Ref sig .tc := ⟨.hbm, 190, rfl⟩
abbrev main_call0_v115 : Ref sig .tc := ⟨.hbm, 191, rfl⟩
abbrev main_call0_c_29 : Ref sig .tc := ⟨.hbm, 192, rfl⟩
abbrev main_call0_v116 : Ref sig .tc := ⟨.hbm, 193, rfl⟩
abbrev main_call0_v117 : Ref sig .tc := ⟨.hbm, 194, rfl⟩
abbrev main_call0_c_30 : Ref sig .tc := ⟨.hbm, 195, rfl⟩
abbrev main_call0_v118 : Ref sig .tc := ⟨.hbm, 196, rfl⟩
abbrev main_call0_v119 : Ref sig .tc := ⟨.hbm, 197, rfl⟩
abbrev main_call0_v120 : Ref sig .tc := ⟨.hbm, 198, rfl⟩
abbrev main_call0_v121 : Ref sig .tc := ⟨.hbm, 199, rfl⟩
abbrev main_call0_v122 : Ref sig .tc := ⟨.hbm, 200, rfl⟩
abbrev main_call0_c_31 : Ref sig .tc := ⟨.hbm, 201, rfl⟩
abbrev main_call0_v123 : Ref sig .tc := ⟨.hbm, 202, rfl⟩
abbrev main_call0_v124 : Ref sig .tc := ⟨.hbm, 203, rfl⟩
abbrev main_call0_c_32 : Ref sig .tc := ⟨.hbm, 204, rfl⟩
abbrev main_call0_v125 : Ref sig .tc := ⟨.hbm, 205, rfl⟩
abbrev main_call0_v126 : Ref sig .tc := ⟨.hbm, 206, rfl⟩
abbrev main_call0_v127 : Ref sig .tc := ⟨.hbm, 207, rfl⟩
abbrev main_call0_v128 : Ref sig .tc := ⟨.hbm, 208, rfl⟩
abbrev main_call0_v129 : Ref sig .tc := ⟨.hbm, 209, rfl⟩
abbrev main_call0_c_33 : Ref sig .tc := ⟨.hbm, 210, rfl⟩
abbrev main_call0_v130 : Ref sig .tc := ⟨.hbm, 211, rfl⟩
abbrev main_call0_v131 : Ref sig .tc := ⟨.hbm, 212, rfl⟩
abbrev main_call0_c_34 : Ref sig .tc := ⟨.hbm, 213, rfl⟩
abbrev main_call0_v132 : Ref sig .tc := ⟨.hbm, 214, rfl⟩
abbrev main_call0_v133 : Ref sig .tc := ⟨.hbm, 215, rfl⟩
abbrev main_call0_v134 : Ref sig .tc := ⟨.hbm, 216, rfl⟩
abbrev main_call0_v135 : Ref sig .tc := ⟨.hbm, 217, rfl⟩
abbrev main_call0_v136 : Ref sig .tc := ⟨.hbm, 218, rfl⟩
abbrev main_call0_v137 : Ref sig .tc := ⟨.hbm, 219, rfl⟩
abbrev main_call0_v138 : Ref sig .tc := ⟨.hbm, 220, rfl⟩
abbrev main_call0_v139 : Ref sig .tc := ⟨.hbm, 221, rfl⟩
abbrev main_call0_c_35 : Ref sig .tc := ⟨.hbm, 222, rfl⟩
abbrev main_call0_v140 : Ref sig .tc := ⟨.hbm, 223, rfl⟩
abbrev main_call0_v141 : Ref sig .tc := ⟨.hbm, 224, rfl⟩
abbrev main_call0_v142 : Ref sig .tc := ⟨.hbm, 225, rfl⟩
abbrev main_call0_c_36 : Ref sig .tc := ⟨.hbm, 226, rfl⟩
abbrev main_call0_v143 : Ref sig .tc := ⟨.hbm, 227, rfl⟩
abbrev main_call0_v144 : Ref sig .tc := ⟨.hbm, 228, rfl⟩
abbrev main_call0_c_37 : Ref sig .tc := ⟨.hbm, 229, rfl⟩
abbrev main_call0_v145 : Ref sig .tc := ⟨.hbm, 230, rfl⟩
abbrev main_call0_v146 : Ref sig .tc := ⟨.hbm, 231, rfl⟩
abbrev main_call0_v147 : Ref sig .tc := ⟨.hbm, 232, rfl⟩
abbrev main_call0_v148 : Ref sig .tc := ⟨.hbm, 233, rfl⟩
abbrev main_call0_v149 : Ref sig .tc := ⟨.hbm, 234, rfl⟩
abbrev main_call0_c_38 : Ref sig .tc := ⟨.hbm, 235, rfl⟩
abbrev main_call0_v150 : Ref sig .tc := ⟨.hbm, 236, rfl⟩
abbrev main_call0_v151 : Ref sig .tc := ⟨.hbm, 237, rfl⟩
abbrev main_call0_c_39 : Ref sig .tc := ⟨.hbm, 238, rfl⟩
abbrev main_call0_v152 : Ref sig .tc := ⟨.hbm, 239, rfl⟩
abbrev main_call0_v153 : Ref sig .tc := ⟨.hbm, 240, rfl⟩
abbrev main_call0_v154 : Ref sig .tc := ⟨.hbm, 241, rfl⟩
abbrev main_call0_v155 : Ref sig .tc := ⟨.hbm, 242, rfl⟩
abbrev main_call0_v156 : Ref sig .tc := ⟨.hbm, 243, rfl⟩
abbrev main_call0_c_40 : Ref sig .tc := ⟨.hbm, 244, rfl⟩
abbrev main_call0_v157 : Ref sig .tc := ⟨.hbm, 245, rfl⟩
abbrev main_call0_v158 : Ref sig .tc := ⟨.hbm, 246, rfl⟩
abbrev main_call0_c_41 : Ref sig .tc := ⟨.hbm, 247, rfl⟩
abbrev main_call0_v159 : Ref sig .tc := ⟨.hbm, 248, rfl⟩
abbrev main_call0_v160 : Ref sig .tc := ⟨.hbm, 249, rfl⟩
abbrev main_call0_v161 : Ref sig .tc := ⟨.hbm, 250, rfl⟩
abbrev main_call0_v162 : Ref sig .tc := ⟨.hbm, 251, rfl⟩
abbrev main_call0_v163 : Ref sig .tc := ⟨.hbm, 252, rfl⟩
abbrev main_call0_c_42 : Ref sig .tc := ⟨.hbm, 253, rfl⟩
abbrev main_call0_v164 : Ref sig .tc := ⟨.hbm, 254, rfl⟩
abbrev main_call0_v165 : Ref sig .tc := ⟨.hbm, 255, rfl⟩
abbrev main_call0_c_43 : Ref sig .tc := ⟨.hbm, 256, rfl⟩
abbrev main_call0_v166 : Ref sig .tc := ⟨.hbm, 257, rfl⟩
abbrev main_call0_v167 : Ref sig .tc := ⟨.hbm, 258, rfl⟩
abbrev main_call0_v168 : Ref sig .tc := ⟨.hbm, 259, rfl⟩
abbrev main_call0_v169 : Ref sig .tc := ⟨.hbm, 260, rfl⟩
abbrev main_call0_v170 : Ref sig .tc := ⟨.hbm, 261, rfl⟩
abbrev main_v35_0 : Ref sig .tc := ⟨.hbm, 262, rfl⟩
abbrev main_call0_v172 : Ref sig .tc := ⟨.hbm, 263, rfl⟩
abbrev main_call0_v173 : Ref sig .tc := ⟨.hbm, 264, rfl⟩
abbrev main_call0_c_44 : Ref sig .tc := ⟨.hbm, 265, rfl⟩
abbrev main_call0_v174 : Ref sig .tc := ⟨.hbm, 266, rfl⟩
abbrev main_v35_1 : Ref sig .tc := ⟨.hbm, 267, rfl⟩
abbrev main_v36 : Ref sig .tc := ⟨.hbm, 268, rfl⟩
abbrev main_c_8 : Ref sig .tc := ⟨.hbm, 269, rfl⟩
abbrev main_v37 : Ref sig .tc := ⟨.hbm, 270, rfl⟩
abbrev main_v38 : Ref sig .tc := ⟨.hbm, 271, rfl⟩
abbrev main_c_9 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_cst_10 : Ref sig .tc := ⟨.hbm, 276, rfl⟩
abbrev main_v42 : Ref sig .tc := ⟨.hbm, 277, rfl⟩
abbrev main_v43 : Ref sig .tc := ⟨.hbm, 278, rfl⟩
abbrev main_cst_11 : Ref sig .tc := ⟨.hbm, 279, rfl⟩
abbrev main_v44 : Ref sig .tc := ⟨.hbm, 280, rfl⟩
abbrev main_v45 : Ref sig .tc := ⟨.hbm, 281, rfl⟩
abbrev main_cst_12 : Ref sig .tc := ⟨.hbm, 282, rfl⟩
abbrev main_v46 : Ref sig .tc := ⟨.hbm, 283, rfl⟩
abbrev main_v47 : Ref sig .tc := ⟨.hbm, 284, rfl⟩
abbrev main_cst_13 : Ref sig .tc := ⟨.hbm, 285, rfl⟩
abbrev main_v48 : Ref sig .tc := ⟨.hbm, 286, rfl⟩
abbrev main_v49 : Ref sig .tc := ⟨.hbm, 287, rfl⟩
abbrev main_v50 : Ref sig .tc := ⟨.hbm, 288, rfl⟩
abbrev main_v51 : Ref sig .tc := ⟨.hbm, 289, rfl⟩
abbrev main_v52 : Ref sig .tc := ⟨.hbm, 290, rfl⟩
abbrev main_v53 : Ref sig .tc := ⟨.hbm, 291, rfl⟩
abbrev main_v54 : Ref sig .tc := ⟨.hbm, 292, rfl⟩
abbrev main_v55 : Ref sig .tc := ⟨.hbm, 293, rfl⟩
abbrev main_call1_v0 : Ref sig .tc := ⟨.hbm, 294, rfl⟩
abbrev main_call1_cst : Ref sig .tc := ⟨.hbm, 295, rfl⟩
abbrev main_call1_c : Ref sig .tc := ⟨.hbm, 296, rfl⟩
abbrev main_call1_v1_0 : Ref sig .tc := ⟨.hbm, 297, rfl⟩
abbrev main_v56 : Ref sig .tc := ⟨.hbm, 298, rfl⟩

abbrev nD : Nat := 1
abbrev τ : Topo := Topo.v7x

variable {F : FTy → Type} [FloatOps F]
-- ==== Proof.Lane.lean ====
/- One lane's running record, and what one column does to it. Both calls of the kernel keep, on every
   lane, the largest logit seen, the rescaled sum of exponentials, and the best candidate so far; the
   random word of a column comes from twenty threefry rounds. -/
module

public import proofs.«01_k».proof.Proof.Gen.KernelIdeal.Skeleton

@[expose] public section

set_option synthInstance.maxSize 4096

noncomputable section

namespace Cert.Proof

open Idealize.ShloMosaic Idealize.SL.Sem

variable {F : FTy → Type} [FloatOps F]

/-- `x` rotated left by `r`, where `r' = 32 - r`. -/
def rotl (r r' x : BitVec 32) : BitVec 32 := IntOp.ori (IntOp.shli .vector x r) (IntOp.shrui .vector x r')

/-- One mixing round of threefry. -/
def mix (r r' : BitVec 32) (p : BitVec 32 × BitVec 32) : BitVec 32 × BitVec 32 :=
  (IntOp.addi p.1 p.2, IntOp.xori (rotl r r' p.2) (IntOp.addi p.1 p.2))

/-- The key's words added after four rounds. -/
def inject (a b : BitVec 32) (p : BitVec 32 × BitVec 32) : BitVec 32 × BitVec 32 :=
  (IntOp.addi p.1 a, IntOp.addi p.2 b)

/-- Four rounds with the first rotations. -/
def mixA (p : BitVec 32 × BitVec 32) : BitVec 32 × BitVec 32 :=
  mix 6#32 26#32 (mix 26#32 6#32 (mix 15#32 17#32 (mix 13#32 19#32 p)))

/-- Four rounds with the second rotations. -/
def mixB (p : BitVec 32 × BitVec 32) : BitVec 32 × BitVec 32 :=
  mix 24#32 8#32 (mix 16#32 16#32 (mix 29#32 3#32 (mix 17#32 15#32 p)))

/-- The first four rounds as the kernel runs them: the first word starts as zero, so the first sum is
    the counter itself. -/
def mixA0 (c : BitVec 32) : BitVec 32 × BitVec 32 :=
  mix 6#32 26#32 (mix 26#32 6#32 (mix 15#32 17#32 (c, IntOp.xori (rotl 13#32 19#32 c) c)))

/-- The two words after twenty rounds, from the counter `c` (the key's second word already added). -/
def rounds (c : BitVec 32) : BitVec 32 × BitVec 32 :=
  inject 466689008#32 5#32 (mixA (inject 42#32 466689012#32 (mixB (inject 0#32 45#32 (mixA
    (inject 466689008#32 2#32 (mixB (inject 42#32 466689009#32 (mixA0 c)))))))))

/-- The random word of counter `c`. -/
def word (c : BitVec 32) : BitVec 32 := IntOp.xori (rounds c).1 (rounds c).2

/-- The uniform number in `[1, 2)` that a random word gives, less one. -/
def unitOf (b : BitVec 32) : F .f32 :=
  FloatOps.subf (FloatOps.ofBits .f32 (IntOp.ori (IntOp.shrui .vector b 9#32) 1065353216#32))
    (FloatOps.ofBits .f32 0x3F800000#32)

/-- The logarithm of the uniform number of counter `c`. -/
def logU (c : BitVec 32) : F .f32 :=
  FloatOps.log (FloatOps.maximumf (FloatOps.ofBits .f32 0x00800000#32)
    (FloatOps.addf (unitOf (word c)) (FloatOps.ofBits .f32 0x00800000#32)))

/-- A lane's record: the largest logit, the sum of exponentials relative to it, the candidate's
    exponential relative to it, the candidate's log-uniform, and its column. -/
@[ext] structure Acc (F : FTy → Type) where
  m : F .f32
  z : F .f32
  t : F .f32
  w : F .f32
  i : BitVec 32

/-- Whether a column of logit `x` and log-uniform `w` beats the candidate. -/
def Acc.better (a : Acc F) (x w : F .f32) : BitVec 1 :=
  FloatOps.cmpf .olt
    (FloatOps.mulf (FloatOps.exp (FloatOps.subf x (FloatOps.maximumf a.m x))) a.w)
    (FloatOps.mulf (FloatOps.mulf a.t (FloatOps.exp (FloatOps.subf a.m (FloatOps.maximumf a.m x)))) w)

/-- What one column does to a lane's record. -/
def Acc.upd (a : Acc F) (x w : F .f32) (col : BitVec 32) : Acc F where
  m := FloatOps.maximumf a.m x
  z := FloatOps.addf (FloatOps.mulf a.z (FloatOps.exp (FloatOps.subf a.m (FloatOps.maximumf a.m x))))
    (FloatOps.exp (FloatOps.subf x (FloatOps.maximumf a.m x)))
  t := Scalar.select (a.better x w) (FloatOps.exp (FloatOps.subf x (FloatOps.maximumf a.m x)))
    (FloatOps.mulf a.t (FloatOps.exp (FloatOps.subf a.m (FloatOps.maximumf a.m x))))
  w := Scalar.select (a.better x w) w a.w
  i := Scalar.select (a.better x w) col a.i

/-- What the column `col`, whose counter is `ctr` and whose logit is `x`, does to a lane's record. -/
def Acc.step (a : Acc F) (x : F .f32) (ctr col : BitVec 32) : Acc F := a.upd x (logU ctr) col

end Cert.Proof
-- ==== Proof.TcStep.lean ====
/- The TensorCore kernel's body: at each grid point sixteen groups of 512 columns update the 512 lanes'
   records, which five scratch buffers carry from point to point. -/
module

public import proofs.«01_k».proof.Proof.Lane

@[expose] public section

set_option synthInstance.maxSize 4096
set_option maxRecDepth 65536

noncomputable section

namespace Cert.Proof

open Idealize.ShloMosaic Idealize.SL.Sem
open Cert.KernelIdeal Cert.KernelIdeal.Gen

variable {F : FTy → Type} [FloatOps F]

/-- A vector of 32-bit words, one a lane. -/
abbrev IV : Type := IVec S32x512 32

/-- The record of every lane of every row. -/
structure TAcc (F : FTy → Type) where
  m : FVec F S32x512 .f32
  z : FVec F S32x512 .f32
  t : FVec F S32x512 .f32
  w : FVec F S32x512 .f32
  i : IV

/-- One lane's record. -/
def TAcc.at (s : TAcc F) (j : S32x512.Idx) : Acc F := ⟨s.m j, s.z j, s.t j, s.w j, s.i j⟩

/-- The same word on every lane. -/
abbrev vc (c : BitVec 32) : IV := broadcast S32x512 c

/-- Lanes' words rotated left. -/
def vrotl (r r' : BitVec 32) (x : IV) : IV := ori (shli x (vc r)) (shrui x (vc r'))

/-- One mixing round on every lane. -/
def vmix (r r' : BitVec 32) (p : IV × IV) : IV × IV :=
  (addi p.1 p.2, xori (vrotl r r' p.2) (addi p.1 p.2))

/-- The key's words added on every lane. -/
def vinject (a b : BitVec 32) (p : IV × IV) : IV × IV := (addi p.1 (vc a), addi p.2 (vc b))

/-- Four rounds with the first rotations, on every lane. -/
def vmixA (p : IV × IV) : IV × IV := vmix 6#32 26#32 (vmix 26#32 6#32 (vmix 15#32 17#32 (vmix 13#32 19#32 p)))

/-- Four rounds with the second rotations, on every lane. -/
def vmixB (p : IV × IV) : IV × IV := vmix 24#32 8#32 (vmix 16#32 16#32 (vmix 29#32 3#32 (vmix 17#32 15#32 p)))

/-- The first four rounds on every lane. -/
def vmixA0 (c : IV) : IV × IV :=
  vmix 6#32 26#32 (vmix 26#32 6#32 (vmix 15#32 17#32 (c, xori (vrotl 13#32 19#32 c) c)))

/-- The two words after twenty rounds, on every lane. -/
def vrounds (c : IV) : IV × IV :=
  vinject 466689008#32 5#32 (vmixA (vinject 42#32 466689012#32 (vmixB (vinject 0#32 45#32 (vmixA
    (vinject 466689008#32 2#32 (vmixB (vinject 42#32 466689009#32 (vmixA0 c)))))))))

/-- The logarithm of the uniform number on every lane. -/
def vlogU (c : IV) : FVec F S32x512 .f32 :=
  log (maximumf (broadcast S32x512 (Scalar.ofBits .f32 0x00800000#32))
    (addf (subf (bitcastToFloat .f32 (ori (shrui (xori (vrounds c).1 (vrounds c).2) (vc 9#32)) (vc 1065353216#32)))
      (broadcast S32x512 (Scalar.ofBits .f32 0x3F800000#32))) (broadcast S32x512 (Scalar.ofBits .f32 0x00800000#32))))

/-- The columns of group `k` at the grid point, lane by lane. -/
def vcol (i : grid1.Coords) (k : BitVec 32) : IV :=
  addi (vc (Scalar.addi (Scalar.addi 229376#32 (Scalar.muli (BitVec.ofNat 32 (i 0).val) 8192#32)) k))
    (iota .tc S32x512 32 [1] iota_S32x512_d1_w32)

/-- Their counters. -/
def vctr (col : IV) : IV :=
  addi (addi (muli (iota .tc S32x512 32 [0] iota_S32x512_d0_w32) (vc 1000000#32)) col) (vc 42#32)

/-- Whether each lane's column beats its candidate. -/
def TAcc.better (s : TAcc F) (x w : FVec F S32x512 .f32) : IVec S32x512 1 :=
  cmpf .olt (mulf (exp (subf x (maximumf s.m x))) s.w) (mulf (mulf s.t (exp (subf s.m (maximumf s.m x)))) w)

/-- What one group of columns does to the records. -/
def TAcc.upd (s : TAcc F) (x w : FVec F S32x512 .f32) (col : IV) : TAcc F where
  m := maximumf s.m x
  z := addf (mulf s.z (exp (subf s.m (maximumf s.m x)))) (exp (subf x (maximumf s.m x)))
  t := select (s.better x w) (exp (subf x (maximumf s.m x))) (mulf s.t (exp (subf s.m (maximumf s.m x))))
  w := select (s.better x w) w s.w
  i := select (s.better x w) col s.i

/-- What group `k` at the grid point does to the records. -/
def TAcc.step (i : grid1.Coords) (k : BitVec 32) (s : TAcc F) (x : FVec F S32x512 .f32) : TAcc F :=
  s.upd x (vlogU (vctr (vcol i k))) (vcol i k)

/-- Lane by lane the group's update is a column's. -/
theorem TAcc.step_at (i : grid1.Coords) (k : BitVec 32) (s : TAcc F) (x : FVec F S32x512 .f32) (j : S32x512.Idx) :
    (TAcc.step i k s x).at j = (s.at j).step (x j) (vctr (vcol i k) j) (vcol i k j) := rfl

/-- The body, the updates written out. -/
def tcProg (i : grid1.Coords) (arg1 : Memref sig .tc .vmem S32x8192 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .i32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .i32) (harg9 : arg9.IsWhole) :
    Prog (TpuEff nD τ sig (Elt F) Λ₀ .tc) PUnit := do
  if _h : Scalar.cmpi .ne (Scalar.extui (Scalar.cmpi .eq (BitVec.ofNat 32 (i 0).val) 0#32) : BitVec 32) 0#32 = 1#1 then do
    let _ : Vec F S32x512 .f32 ← Prog.lift (.load arg5 (Rect.unit (s := S32x512) ![0, 0] S32x512.size inb_S32x512_S32x512_0_0).toLoadRect (View.loadsAt_vmem h_S32x512))
    Prog.lift (.store arg5 (Rect.unit (s := S32x512) ![0, 0] S32x512.size inb_S32x512_S32x512_0_0) (shapeCast S32x512 (broadcast S32x512 (Scalar.ofBits .f32 0xFF800000#32)) shapeCasts_S32x512_S32x512) Finset.univ (View.stores_vmem_bits_univ h_S32x512 rfl) (.inl rfl))
    let _ : Vec F S32x512 .f32 ← Prog.lift (.load arg6 (Rect.unit (s := S32x512) ![0, 0] S32x512.size inb_S32x512_S32x512_0_0).toLoadRect (View.loadsAt_vmem h_S32x512))
    Prog.lift (.store arg6 (Rect.unit (s := S32x512) ![0, 0] S32x512.size inb_S32x512_S32x512_0_0) (shapeCast S32x512 (broadcast S32x512 (Scalar.ofBits .f32 0x00000000#32)) shapeCasts_S32x512_S32x512) Finset.univ (View.stores_vmem_bits_univ h_S32x512 rfl) (.inl rfl))
    let _ : Vec F S32x512 .f32 ← Prog.lift (.load arg7 (Rect.unit (s := S32x512) ![0, 0] S32x512.size inb_S32x512_S32x512_0_0).toLoadRect (View.loadsAt_vmem h_S32x512))
    Prog.lift (.store arg7 (Rect.unit (s := S32x512) ![0, 0] S32x512.size inb_S32x512_S32x512_0_0) (shapeCast S32x512 (broadcast S32x512 (Scalar.ofBits .f32 0x00000000#32)) shapeCasts_S32x512_S32x512) Finset.univ (View.stores_vmem_bits_univ h_S32x512 rfl) (.inl rfl))
    let _ : Vec F S32x512 .f32 ← Prog.lift (.load arg8 (Rect.unit (s := S32x512) ![0, 0] S32x512.size inb_S32x512_S32x512_0_0).toLoadRect (View.loadsAt_vmem h_S32x512))
    Prog.lift (.store arg8 (Rect.unit (s := S32x512) ![0, 0] S32x512.size inb_S32x512_S32x512_0_0) (shapeCast S32x512 (broadcast S32x512 (Scalar.ofBits .f32 0xBF800000#32)) shapeCasts_S32x512_S32x512) Finset.univ (View.stores_vmem_bits_univ h_S32x512 rfl) (.inl rfl))
    let _ : Vec F S32x512 .i32 ← Prog.lift (.load arg9 (Rect.unit (s := S32x512) ![0, 0] S32x512.size inb_S32x512_S32x512_0_0).toLoadRect (View.loadsAt_vmem h_S32x512))
    Prog.lift (.store arg9 (Rect.unit (s := S32x512) ![0, 0] S32x512.size inb_S32x512_S32x512_0_0) (shapeCast S32x512 (vc 0#32) shapeCasts_S32x512_S32x512) Finset.univ (View.stores_vmem_bits_univ h_S32x512 rfl) (.inl rfl))
    pure ⟨⟩
  else do
    pure ⟨⟩
  let m : Vec F S32x512 .f32 ← Prog.lift (.load arg5 (Rect.unit (s := S32x512) ![0, 0] S32x512.size inb_S32x512_S32x512_0_0).toLoadRect (View.loadsAt_vmem h_S32x512))
  let z : Vec F S32x512 .f32 ← Prog.lift (.load arg6 (Rect.unit (s := S32x512) ![0, 0] S32x512.size inb_S32x512_S32x512_0_0).toLoadRect (View.loadsAt_vmem h_S32x512))
  let t : Vec F S32x512 .f32 ← Prog.lift (.load arg7 (Rect.unit (s := S32x512) ![0, 0] S32x512.size inb_S32x512_S32x512_0_0).toLoadRect (View.loadsAt_vmem h_S32x512))
  let w : Vec F S32x512 .f32 ← Prog.lift (.load arg8 (Rect.unit (s := S32x512) ![0, 0] S32x512.size inb_S32x512_S32x512_0_0).toLoadRect (View.loadsAt_vmem h_S32x512))
  let ix : Vec F S32x512 .i32 ← Prog.lift (.load arg9 (Rect.unit (s := S32x512) ![0, 0] S32x512.size inb_S32x512_S32x512_0_0).toLoadRect (View.loadsAt_vmem h_S32x512))
  let x0 : Vec F S32x512 .f32 ← Prog.lift (.load arg1 (Rect.unit (s := S32x8192) ![0, 0] S32x512.size inb_S32x8192_S32x512_0_0).toLoadRect (View.loadsAt_vmem h_S32x512))
  let x1 : Vec F S32x512 .f32 ← Prog.lift (.load arg1 (Rect.unit (s := S32x8192) ![0, 512] S32x512.size inb_S32x8192_S32x512_0_512).toLoadRect (View.loadsAt_vmem h_S32x512))
  let x2 : Vec F S32x512 .f32 ← Prog.lift (.load arg1 (Rect.unit (s := S32x8192) ![0, 1024] S32x512.size inb_S32x8192_S32x512_0_1024).toLoadRect (View.loadsAt_vmem h_S32x512))
  let x3 : Vec F S32x512 .f32 ← Prog.lift (.load arg1 (Rect.unit (s := S32x8192) ![0, 1536] S32x512.size inb_S32x8192_S32x512_0_1536).toLoadRect (View.loadsAt_vmem h_S32x512))
  let x4 : Vec F S32x512 .f32 ← Prog.lift (.load arg1 (Rect.unit (s := S32x8192) ![0, 2048] S32x512.size inb_S32x8192_S32x512_0_2048).toLoadRect (View.loadsAt_vmem h_S32x512))
  let x5 : Vec F S32x512 .f32 ← Prog.lift (.load arg1 (Rect.unit (s := S32x8192) ![0, 2560] S32x512.size inb_S32x8192_S32x512_0_2560).toLoadRect (View.loadsAt_vmem h_S32x512))
  let x6 : Vec F S32x512 .f32 ← Prog.lift (.load arg1 (Rect.unit (s := S32x8192) ![0, 3072] S32x512.size inb_S32x8192_S32x512_0_3072).toLoadRect (View.loadsAt_vmem h_S32x512))
  let x7 : Vec F S32x512 .f32 ← Prog.lift (.load arg1 (Rect.unit (s := S32x8192) ![0, 3584] S32x512.size inb_S32x8192_S32x512_0_3584).toLoadRect (View.loadsAt_vmem h_S32x512))
  let x8 : Vec F S32x512 .f32 ← Prog.lift (.load arg1 (Rect.unit (s := S32x8192) ![0, 4096] S32x512.size inb_S32x8192_S32x512_0_4096).toLoadRect (View.loadsAt_vmem h_S32x512))
  let x9 : Vec F S32x512 .f32 ← Prog.lift (.load arg1 (Rect.unit (s := S32x8192) ![0, 4608] S32x512.size inb_S32x8192_S32x512_0_4608).toLoadRect (View.loadsAt_vmem h_S32x512))
  let x10 : Vec F S32x512 .f32 ← Prog.lift (.load arg1 (Rect.unit (s := S32x8192) ![0, 5120] S32x512.size inb_S32x8192_S32x512_0_5120).toLoadRect (View.loadsAt_vmem h_S32x512))
  let x11 : Vec F S32x512 .f32 ← Prog.lift (.load arg1 (Rect.unit (s := S32x8192) ![0, 5632] S32x512.size inb_S32x8192_S32x512_0_5632).toLoadRect (View.loadsAt_vmem h_S32x512))
  let x12 : Vec F S32x512 .f32 ← Prog.lift (.load arg1 (Rect.unit (s := S32x8192) ![0, 6144] S32x512.size inb_S32x8192_S32x512_0_6144).toLoadRect (View.loadsAt_vmem h_S32x512))
  let x13 : Vec F S32x512 .f32 ← Prog.lift (.load arg1 (Rect.unit (s := S32x8192) ![0, 6656] S32x512.size inb_S32x8192_S32x512_0_6656).toLoadRect (View.loadsAt_vmem h_S32x512))
  let x14 : Vec F S32x512 .f32 ← Prog.lift (.load arg1 (Rect.unit (s := S32x8192) ![0, 7168] S32x512.size inb_S32x8192_S32x512_0_7168).toLoadRect (View.loadsAt_vmem h_S32x512))
  let x15 : Vec F S32x512 .f32 ← Prog.lift (.load arg1 (Rect.unit (s := S32x8192) ![0, 7680] S32x512.size inb_S32x8192_S32x512_0_7680).toLoadRect (View.loadsAt_vmem h_S32x512))
  let s : TAcc F := TAcc.step i 7680#32 (TAcc.step i 7168#32 (TAcc.step i 6656#32 (TAcc.step i 6144#32 (TAcc.step i 5632#32 (TAcc.step i 5120#32 (TAcc.step i 4608#32 (TAcc.step i 4096#32 (TAcc.step i 3584#32 (TAcc.step i 3072#32 (TAcc.step i 2560#32 (TAcc.step i 2048#32 (TAcc.step i 1536#32 (TAcc.step i 1024#32 (TAcc.step i 512#32 (TAcc.step i 0#32 ((⟨m, z, t, w, ix⟩ : TAcc F)) x0) x1) x2) x3) x4) x5) x6) x7) x8) x9) x10) x11) x12) x13) x14) x15
  let _ : Vec F S32x512 .f32 ← Prog.lift (.load arg5 (Rect.unit (s := S32x512) ![0, 0] S32x512.size inb_S32x512_S32x512_0_0).toLoadRect (View.loadsAt_vmem h_S32x512))
  Prog.lift (.store arg5 (Rect.unit (s := S32x512) ![0, 0] S32x512.size inb_S32x512_S32x512_0_0) (shapeCast S32x512 (s.m) shapeCasts_S32x512_S32x512) Finset.univ (View.stores_vmem_bits_univ h_S32x512 rfl) (.inl rfl))
  let _ : Vec F S32x512 .f32 ← Prog.lift (.load arg6 (Rect.unit (s := S32x512) ![0, 0] S32x512.size inb_S32x512_S32x512_0_0).toLoadRect (View.loadsAt_vmem h_S32x512))
  Prog.lift (.store arg6 (Rect.unit (s := S32x512) ![0, 0] S32x512.size inb_S32x512_S32x512_0_0) (shapeCast S32x512 (s.z) shapeCasts_S32x512_S32x512) Finset.univ (View.stores_vmem_bits_univ h_S32x512 rfl) (.inl rfl))
  let _ : Vec F S32x512 .f32 ← Prog.lift (.load arg7 (Rect.unit (s := S32x512) ![0, 0] S32x512.size inb_S32x512_S32x512_0_0).toLoadRect (View.loadsAt_vmem h_S32x512))
  Prog.lift (.store arg7 (Rect.unit (s := S32x512) ![0, 0] S32x512.size inb_S32x512_S32x512_0_0) (shapeCast S32x512 (s.t) shapeCasts_S32x512_S32x512) Finset.univ (View.stores_vmem_bits_univ h_S32x512 rfl) (.inl rfl))
  let _ : Vec F S32x512 .f32 ← Prog.lift (.load arg8 (Rect.unit (s := S32x512) ![0, 0] S32x512.size inb_S32x512_S32x512_0_0).toLoadRect (View.loadsAt_vmem h_S32x512))
  Prog.lift (.store arg8 (Rect.unit (s := S32x512) ![0, 0] S32x512.size inb_S32x512_S32x512_0_0) (shapeCast S32x512 (s.w) shapeCasts_S32x512_S32x512) Finset.univ (View.stores_vmem_bits_univ h_S32x512 rfl) (.inl rfl))
  let _ : Vec F S32x512 .i32 ← Prog.lift (.load arg9 (Rect.unit (s := S32x512) ![0, 0] S32x512.size inb_S32x512_S32x512_0_0).toLoadRect (View.loadsAt_vmem h_S32x512))
  Prog.lift (.store arg9 (Rect.unit (s := S32x512) ![0, 0] S32x512.size inb_S32x512_S32x512_0_0) (shapeCast S32x512 (s.i) shapeCasts_S32x512_S32x512) Finset.univ (View.stores_vmem_bits_univ h_S32x512 rfl) (.inl rfl))
  if _h : k1_cond2 i = 1#1 then do
    let _ : Vec F S32x512 .f32 ← Prog.lift (.load arg2 (Rect.unit (s := S32x512) ![0, 0] S32x512.size inb_S32x512_S32x512_0_0).toLoadRect (View.loadsAt_vmem h_S32x512))
    Prog.lift (.store arg2 (Rect.unit (s := S32x512) ![0, 0] S32x512.size inb_S32x512_S32x512_0_0) (s.m) Finset.univ (View.stores_vmem_bits_univ h_S32x512 rfl) (.inl rfl))
    let _ : Vec F S32x512 .f32 ← Prog.lift (.load arg3 (Rect.unit (s := S32x512) ![0, 0] S32x512.size inb_S32x512_S32x512_0_0).toLoadRect (View.loadsAt_vmem h_S32x512))
    Prog.lift (.store arg3 (Rect.unit (s := S32x512) ![0, 0] S32x512.size inb_S32x512_S32x512_0_0) (s.z) Finset.univ (View.stores_vmem_bits_univ h_S32x512 rfl) (.inl rfl))
    let _ : Vec F S32x512 .i32 ← Prog.lift (.load arg4 (Rect.unit (s := S32x512) ![0, 0] S32x512.size inb_S32x512_S32x512_0_0).toLoadRect (View.loadsAt_vmem h_S32x512))
    Prog.lift (.store arg4 (Rect.unit (s := S32x512) ![0, 0] S32x512.size inb_S32x512_S32x512_0_0) (s.i) Finset.univ (View.stores_vmem_bits_univ h_S32x512 rfl) (.inl rfl))
    pure ⟨⟩
  else do
    pure ⟨⟩
  pure ⟨⟩

theorem tc_eq (i : grid1.Coords) (arg1 : Memref sig .tc .vmem S32x8192 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .i32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .i32) (harg9 : arg9.IsWhole) :
    cc1__tc_kernel (F := F) i arg1 harg1 arg2 harg2 arg3 harg3 arg4 harg4 arg5 harg5 arg6 harg6 arg7 harg7 arg8 harg8 arg9 harg9 = tcProg i arg1 harg1 arg2 harg2 arg3 harg3 arg4 harg4 arg5 harg5 arg6 harg6 arg7 harg7 arg8 harg8 arg9 harg9 := by
  unfold cc1__tc_kernel tcProg
  by_cases h : Scalar.cmpi .ne (Scalar.extui (Scalar.cmpi .eq (BitVec.ofNat 32 (i 0).val) 0#32) : BitVec 32) 0#32 = 1#1
  · have e1 : k1_part1 (F := F) i arg1 harg1 arg2 harg2 arg3 harg3 arg4 harg4 arg5 harg5 arg6 harg6 arg7 harg7 arg8 harg8 arg9 harg9 = _ := dif_pos h
    rw [dif_pos h]
    dsimp only [k1_part71]
    rw [e1]
    dsimp only [k1_part2, k1_part3, k1_part4, k1_part5, k1_part6, k1_part7, k1_part8, k1_part9, k1_part10, k1_part11, k1_part12, k1_part13, k1_part14, k1_part15, k1_part16, k1_part17, k1_part18, k1_part19, k1_part20, k1_part21, k1_part22, k1_part23, k1_part24, k1_part25, k1_part26, k1_part27, k1_part28, k1_part29, k1_part30, k1_part31, k1_part32, k1_part33, k1_part34, k1_part35, k1_part36, k1_part37, k1_part38, k1_part39, k1_part40, k1_part41, k1_part42, k1_part43, k1_part44, k1_part45, k1_part46, k1_part47, k1_part48, k1_part49, k1_part50, k1_part51, k1_part52, k1_part53, k1_part54, k1_part55, k1_part56, k1_part57, k1_part58, k1_part59, k1_part60, k1_part61, k1_part62, k1_part63, k1_part64, k1_part65, k1_part66, k1_part67, k1_part68, k1_part69, k1_part70,
      TAcc.step, TAcc.upd, TAcc.better, vlogU, vctr, vcol, vrounds, vinject, vmixA, vmixA0, vmixB, vmix, vrotl,
      Prog.bind_lift, Prog.bind_ret, Prog.bind_op, Prog.pure_eq_ret]
  · have e1 : k1_part1 (F := F) i arg1 harg1 arg2 harg2 arg3 harg3 arg4 harg4 arg5 harg5 arg6 harg6 arg7 harg7 arg8 harg8 arg9 harg9 = _ := dif_neg h
    rw [dif_neg h]
    dsimp only [k1_part71]
    rw [e1]
    dsimp only [k1_part2, k1_part3, k1_part4, k1_part5, k1_part6, k1_part7, k1_part8, k1_part9, k1_part10, k1_part11, k1_part12, k1_part13, k1_part14, k1_part15, k1_part16, k1_part17, k1_part18, k1_part19, k1_part20, k1_part21, k1_part22, k1_part23, k1_part24, k1_part25, k1_part26, k1_part27, k1_part28, k1_part29, k1_part30, k1_part31, k1_part32, k1_part33, k1_part34, k1_part35, k1_part36, k1_part37, k1_part38, k1_part39, k1_part40, k1_part41, k1_part42, k1_part43, k1_part44, k1_part45, k1_part46, k1_part47, k1_part48, k1_part49, k1_part50, k1_part51, k1_part52, k1_part53, k1_part54, k1_part55, k1_part56, k1_part57, k1_part58, k1_part59, k1_part60, k1_part61, k1_part62, k1_part63, k1_part64, k1_part65, k1_part66, k1_part67, k1_part68, k1_part69, k1_part70,
      TAcc.step, TAcc.upd, TAcc.better, vlogU, vctr, vcol, vrounds, vinject, vmixA, vmixA0, vmixB, vmix, vrotl,
      Prog.bind_lift, Prog.bind_ret, Prog.bind_op, Prog.pure_eq_ret]

end Cert.Proof
-- ==== Proof.ScStep.lean ====
/- The SparseCore kernel's nine loops, each a column loop over one buffer of logits: every trip loads two
   vectors of sixteen columns and updates the two halves' records. -/
module

public import proofs.«01_k».proof.Proof.Lane

@[expose] public section

set_option synthInstance.maxSize 4096
set_option maxRecDepth 65536

noncomputable section

namespace Cert.Proof

open Idealize.ShloMosaic Idealize.SL.Sem
open Cert.KernelIdeal Cert.KernelIdeal.Gen

variable {F : FTy → Type} [FloatOps F]

/-- The loop's ten vectors: five for the low sixteen lanes, five for the high. -/
abbrev VAcc (F : FTy → Type) : Type :=
  FVec F S16 .f32 × FVec F S16 .f32 × FVec F S16 .f32 × FVec F S16 .f32 × IVec S16 32 ×
    FVec F S16 .f32 × FVec F S16 .f32 × FVec F S16 .f32 × FVec F S16 .f32 × IVec S16 32

/-- Lane `l` of the low half. -/
def VAcc.lo (s : VAcc F) (l : S16.Idx) : Acc F :=
  ⟨s.1 l, s.2.1 l, s.2.2.1 l, s.2.2.2.1 l, s.2.2.2.2.1 l⟩

/-- Lane `l` of the high half. -/
def VAcc.hi (s : VAcc F) (l : S16.Idx) : Acc F :=
  ⟨s.2.2.2.2.2.1 l, s.2.2.2.2.2.2.1 l, s.2.2.2.2.2.2.2.1 l, s.2.2.2.2.2.2.2.2.1 l, s.2.2.2.2.2.2.2.2.2 l⟩

/-- The ten vectors from the two halves' lanes. -/
def VAcc.mk (a b : S16.Idx → Acc F) : VAcc F :=
  (fun l => (a l).m, fun l => (a l).z, fun l => (a l).t, fun l => (a l).w, fun l => (a l).i,
    fun l => (b l).m, fun l => (b l).z, fun l => (b l).t, fun l => (b l).w, fun l => (b l).i)

/-- Two pairs of records that agree on every lane are equal. -/
theorem VAcc.ext {a b : VAcc F} (h : ∀ l, a.lo l = b.lo l) (h' : ∀ l, a.hi l = b.hi l) : a = b := by
  obtain ⟨a1, a2, a3, a4, a5, a6, a7, a8, a9, a10⟩ := a
  obtain ⟨b1, b2, b3, b4, b5, b6, b7, b8, b9, b10⟩ := b
  simp only [VAcc.lo, VAcc.hi, Acc.mk.injEq] at h h'
  simp only [Prod.mk.injEq]
  exact ⟨funext fun l => (h l).1, funext fun l => (h l).2.1, funext fun l => (h l).2.2.1,
    funext fun l => (h l).2.2.2.1, funext fun l => (h l).2.2.2.2,
    funext fun l => (h' l).1, funext fun l => (h' l).2.1, funext fun l => (h' l).2.2.1,
    funext fun l => (h' l).2.2.2.1, funext fun l => (h' l).2.2.2.2⟩

/-- Lane `l`'s column in trip `n` of a loop over columns from `base`, the half beginning at `off`. -/
def colAt (base off : BitVec 32) (lane : IVec S16 32) (n : BitVec 32) (l : S16.Idx) : BitVec 32 :=
  IntOp.addi (IntOp.addi (IntOp.addi base (IntOp.muli n 32#32)) off) (lane l)

/-- What one trip does to the two halves, from the two vectors of logits. -/
def trip (row base : BitVec 32) (lane : IVec S16 32) (n : BitVec 32) (x y : FVec F S16 .f32) (s : VAcc F) : VAcc F :=
  VAcc.mk
    (fun l => (s.lo l).step (x l) (IntOp.addi row (colAt base 0#32 lane n l)) (colAt base 0#32 lane n l))
    (fun l => (s.hi l).step (y l) (IntOp.addi row (colAt base 16#32 lane n l)) (colAt base 16#32 lane n l))

/-- A trip over the two-row buffer: two loads of sixteen columns, then the update. -/
def tripProg (i : grid0.Coords) (arg6 : Memref sig .scVector .vmem S2x28672 .f32) (o0 o1 : Fin 2 → ℕ)
    (h0 : ∀ a, o0 a + S1x16.size a ≤ S2x28672.size a) (h1 : ∀ a, o1 a + S1x16.size a ≤ S2x28672.size a)
    (row base : BitVec 32) (lane : IVec S16 32) (n : BitVec 32) (s : VAcc F) :
    Prog (TpuEff nD τ sig (Elt F) Λ₀ (.scVector ((i 0).castLE hcore0) ((i 1).castLE hsub0))) (VAcc F) := do
  let x : Vec F S1x16 .f32 ← Prog.lift (.load arg6 (Rect.unit (s := S2x28672) o0 S1x16.size h0).toLoadRect (View.loadsAt_vmem h_S1x16))
  let y : Vec F S1x16 .f32 ← Prog.lift (.load arg6 (Rect.unit (s := S2x28672) o1 S1x16.size h1).toLoadRect (View.loadsAt_vmem h_S1x16))
  pure (trip row base lane n (shapeCast S16 x shapeCasts_S1x16_S16) (shapeCast S16 y shapeCasts_S1x16_S16) s)

/-- A trip over the tail's buffer. -/
def tripProg' (i : grid0.Coords) (arg12 : Memref sig .scVector .vmem S576 .f32) (o0 o1 : Fin 1 → ℕ)
    (h0 : ∀ a, o0 a + S16.size a ≤ S576.size a) (h1 : ∀ a, o1 a + S16.size a ≤ S576.size a)
    (row base : BitVec 32) (lane : IVec S16 32) (n : BitVec 32) (s : VAcc F) :
    Prog (TpuEff nD τ sig (Elt F) Λ₀ (.scVector ((i 0).castLE hcore0) ((i 1).castLE hsub0))) (VAcc F) := do
  let x : Vec F S16 .f32 ← Prog.lift (.load arg12 (Rect.unit (s := S576) o0 S16.size h0).toLoadRect (View.loadsAt_vmem h_S16))
  let y : Vec F S16 .f32 ← Prog.lift (.load arg12 (Rect.unit (s := S576) o1 S16.size h1).toLoadRect (View.loadsAt_vmem h_S16))
  pure (trip row base lane n (shapeCast S16 x shapeCasts_S16_S16) (shapeCast S16 y shapeCasts_S16_S16) s)

section
variable (i : grid0.Coords) (arg2 : Memref sig .scVector .hbm S32x1000000 .f32) (harg2 : arg2.IsWhole)
  (arg3 : Memref sig .scVector .hbm S32x32 .f32) (harg3 : arg3.IsWhole)
  (arg4 : Memref sig .scVector .hbm S32x32 .f32) (harg4 : arg4.IsWhole)
  (arg5 : Memref sig .scVector .hbm S32x32 .i32) (harg5 : arg5.IsWhole)
  (arg6 : Memref sig .scVector .vmem S2x28672 .f32) (harg6 : arg6.IsWhole)
  (arg7 : Memref sig .scVector .vmem S32 .f32) (harg7 : arg7.IsWhole)
  (arg8 : Memref sig .scVector .vmem S32 .f32) (harg8 : arg8.IsWhole)
  (arg9 : Memref sig .scVector .vmem S32 .i32) (harg9 : arg9.IsWhole)
  (arg10 arg11 : DmaSems sig S_) (arg12 : Memref sig .scVector .vmem S576 .f32) (harg12 : arg12.IsWhole)
  (arg13 r0 r1 r2 : DmaSems sig S_) (v3 : BitVec 32) (v16 : IVec S16 32)
  (c0 c1 c2 c3 : FVec F S16 .f32) (c4 : IVec S16 32) (c5 c6 c7 c8 : FVec F S16 .f32) (c9 : IVec S16 32)
  (e : BitVec 32)

/-- The first loop's trip is the generic trip over columns from 0. -/
theorem body1 (t : Fin k0_t1_loop.trips) (s : VAcc F) :
    k0_t1_body i arg2 harg2 arg3 harg3 arg4 harg4 arg5 harg5 arg6 harg6 arg7 harg7 arg8 harg8 arg9 harg9 arg10
      arg11 arg12 harg12 arg13 r0 r1 r2 v3 v16 c0 c1 c2 c3 c4 t s =
      tripProg i arg6 (k0_off4 t 0#32) (k0_off4 t 16#32) (k0_off4_inb t 0) (k0_off4_inb t 1) v3 0#32 v16
        (Scf.iv 0#32 1#32 t) s := by
  obtain ⟨a15, a16, a17, a18, a19, a20, a21, a22, a23, a24⟩ := s
  dsimp only [k0_t1_body, k0_part1, k0_part2, k0_part3, k0_part4, k0_part5, k0_part6, k0_part7, k0_part8, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay872, k0_pay873, k0_pay874, k0_pay875, k0_pay876, k0_pay877, k0_pay878, k0_pay879, k0_pay880, k0_pay881,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The second loop's trip is the generic trip over columns from 28672. -/
theorem body2 (t : Fin k0_t2_loop.trips) (s : VAcc F) :
    k0_t2_body i arg2 harg2 arg3 harg3 arg4 harg4 arg5 harg5 arg6 harg6 arg7 harg7 arg8 harg8 arg9 harg9 arg10
      arg11 arg12 harg12 arg13 r0 r1 r2 v3 v16 c0 c1 c2 c3 c4 t s =
      tripProg i arg6 (k0_off6 t 0#32) (k0_off6 t 16#32) (k0_off6_inb t 0) (k0_off6_inb t 1) v3 28672#32 v16
        (Scf.iv 0#32 1#32 t) s := by
  obtain ⟨a15, a16, a17, a18, a19, a20, a21, a22, a23, a24⟩ := s
  dsimp only [k0_t2_body, k0_part9, k0_part10, k0_part11, k0_part12, k0_part13, k0_part14, k0_part15, k0_part16, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay882, k0_pay883, k0_pay884, k0_pay885, k0_pay886, k0_pay887, k0_pay888, k0_pay889, k0_pay890, k0_pay891,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The third loop's trip is the generic trip over columns from 57344. -/
theorem body3 (t : Fin k0_t3_loop.trips) (s : VAcc F) :
    k0_t3_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 t s =
      tripProg i arg6 (k0_off8 t 0#32) (k0_off8 t 16#32) (k0_off8_inb t 0) (k0_off8_inb t 1) v3 57344#32 v16
        (Scf.iv 0#32 1#32 t) s := by
  obtain ⟨a15, a16, a17, a18, a19, a20, a21, a22, a23, a24⟩ := s
  dsimp only [k0_t3_body, k0_part17, k0_part18, k0_part19, k0_part20, k0_part21, k0_part22, k0_part23, k0_part24, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay892, k0_pay893, k0_pay894, k0_pay895, k0_pay896, k0_pay897, k0_pay898, k0_pay899, k0_pay900, k0_pay901,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The fourth loop's trip is the generic trip over columns from 86016. -/
theorem body4 (t : Fin k0_t4_loop.trips) (s : VAcc F) :
    k0_t4_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 t s =
      tripProg i arg6 (k0_off10 t 0#32) (k0_off10 t 16#32) (k0_off10_inb t 0) (k0_off10_inb t 1) v3 86016#32 v16
        (Scf.iv 0#32 1#32 t) s := by
  obtain ⟨a15, a16, a17, a18, a19, a20, a21, a22, a23, a24⟩ := s
  dsimp only [k0_t4_body, k0_part25, k0_part26, k0_part27, k0_part28, k0_part29, k0_part30, k0_part31, k0_part32, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay902, k0_pay903, k0_pay904, k0_pay905, k0_pay906, k0_pay907, k0_pay908, k0_pay909, k0_pay910, k0_pay911,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The fifth loop's trip is the generic trip over columns from 114688. -/
theorem body5 (t : Fin k0_t5_loop.trips) (s : VAcc F) :
    k0_t5_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 t s =
      tripProg i arg6 (k0_off12 t 0#32) (k0_off12 t 16#32) (k0_off12_inb t 0) (k0_off12_inb t 1) v3 114688#32 v16
        (Scf.iv 0#32 1#32 t) s := by
  obtain ⟨a15, a16, a17, a18, a19, a20, a21, a22, a23, a24⟩ := s
  dsimp only [k0_t5_body, k0_part33, k0_part34, k0_part35, k0_part36, k0_part37, k0_part38, k0_part39, k0_part40, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay912, k0_pay913, k0_pay914, k0_pay915, k0_pay916, k0_pay917, k0_pay918, k0_pay919, k0_pay920, k0_pay921,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The sixth loop's trip is the generic trip over columns from 143360. -/
theorem body6 (t : Fin k0_t6_loop.trips) (s : VAcc F) :
    k0_t6_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 e t s =
      tripProg i arg6 (k0_off14 t 0#32) (k0_off14 t 16#32) (k0_off14_inb t 0) (k0_off14_inb t 1) v3 143360#32 v16
        (Scf.iv e 1#32 t) s := by
  obtain ⟨a15, a16, a17, a18, a19, a20, a21, a22, a23, a24⟩ := s
  dsimp only [k0_t6_body, k0_part41, k0_part42, k0_part43, k0_part44, k0_part45, k0_part46, k0_part47, k0_part48, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay922, k0_pay923, k0_pay924, k0_pay925, k0_pay926, k0_pay927, k0_pay928, k0_pay929, k0_pay930, k0_pay931,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The seventh loop's trip is the generic trip over columns from 172032. -/
theorem body7 (t : Fin k0_t7_loop.trips) (s : VAcc F) :
    k0_t7_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 e t s =
      tripProg i arg6 (k0_off16 t 0#32) (k0_off16 t 16#32) (k0_off16_inb t 0) (k0_off16_inb t 1) v3 172032#32 v16
        (Scf.iv 0#32 1#32 t) s := by
  obtain ⟨a15, a16, a17, a18, a19, a20, a21, a22, a23, a24⟩ := s
  dsimp only [k0_t7_body, k0_part49, k0_part50, k0_part51, k0_part52, k0_part53, k0_part54, k0_part55, k0_part56, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay932, k0_pay933, k0_pay934, k0_pay935, k0_pay936, k0_pay937, k0_pay938, k0_pay939, k0_pay940, k0_pay941,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The eighth loop's trip is the generic trip over columns from 200704. -/
theorem body8 (t : Fin k0_t8_loop.trips) (s : VAcc F) :
    k0_t8_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 e t s =
      tripProg i arg6 (k0_off17 t 0#32) (k0_off17 t 16#32) (k0_off17_inb t 0) (k0_off17_inb t 1) v3 200704#32 v16
        (Scf.iv 0#32 1#32 t) s := by
  obtain ⟨a15, a16, a17, a18, a19, a20, a21, a22, a23, a24⟩ := s
  dsimp only [k0_t8_body, k0_part57, k0_part58, k0_part59, k0_part60, k0_part61, k0_part62, k0_part63, k0_part64, tripProg,
    Prog.bind_lift, Prog.bind_ret, Prog.bind_op, Prog.pure_eq_ret]
  refine congrArg _ (funext fun x => congrArg _ (funext fun y => congrArg _ (VAcc.ext (fun l => ?_) (fun l => ?_)))) <;>
    dsimp only [k0_pay942, k0_pay943, k0_pay944, k0_pay945, k0_pay946, k0_pay947, k0_pay948, k0_pay949, k0_pay950, k0_pay951,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

/-- The tail loop's trip is the tail buffer's trip over columns from 999424. -/
theorem body9 (t : Fin k0_t9_loop.trips) (s : VAcc F) :
    k0_t9_body i arg2 harg2 arg3 harg3 arg4 harg4 arg5 harg5 arg6 harg6 arg7 harg7 arg8 harg8 arg9 harg9 arg10
      arg11 arg12 harg12 arg13 r0 r1 r2 v3 v16 c0 c1 c2 c3 c4 c5 c6 c7 c8 c9 t s =
      tripProg' i arg12 (k0_off18 t 0#32) (k0_off18 t 16#32) (k0_off18_inb t 0) (k0_off18_inb t 1) v3 999424#32 v16
        (Scf.iv 0#32 1#32 t) s := by
  obtain ⟨a15, a16, a17, a18, a19, a20, a21, a22, a23, a24⟩ := s
  dsimp only [k0_t9_body, k0_part65, k0_part66, k0_part67, k0_part68, k0_part69, k0_part70, k0_part71, k0_part72, tripProg',
    Prog.bind_lift, Prog.bind_ret, Prog.bind_op, Prog.pure_eq_ret]
  refine congrArg _ (funext fun x => congrArg _ (funext fun y => congrArg _ (VAcc.ext (fun l => ?_) (fun l => ?_)))) <;>
    dsimp only [k0_pay952, k0_pay953, k0_pay954, k0_pay955, k0_pay956, k0_pay957, k0_pay958, k0_pay959, k0_pay960, k0_pay961,
      trip, colAt, VAcc.mk, VAcc.lo, VAcc.hi, Acc.step, Acc.upd, Acc.better, logU, unitOf, word, rounds, inject, mixA0, mixA, mixB,
      mix, rotl, addi, shli, shrui, ori, xori, broadcast, bitcastToFloat, subf, addf, mulf, maximumf, log, exp, cmpf, select,
      Scalar.addi, Scalar.muli, Scalar.ofBits]

end

end Cert.Proof
-- ==== Proof.ScSetup.lean ====
/- The program as the launch theorem sees it, the SparseCore tiles' buffers and cells, and the values their
   loops compute. -/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.Pointwise.Index
public import proofs.«01_k».proof.Proof.Gen.KernelIdeal.Launch
public import proofs.«01_k».proof.Proof.ScStep

@[expose] public section

set_option synthInstance.maxSize 4096
set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := (UH × URounds (GSem nD τ sig) Unit) × Counters

local notation "𝕄" => MT nD τ sig (HIx 1) (Elt F) ℕ UU ℕ

abbrev xLoc (d : Dev nD) : Loc nD τ sig := (SparseCore.T d).loc main_arg0
abbrev mLoc (d : Dev nD) : Loc nD τ sig := (SparseCore.T d).loc main_v0_0
abbrev zLoc (d : Dev nD) : Loc nD τ sig := (SparseCore.T d).loc main_v0_1
abbrev iLoc (d : Dev nD) : Loc nD τ sig := (SparseCore.T d).loc main_v0_2

local notation "xV" => (Memref.whole Cert.KernelIdeal.main_arg0_scv : Memref Cert.KernelIdeal.sig Kind.scVector Space.hbm Cert.KernelIdeal.S32x1000000 EltTy.f32)
local notation "bV" => (Memref.whole Cert.KernelIdeal.cc0_scratch0 : Memref Cert.KernelIdeal.sig Kind.scVector Space.vmem Cert.KernelIdeal.S2x28672 EltTy.f32)
local notation "tV" => (Memref.whole Cert.KernelIdeal.cc0_scratch6 : Memref Cert.KernelIdeal.sig Kind.scVector Space.vmem Cert.KernelIdeal.S576 EltTy.f32)

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The row of logits that tile `L` samples. -/
def wid (L : grid0.Coords) : Fin 32 := ⟨2 * (L 1).val + (L 0).val, by
  have h0 : (L 0).val < 2 := (L 0).isLt
  have h1 : (L 1).val < 16 := (L 1).isLt
  omega⟩

/-- Row `r` of an array of logits, by column. -/
def rowOf (X : S32x1000000.Idx → F .f32) (r : Fin 32) (n : ℕ) : F .f32 :=
  X (ix2 r ⟨n % 1000000, Nat.mod_lt _ (by decide)⟩)

/-- Sixteen consecutive columns from `b`. -/
def vec16 (x : ℕ → F .f32) (b : ℕ) : FVec F S16 .f32 := fun l => x (b + (l 0).val)

/-- One row of the tile's two-row buffer, as the program slices it at offsets `o`. -/
abbrev rowM (o : Fin 2 → ℕ) (h : ∀ a, o a + S1x28672.size a ≤ S2x28672.size a) : Memref sig .scVector .vmem S28672 .f32 :=
  ((bV).slice (Rect.unit (s := S2x28672) o S1x28672.size h) (fun _ => rfl)).squeeze S28672 squeezes_S1x28672_S28672

/-- A row of the two-row buffer reads the buffer's elements. -/
theorem read_row (b : Fin 2) (o : Fin 2 → ℕ) (h) (ho : o = ![b.val, 0]) (f : S2x28672.Idx → F .f32) (l : S28672.Idx) :
    (rowM o h).view.read (Elt F) f l = f (ix2 b (l 0)) := by
  subst ho
  refine (congrFun (Memref.read_squeeze_slice (Val := Elt F) (bV) (Rect.unit (s := S2x28672) ![b.val, 0] S1x28672.size h) (fun _ => rfl)
    squeezes_S1x28672_S28672 squeezes_S1x28672_S28672.numel_eq f) l).trans ?_
  refine (shapeCast_dropUnit_apply (n := 1) ![28672] _ _ l).trans ?_
  show f _ = f _
  congr 1
  funext a
  refine Fin.ext ?_
  match a with
  | 0 => show b.val + 1 * 0 = b.val; omega
  | 1 => show 0 + 1 * (l 0).val = (l 0).val; omega

/-- A load of sixteen columns through the whole buffer reads its elements. -/
theorem load_row (b : Fin 2) (o : Fin 2 → ℕ) (h) (c : ℕ) (ho : o = ![b.val, c]) (f : S2x28672.Idx → F .f32) (l : S16.Idx)
    (hc : c + (l 0).val < 28672) :
    shapeCast S16 ((bV).view.readAt (Elt F) (Rect.unit (s := S2x28672) o S1x16.size h).toLoadRect f) shapeCasts_S1x16_S16 l
      = f (ix2 b ⟨c + (l 0).val, hc⟩) := by
  subst ho
  refine (shapeCast_dropUnit_apply (n := 1) ![16] _ _ l).trans ?_
  show f _ = f _
  congr 1
  funext a
  refine Fin.ext ?_
  match a with
  | 0 => show b.val + 1 * 0 = b.val; omega
  | 1 => show c + 1 * (l 0).val = c + (l 0).val; omega

/-- What a load of sixteen columns reads lies in the row. -/
theorem load_sub (b : Fin 2) (o o' : Fin 2 → ℕ) (h) (h') (c : ℕ) (ho : o = ![b.val, 0]) (ho' : o' = ![b.val, c]) :
    (bV).view.setOn (Rect.unit (s := S2x28672) o' S1x16.size h').set ⊆ (rowM o h).view.set := by
  subst ho ho'
  simp only [Memref.view, View.set_reshape, View.set_slice]
  refine Finset.map_subset_map.mpr fun j hj => ?_
  rw [Rect.mem_set_unit] at hj ⊢
  intro a
  have hc : c + 16 ≤ 28672 := h' 1
  have := hj a
  match a with
  | 0 => exact this
  | 1 =>
    have h1 : c ≤ (j 1).val ∧ (j 1).val < c + 16 := this
    show 0 ≤ (j 1).val ∧ (j 1).val < 0 + 28672
    omega

/-- Row `r` of the logits, columns from `c`, as the program slices them. -/
theorem read_cols (r : Fin 32) (n : ℕ) (o : Fin 2 → ℕ) (c : ℕ) (ho : o = ![r.val, c]) (h) (hs : (⟨2, ![1, n]⟩ : Shape).Squeezes ⟨1, ![n]⟩)
    (X : S32x1000000.Idx → F .f32) (l : (⟨1, ![n]⟩ : Shape).Idx) :
    (((xV).slice (Rect.unit (s := S32x1000000) o (⟨2, ![1, n]⟩ : Shape).size h) (fun _ => rfl)).squeeze ⟨1, ![n]⟩ hs).view.read (Elt F) X l
      = rowOf X r (c + (l 0).val) := by
  subst ho
  refine (congrFun (Memref.read_squeeze_slice (Val := Elt F) (xV) (Rect.unit (s := S32x1000000) ![r.val, c] (⟨2, ![1, n]⟩ : Shape).size h) (fun _ => rfl)
    hs hs.numel_eq X) l).trans ?_
  refine (shapeCast_dropUnit_apply (n := 1) ![n] _ _ l).trans ?_
  have hc : c + n ≤ 1000000 := h 1
  have hl : (l 0).val < n := (l 0).isLt
  show X _ = X _
  congr 1
  funext a
  refine Fin.ext ?_
  match a with
  | 0 => show r.val + 1 * 0 = r.val; omega
  | 1 => show c + 1 * (l 0).val = (c + (l 0).val) % 1000000; rw [Nat.mod_eq_of_lt (by omega)]; omega

/-- The records after `n` trips over columns from `b`. -/
def vfold (row base : BitVec 32) (lane : IVec S16 32) (x : ℕ → F .f32) (b : ℕ) [FloatOps F] (s : VAcc F) : ℕ → VAcc F
  | 0 => s
  | n + 1 => trip row base lane (Scf.iv 0#32 1#32 n) (vec16 x (b + 32 * n)) (vec16 x (b + (32 * n + 16))) (vfold row base lane x b s n)

variable [FloatOps F]

/-- One trip over a row of the buffer that holds columns from `base`. -/
theorem wp_trip (b : Fin 2) (o : Fin 2 → ℕ) (h) (ho : o = ![b.val, 0]) (o0 o1 : Fin 2 → ℕ) (h0) (h1) (k : ℕ) (hk : k < 896)
    (ho0 : o0 = ![b.val, 32 * k]) (ho1 : o1 = ![b.val, 32 * k + 16])
    (row base : BitVec 32) (lane : IVec S16 32) (n : BitVec 32) (s : VAcc F)
    (f : S2x28672.Idx → F .f32) (x : ℕ → F .f32) (bs : ℕ) (hf : ∀ l : Fin 28672, f (ix2 b l) = x (bs + l.val)) :
    ((rowM o h).view.loc (VT d L) ↦[(rowM o h).view.set]{fullShare} f : sProp 𝕄)
      ⊢ wp frame (wpE (defs₀ (F := F)) 𝒱₀ (VT d L) none) Set.univ (tripProg L (bV) o0 o1 h0 h1 row base lane n s)
          fun r => iprop(⌜r = trip row base lane n (vec16 x (bs + 32 * k)) (vec16 x (bs + (32 * k + 16))) s⌝
            ∗ (rowM o h).view.loc (VT d L) ↦[(rowM o h).view.set]{fullShare} f) := by
  have e0 : shapeCast S16 ((bV).view.readAt (Elt F) (Rect.unit (s := S2x28672) o0 S1x16.size h0).toLoadRect f) shapeCasts_S1x16_S16
      = vec16 x (bs + 32 * k) := by
    funext l
    have hl : (l 0).val < 16 := (l 0).isLt
    rw [load_row b o0 h0 _ ho0 f l (by omega), hf]; simp only [vec16]; congr 1; omega
  have e1 : shapeCast S16 ((bV).view.readAt (Elt F) (Rect.unit (s := S2x28672) o1 S1x16.size h1).toLoadRect f) shapeCasts_S1x16_S16
      = vec16 x (bs + (32 * k + 16)) := by
    funext l
    have hl : (l 0).val < 16 := (l 0).isLt
    rw [load_row b o1 h1 _ ho1 f l (by omega), hf]; simp only [vec16]; congr 1; omega
  unfold tripProg
  simp only [Prog.bind_lift, Prog.bind_ret, Prog.bind_op, Prog.pure_eq_ret]
  iintro H
  iapply (wp_load 𝒱₀ (VT d L) none Set.univ (m := (bV)) (load_sub b o o0 h h0 _ ho ho0)) $$ H
  iintro H
  iapply (wp_load 𝒱₀ (VT d L) none Set.univ (m := (bV)) (load_sub b o o1 h h1 _ ho ho1)) $$ H
  iintro H
  rw [wp_ret]
  imodintro
  isplitr
  · ipureintro; rw [e0, e1]
  · iexact H

/-- A load of sixteen columns of the tail's buffer. -/
theorem load_tail (o : Fin 1 → ℕ) (h) (c : ℕ) (ho : o = ![c]) (f : S576.Idx → F .f32) (l : S16.Idx) (hc : c + (l 0).val < 576) :
    shapeCast S16 ((tV).view.readAt (Elt F) (Rect.unit (s := S576) o S16.size h).toLoadRect f) shapeCasts_S16_S16 l
      = f (ix1 ⟨c + (l 0).val, hc⟩) := by
  subst ho
  refine (congrFun (shapeCast_self (s := S16) _ shapeCasts_S16_S16) l).trans ?_
  show f _ = f _
  congr 1
  funext a
  refine Fin.ext ?_
  match a with
  | 0 => show c + 1 * (l 0).val = c + (l 0).val; omega

/-- One trip over the tail's buffer, which holds columns from `bs`. -/
theorem wp_trip' (o0 o1 : Fin 1 → ℕ) (h0) (h1) (k : ℕ) (hk : k < 18) (ho0 : o0 = ![32 * k]) (ho1 : o1 = ![32 * k + 16])
    (row base : BitVec 32) (lane : IVec S16 32) (n : BitVec 32) (s : VAcc F)
    (f : S576.Idx → F .f32) (x : ℕ → F .f32) (bs : ℕ) (hf : ∀ l : Fin 576, f (ix1 l) = x (bs + l.val)) :
    ((tV).view.loc (VT d L) ↦{fullShare} f : sProp 𝕄)
      ⊢ wp frame (wpE (defs₀ (F := F)) 𝒱₀ (VT d L) none) Set.univ (tripProg' L (tV) o0 o1 h0 h1 row base lane n s)
          fun r => iprop(⌜r = trip row base lane n (vec16 x (bs + 32 * k)) (vec16 x (bs + (32 * k + 16))) s⌝
            ∗ (tV).view.loc (VT d L) ↦{fullShare} f) := by
  have e0 : shapeCast S16 ((tV).view.readAt (Elt F) (Rect.unit (s := S576) o0 S16.size h0).toLoadRect f) shapeCasts_S16_S16
      = vec16 x (bs + 32 * k) := by
    funext l
    have hl : (l 0).val < 16 := (l 0).isLt
    rw [load_tail o0 h0 _ ho0 f l (by omega), hf]; simp only [vec16]; congr 1; omega
  have e1 : shapeCast S16 ((tV).view.readAt (Elt F) (Rect.unit (s := S576) o1 S16.size h1).toLoadRect f) shapeCasts_S16_S16
      = vec16 x (bs + (32 * k + 16)) := by
    funext l
    have hl : (l 0).val < 16 := (l 0).isLt
    rw [load_tail o1 h1 _ ho1 f l (by omega), hf]; simp only [vec16]; congr 1; omega
  unfold tripProg'
  simp only [Prog.bind_lift, Prog.bind_ret, Prog.bind_op, Prog.pure_eq_ret]
  iintro H
  iapply (wp_load 𝒱₀ (VT d L) none Set.univ (m := (tV)) (Finset.subset_univ _)) $$ H
  iintro H
  iapply (wp_load 𝒱₀ (VT d L) none Set.univ (m := (tV)) (Finset.subset_univ _)) $$ H
  iintro H
  rw [wp_ret]
  imodintro
  isplitr
  · ipureintro; rw [e0, e1]
  · iexact H

/-- A column loop: if every trip, from the buffer `R`, makes the generic update, the loop leaves `vfold`'s records. -/
theorem wp_fold (R : sProp 𝕄) (N : ℕ) (lp : Scf.Loop 32) (hn : lp.trips = N) (hok)
    (body : Fin lp.trips → VAcc F → Prog (TpuEff nD τ sig (Elt F) Λ₀ (.scVector (cV L) (jV L))) (VAcc F))
    (row base : BitVec 32) (lane : IVec S16 32) (x : ℕ → F .f32) (bs : ℕ)
    (hbody : ∀ (t : Fin lp.trips) (_ : t.val < N) (s : VAcc F), R ⊢ wp frame (wpE (defs₀ (F := F)) 𝒱₀ (VT d L) none) Set.univ (body t s)
      fun r => iprop(⌜r = trip row base lane (Scf.iv 0#32 1#32 t) (vec16 x (bs + 32 * t.val)) (vec16 x (bs + (32 * t.val + 16))) s⌝ ∗ R))
    (s : VAcc F) {β : Type} {kk : VAcc F → Prog (TpuEff nD τ sig (Elt F) Λ₀ (.scVector (cV L) (jV L))) β} {Q : β → sProp 𝕄} :
    R ⊢ iprop((R -∗ wp frame (wpE (defs₀ (F := F)) 𝒱₀ (VT d L) none) Set.univ (kk (vfold row base lane x bs s N)) Q)
          -∗ wp frame (wpE (defs₀ (F := F)) 𝒱₀ (VT d L) none) Set.univ (Scf.Loop.for lp hok s body >>= kk) Q) := by
  have hb : ∀ (k : Fin lp.trips) (acc : VAcc F),
      iprop(⌜acc = vfold row base lane x bs s k.val⌝ ∗ R)
        ⊢ wp frame (wpE (defs₀ (F := F)) 𝒱₀ (VT d L) none) Set.univ (body k acc)
            fun acc' => (iprop(⌜acc' = vfold row base lane x bs s (k.val + 1)⌝ ∗ R) : sProp 𝕄) := by
    intro k acc
    have hk : k.val < N := lt_of_lt_of_eq k.isLt hn
    iintro ⟨%e, H⟩
    subst e
    iapply (hbody k hk _)
    iexact H
  iintro H HK
  iapply (Scf.wp_for_bind frame (wpE (defs₀ (F := F)) 𝒱₀ (VT d L) none) Set.univ lp.lb lp.ub lp.st hok s body
    (fun k acc => (iprop(⌜acc = vfold row base lane x bs s k⌝ ∗ R) : sProp 𝕄)) hb) $$ [H]
  · isplitr
    · ipureintro; rfl
    · iexact H
  iintro %acc ⟨%e, H⟩
  rw [show Scf.trips lp.lb lp.ub lp.st = N from hn] at e
  subst e
  iapply HK
  iexact H

end Cert.Proof

end
-- ==== Proof.TcRun.lean ====
/- The TensorCore kernel's body run at one grid point: from the five scratch buffers holding the lanes' records
   it leaves them holding the records after the block's sixteen groups, and at the last point the results too. -/
module

public import proofs.«01_k».proof.Proof.TcStep
public import proofs.«01_k».proof.Proof.ScSetup
public import Idealize.ShloMosaic.Lib.VecWindow

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- The records before the first column. -/
def tinit : TAcc F where
  m := broadcast S32x512 (Scalar.ofBits .f32 0xFF800000#32)
  z := broadcast S32x512 (Scalar.ofBits .f32 0x00000000#32)
  t := broadcast S32x512 (Scalar.ofBits .f32 0x00000000#32)
  w := broadcast S32x512 (Scalar.ofBits .f32 0xBF800000#32)
  i := vc 0#32

/-- A group of 512 columns of a block. -/
def tgrp (X : S32x8192.Idx → F .f32) (o : Fin 2 → ℕ) (h : ∀ a, o a + S32x512.size a ≤ S32x8192.size a) : FVec F S32x512 .f32 :=
  fun j => X ((Rect.unit (s := S32x8192) o S32x512.size h).idx j)

/-- The records a grid point starts from. -/
def tstart (i : grid1.Coords) (s : TAcc F) : TAcc F := if (i 0).val = 0 then tinit else s

/-- A block's sixteen groups. -/
def tblock (i : grid1.Coords) (X : S32x8192.Idx → F .f32) (s : TAcc F) : TAcc F :=
  TAcc.step i 7680#32 (TAcc.step i 7168#32 (TAcc.step i 6656#32 (TAcc.step i 6144#32 (TAcc.step i 5632#32 (TAcc.step i 5120#32 (TAcc.step i 4608#32 (TAcc.step i 4096#32 (TAcc.step i 3584#32 (TAcc.step i 3072#32 (TAcc.step i 2560#32 (TAcc.step i 2048#32 (TAcc.step i 1536#32 (TAcc.step i 1024#32 (TAcc.step i 512#32 (TAcc.step i 0#32 s (tgrp X ![0, 0] inb_S32x8192_S32x512_0_0)) (tgrp X ![0, 512] inb_S32x8192_S32x512_0_512)) (tgrp X ![0, 1024] inb_S32x8192_S32x512_0_1024)) (tgrp X ![0, 1536] inb_S32x8192_S32x512_0_1536)) (tgrp X ![0, 2048] inb_S32x8192_S32x512_0_2048)) (tgrp X ![0, 2560] inb_S32x8192_S32x512_0_2560)) (tgrp X ![0, 3072] inb_S32x8192_S32x512_0_3072)) (tgrp X ![0, 3584] inb_S32x8192_S32x512_0_3584)) (tgrp X ![0, 4096] inb_S32x8192_S32x512_0_4096)) (tgrp X ![0, 4608] inb_S32x8192_S32x512_0_4608)) (tgrp X ![0, 5120] inb_S32x8192_S32x512_0_5120)) (tgrp X ![0, 5632] inb_S32x8192_S32x512_0_5632)) (tgrp X ![0, 6144] inb_S32x8192_S32x512_0_6144)) (tgrp X ![0, 6656] inb_S32x8192_S32x512_0_6656)) (tgrp X ![0, 7168] inb_S32x8192_S32x512_0_7168)) (tgrp X ![0, 7680] inb_S32x8192_S32x512_0_7680)

theorem first_iff (i : grid1.Coords) :
    Scalar.cmpi .ne (Scalar.extui (Scalar.cmpi .eq (BitVec.ofNat 32 (i 0).val) 0#32) : BitVec 32) 0#32 = 1#1 ↔ (i 0).val = 0 := by
  have h : ∀ n : Fin 94, Scalar.cmpi .ne (Scalar.extui (Scalar.cmpi .eq (BitVec.ofNat 32 n.val) 0#32) : BitVec 32) 0#32 = 1#1 ↔ n.val = 0 := by decide
  exact h (i 0)

theorem last_iff (i : grid1.Coords) : k1_cond2 i = 1#1 ↔ (i 0).val = 93 := by
  have h : ∀ n : Fin 94, Scalar.cmpi .ne (Scalar.extui (Scalar.cmpi .eq (BitVec.ofNat 32 n.val) 93#32) : BitVec 32) 0#32 = 1#1 ↔ n.val = 93 := by decide
  exact h (i 0)

/-- A buffer held whole, reading `X`. -/
abbrev has (c : Dev nD) {S : Shape} {e : EltTy} (M : Memref sig .tc .vmem S e) (X : S.Idx → Elt F e) : sProp 𝕄 :=
  iprop(∃ f : Buf (Elt F) (M.view.loc (c : Thread nD τ)), ⌜M.view.read (Elt F) f = X⌝ ∗ (M.view.loc (c : Thread nD τ) ↦{fullShare} f))

/-- The buffers the body works on. -/
def tcBufs (c : Dev nD) (arg1 : Memref sig .tc .vmem S32x8192 .f32)  (arg2 : Memref sig .tc .vmem S32x512 .f32)  (arg3 : Memref sig .tc .vmem S32x512 .f32)  (arg4 : Memref sig .tc .vmem S32x512 .i32)  (arg5 : Memref sig .tc .vmem S32x512 .f32)  (arg6 : Memref sig .tc .vmem S32x512 .f32)  (arg7 : Memref sig .tc .vmem S32x512 .f32)  (arg8 : Memref sig .tc .vmem S32x512 .f32)  (arg9 : Memref sig .tc .vmem S32x512 .i32)
    (X : S32x8192.Idx → F .f32) (Y2 Y3 : S32x512.Idx → F .f32) (Y4 : S32x512.Idx → BitVec 32) (s : TAcc F) : sProp 𝕄 :=
  iprop(has c arg1 X ∗ has c arg2 Y2 ∗ has c arg3 Y3 ∗ has (e := .i32) c arg4 Y4
    ∗ has c arg5 s.m ∗ has c arg6 s.z ∗ has c arg7 s.t ∗ has c arg8 s.w ∗ has (e := .i32) c arg9 s.i)

theorem tacc_eq {s : TAcc F} {m z t w : FVec F S32x512 .f32} {i : IV} (hm : m = s.m) (hz : z = s.z) (ht : t = s.t) (hw : w = s.w)
    (hi : i = s.i) : (⟨m, z, t, w, i⟩ : TAcc F) = s := by
  subst hm hz ht hw hi; rfl

theorem acc_eq {S : Shape} {e : EltTy} (M : Memref sig .tc .vmem S e) (f : M.view.ty.Contents (Elt F))
    {off : Fin S.rank → ℕ} (inb : ∀ a, off a + S.size a ≤ S.size a) {w w' : S.Idx → Elt F e} (L : List (View.Piece (Elt F) S e)) (hc : S.ShapeCasts S) (h : w = w') :
    M.view.read (Elt F) (M.view.writes (Elt F) f (⟨Rect.unit off S.size inb, shapeCast S w hc⟩ :: L)) = w' := by
  rw [View.read_writes_full]; exact (shapeCast_self _ _).trans h

theorem out_eq {S : Shape} {e : EltTy} (M : Memref sig .tc .vmem S e) (f : M.view.ty.Contents (Elt F)) (i : grid1.Coords)
    {off : Fin S.rank → ℕ} (inb : ∀ a, off a + S.size a ≤ S.size a) {w w' : S.Idx → Elt F e} (L : List (View.Piece (Elt F) S e)) (h : w = w') :
    M.view.read (Elt F) (if hc : k1_cond2 i = 1#1 then M.view.writes (Elt F) f (⟨Rect.unit off S.size inb, w⟩ :: L) else f)
      = if (i 0).val = 93 then w' else M.view.read (Elt F) f := by
  by_cases hl : (i 0).val = 93
  · rw [dif_pos ((last_iff i).2 hl), if_pos hl, View.read_writes_full]; exact h
  · rw [dif_neg (fun h => hl ((last_iff i).1 h)), if_neg hl]

theorem tc_run_mid (c : Dev nD) (i : grid1.Coords) (h0 : (i 0).val ≠ 0) (arg1 : Memref sig .tc .vmem S32x8192 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .i32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .i32) (harg9 : arg9.IsWhole)
    (X : S32x8192.Idx → F .f32) (Y2 Y3 : S32x512.Idx → F .f32) (Y4 : S32x512.Idx → BitVec 32) (s : TAcc F) (E : Set ℕ) :
    tcBufs c arg1 arg2 arg3 arg4 arg5 arg6 arg7 arg8 arg9 X Y2 Y3 Y4 s
      ⊢ wp frame (wpE (defs₀ (F := F)) Variants.none (c : Thread nD τ) none) E (tcProg i arg1 harg1 arg2 harg2 arg3 harg3 arg4 harg4 arg5 harg5 arg6 harg6 arg7 harg7 arg8 harg8 arg9 harg9)
        fun _ => tcBufs c arg1 arg2 arg3 arg4 arg5 arg6 arg7 arg8 arg9 X (if (i 0).val = 93 then (tblock i X s).m else Y2)
          (if (i 0).val = 93 then (tblock i X s).z else Y3) (if (i 0).val = 93 then (tblock i X s).i else Y4) (tblock i X s) := by
  unfold tcProg tcBufs
  rw [dif_neg (fun h => h0 ((first_iff i).1 h))]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  subst e1 e2 e3 e4
  sl_exec
  have es : tc_run_mid.sl.s c i arg1 arg5 arg6 arg7 arg8 arg9 f1 f5 f6 f7 f8 f9 = tblock i (arg1.view.read (Elt F) f1) s := by
    have hs : tc_run_mid.sl.s c i arg1 arg5 arg6 arg7 arg8 arg9 f1 f5 f6 f7 f8 f9 = tblock i (arg1.view.read (Elt F) f1)
      ⟨arg5.view.readAt (Elt F) (Rect.unit (s := S32x512) ![0, 0] S32x512.size inb_S32x512_S32x512_0_0).toLoadRect f5,
       arg6.view.readAt (Elt F) (Rect.unit (s := S32x512) ![0, 0] S32x512.size inb_S32x512_S32x512_0_0).toLoadRect f6,
       arg7.view.readAt (Elt F) (Rect.unit (s := S32x512) ![0, 0] S32x512.size inb_S32x512_S32x512_0_0).toLoadRect f7,
       arg8.view.readAt (Elt F) (Rect.unit (s := S32x512) ![0, 0] S32x512.size inb_S32x512_S32x512_0_0).toLoadRect f8,
       arg9.view.readAt (Elt F) (Rect.unit (s := S32x512) ![0, 0] S32x512.size inb_S32x512_S32x512_0_0).toLoadRect f9⟩ := rfl
    rw [hs]
    exact congrArg _ (tacc_eq ((View.readAt_full ..).trans e5) ((View.readAt_full ..).trans e6) ((View.readAt_full ..).trans e7)
      ((View.readAt_full ..).trans e8) ((View.readAt_full ..).trans e9))
  sl_step
  isplitl [H1]; · iexists _; isplitr; swap; (· iexact H1); ipureintro; rfl
  isplitl [H2]; · iexists _; isplitr; swap; (· iexact H2); ipureintro; exact out_eq _ _ i inb_S32x512_S32x512_0_0 _ (congrArg TAcc.m es)
  isplitl [H3]; · iexists _; isplitr; swap; (· iexact H3); ipureintro; exact out_eq _ _ i inb_S32x512_S32x512_0_0 _ (congrArg TAcc.z es)
  isplitl [H4]; · iexists _; isplitr; swap; (· iexact H4); ipureintro; exact out_eq _ _ i inb_S32x512_S32x512_0_0 _ (congrArg TAcc.i es)
  isplitl [H5]; · iexists _; isplitr; swap; (· iexact H5); ipureintro; exact acc_eq _ _ inb_S32x512_S32x512_0_0 _ _ (congrArg TAcc.m es)
  isplitl [H6]; · iexists _; isplitr; swap; (· iexact H6); ipureintro; exact acc_eq _ _ inb_S32x512_S32x512_0_0 _ _ (congrArg TAcc.z es)
  isplitl [H7]; · iexists _; isplitr; swap; (· iexact H7); ipureintro; exact acc_eq _ _ inb_S32x512_S32x512_0_0 _ _ (congrArg TAcc.t es)
  isplitl [H8]; · iexists _; isplitr; swap; (· iexact H8); ipureintro; exact acc_eq _ _ inb_S32x512_S32x512_0_0 _ _ (congrArg TAcc.w es)
  iexists _; isplitr; swap; (· iexact H9); ipureintro; exact acc_eq _ _ inb_S32x512_S32x512_0_0 _ _ (congrArg TAcc.i es)

set_option maxHeartbeats 1000000 in
theorem tc_run_first (c : Dev nD) (i : grid1.Coords) (h0 : (i 0).val = 0) (arg1 : Memref sig .tc .vmem S32x8192 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .i32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .i32) (harg9 : arg9.IsWhole)
    (X : S32x8192.Idx → F .f32) (Y2 Y3 : S32x512.Idx → F .f32) (Y4 : S32x512.Idx → BitVec 32) (s : TAcc F) (E : Set ℕ) :
    tcBufs c arg1 arg2 arg3 arg4 arg5 arg6 arg7 arg8 arg9 X Y2 Y3 Y4 s
      ⊢ wp frame (wpE (defs₀ (F := F)) Variants.none (c : Thread nD τ) none) E (tcProg i arg1 harg1 arg2 harg2 arg3 harg3 arg4 harg4 arg5 harg5 arg6 harg6 arg7 harg7 arg8 harg8 arg9 harg9)
        fun _ => tcBufs c arg1 arg2 arg3 arg4 arg5 arg6 arg7 arg8 arg9 X (if (i 0).val = 93 then (tblock i X tinit).m else Y2)
          (if (i 0).val = 93 then (tblock i X tinit).z else Y3) (if (i 0).val = 93 then (tblock i X tinit).i else Y4) (tblock i X tinit) := by
  unfold tcProg tcBufs
  rw [dif_pos ((first_iff i).2 h0)]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  subst e1 e2 e3 e4
  sl_exec
  have es : tc_run_first.sl.s c i arg1 arg5 arg6 arg7 arg8 arg9 f1 = tblock i (arg1.view.read (Elt F) f1) tinit := by
    have hs : tc_run_first.sl.s c i arg1 arg5 arg6 arg7 arg8 arg9 f1 = tblock i (arg1.view.read (Elt F) f1)
      ⟨tc_run_first.sl.m arg5, tc_run_first.sl.z arg6, tc_run_first.sl.t arg7, tc_run_first.sl.w arg8, tc_run_first.sl.ix arg9⟩ := rfl
    rw [hs]
    exact congrArg _ (tacc_eq ((View.readCov_full arg5.view inb_S32x512_S32x512_0_0 inb_S32x512_S32x512_0_0 _ []).trans (shapeCast_self _ _))
      ((View.readCov_full arg6.view inb_S32x512_S32x512_0_0 inb_S32x512_S32x512_0_0 _ []).trans (shapeCast_self _ _))
      ((View.readCov_full arg7.view inb_S32x512_S32x512_0_0 inb_S32x512_S32x512_0_0 _ []).trans (shapeCast_self _ _))
      ((View.readCov_full arg8.view inb_S32x512_S32x512_0_0 inb_S32x512_S32x512_0_0 _ []).trans (shapeCast_self _ _))
      ((View.readCov_full arg9.view inb_S32x512_S32x512_0_0 inb_S32x512_S32x512_0_0 _ []).trans (shapeCast_self _ _)))
  sl_step
  isplitl [H1]; · iexists _; isplitr; swap; (· iexact H1); ipureintro; rfl
  isplitl [H2]; · iexists _; isplitr; swap; (· iexact H2); ipureintro; exact out_eq _ _ i inb_S32x512_S32x512_0_0 _ (congrArg TAcc.m es)
  isplitl [H3]; · iexists _; isplitr; swap; (· iexact H3); ipureintro; exact out_eq _ _ i inb_S32x512_S32x512_0_0 _ (congrArg TAcc.z es)
  isplitl [H4]; · iexists _; isplitr; swap; (· iexact H4); ipureintro; exact out_eq _ _ i inb_S32x512_S32x512_0_0 _ (congrArg TAcc.i es)
  isplitl [H5]; · iexists _; isplitr; swap; (· iexact H5); ipureintro; exact acc_eq _ _ inb_S32x512_S32x512_0_0 _ _ (congrArg TAcc.m es)
  isplitl [H6]; · iexists _; isplitr; swap; (· iexact H6); ipureintro; exact acc_eq _ _ inb_S32x512_S32x512_0_0 _ _ (congrArg TAcc.z es)
  isplitl [H7]; · iexists _; isplitr; swap; (· iexact H7); ipureintro; exact acc_eq _ _ inb_S32x512_S32x512_0_0 _ _ (congrArg TAcc.t es)
  isplitl [H8]; · iexists _; isplitr; swap; (· iexact H8); ipureintro; exact acc_eq _ _ inb_S32x512_S32x512_0_0 _ _ (congrArg TAcc.w es)
  iexists _; isplitr; swap; (· iexact H9); ipureintro; exact acc_eq _ _ inb_S32x512_S32x512_0_0 _ _ (congrArg TAcc.i es)

theorem tc_run (c : Dev nD) (i : grid1.Coords) (arg1 : Memref sig .tc .vmem S32x8192 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .i32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .i32) (harg9 : arg9.IsWhole)
    (X : S32x8192.Idx → F .f32) (Y2 Y3 : S32x512.Idx → F .f32) (Y4 : S32x512.Idx → BitVec 32) (s : TAcc F) (E : Set ℕ) :
    tcBufs c arg1 arg2 arg3 arg4 arg5 arg6 arg7 arg8 arg9 X Y2 Y3 Y4 s
      ⊢ wp frame (wpE (defs₀ (F := F)) Variants.none (c : Thread nD τ) none) E (cc1__tc_kernel (F := F) i arg1 harg1 arg2 harg2 arg3 harg3 arg4 harg4 arg5 harg5 arg6 harg6 arg7 harg7 arg8 harg8 arg9 harg9)
        fun _ => tcBufs c arg1 arg2 arg3 arg4 arg5 arg6 arg7 arg8 arg9 X (if (i 0).val = 93 then (tblock i X (tstart i s)).m else Y2)
          (if (i 0).val = 93 then (tblock i X (tstart i s)).z else Y3) (if (i 0).val = 93 then (tblock i X (tstart i s)).i else Y4) (tblock i X (tstart i s)) := by
  rw [tc_eq]
  unfold tstart
  by_cases h0 : (i 0).val = 0
  · rw [if_pos h0]
    exact tc_run_first c i h0 arg1 harg1 arg2 harg2 arg3 harg3 arg4 harg4 arg5 harg5 arg6 harg6 arg7 harg7 arg8 harg8 arg9 harg9 X Y2 Y3 Y4 s E
  · rw [if_neg h0]
    exact tc_run_mid c i h0 arg1 harg1 arg2 harg2 arg3 harg3 arg4 harg4 arg5 harg5 arg6 harg6 arg7 harg7 arg8 harg8 arg9 harg9 X Y2 Y3 Y4 s E

end Cert.Proof
-- ==== Proof.TcBody.lean ====
/- The TensorCore kernel's grid: the five scratch buffers hold the records of the columns of the blocks so far,
   and the last point leaves the records of all of them in the three results. -/
module

public import proofs.«01_k».proof.Proof.TcRun
public import proofs.«01_k».proof.Proof.Gen.KernelIdeal.Points
public import Idealize.ShloMosaic.Lib.Pipeline.FrameBody

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [∀ e, Nonempty (Elt F e)]

local notation "𝕄" => MT nD τ sig (HIx 1) (Elt F) ℕ UU ℕ

/-! ## The records, point by point -/

/-- The grid point of a number. -/
def tcoord (n : ℕ) : grid1.Coords := fun | 0 => (⟨n % 94, Nat.mod_lt _ (by decide)⟩ : Fin 94)

theorem coords_eq (t : Fin cfg1.N) : grid1.coords t = tcoord t.val := by
  have h : ∀ t : Fin grid1.N, (grid1.coords t 0).val = t.val % 94 := by decide +kernel
  funext a
  match a with
  | 0 => exact Fin.ext (h t)

theorem coord0 (t : Fin cfg1.N) : (grid1.coords t 0).val = t.val := by
  have h : ∀ t : Fin grid1.N, (grid1.coords t 0).val = t.val := by decide +kernel
  exact h t

/-- The block of columns at point `n`. -/
def tX (A : S32x1000000.Idx → F .f32) (n : ℕ) : S32x8192.Idx → F .f32 :=
  fun j => rowOf A (j 0) (229376 + 8192 * n + (j 1).val)

/-- The records after `n` points. -/
def tstate (A : S32x1000000.Idx → F .f32) : ℕ → TAcc F
  | 0 => tinit
  | n + 1 => tblock (tcoord n) (tX A n) (tstate A n)

theorem tstart_state (A : S32x1000000.Idx → F .f32) (t : Fin cfg1.N) (s : TAcc F) (h : t.val = 0 ∨ s = tstate A t.val) :
    tblock (grid1.coords t) (tX A t.val) (tstart (grid1.coords t) s) = tstate A (t.val + 1) := by
  show _ = tblock (tcoord t.val) (tX A t.val) (tstate A t.val)
  rw [← coords_eq]
  congr 1
  unfold tstart
  rw [coord0]
  by_cases h0 : t.val = 0
  · rw [if_pos h0, h0]; rfl
  · rw [if_neg h0]; exact h.resolve_left h0

/-! ## The proof data, at an entry valuation -/

variable (V : (c : Dev nD) → (b : Ref sig .tc) → Buf (Elt F) ((c : Thread nD τ).loc b))

/-- The logits at the valuation. -/
abbrev lg (c : Dev nD) : S32x1000000.Idx → F .f32 := V c main_arg0

/-- The scratch buffers at records. -/
def scr (c : Dev nD) (s : TAcc F) : sProp 𝕄 :=
  iprop(has c (Memref.whole cc1_scratch0) s.m ∗ has c (Memref.whole cc1_scratch1) s.z ∗ has c (Memref.whole cc1_scratch2) s.t
    ∗ has c (Memref.whole cc1_scratch3) s.w ∗ has (e := .i32) c (Memref.whole cc1_scratch4) s.i)

/-- The scratch buffers before point `n`: any contents before the first. -/
def Φn (c : Dev nD) (n : ℕ) : sProp 𝕄 :=
  iprop(∃ s : TAcc F, ⌜n = 0 ∨ s = tstate (lg V c) n⌝ ∗ scr c s)

/-- The waits a core may have recorded when it enters. -/
abbrev rec0 (c : Dev nD) : Set (SemLoc sig × HIx 1) := {p | (K (F := F)).lev ((c : Thread nD τ), p.1) p.2 ≤ 8}

/-- The region's proof data from the valuation `V`. -/
def dat (c : Dev nD) : Dat τ (Elt F) (HIx 1) ℕ UU ℕ cfg1 c where
  A w := V c (Pipeline.arrRef spec1 w)
  after w t := match w with
    | ⟨0, _⟩ => tX (lg V c) t.val
    | ⟨1, _⟩ => (tstate (lg V c) (t.val + 1)).m
    | ⟨2, _⟩ => (tstate (lg V c) (t.val + 1)).z
    | ⟨3, _⟩ => (tstate (lg V c) (t.val + 1)).i
  Φ t := Φn V c t.val
  q _ := fullShare
  owed _ := 0
  recorded _ := rec0 (F := F) c

theorem ext0 (t : Fin cfg1.N) : ∀ a : Fin 2, S32x8192.size a ≤ win1_0.xsize (grid1.coords t) a := by
  have h : ∀ t : Fin grid1.N, ∀ a : Fin 2, S32x8192.size a ≤ win1_0.xsize (grid1.coords t) a := by decide +kernel
  exact h t

theorem off0 (t : Fin cfg1.N) : win1_0.index t 0 = 0 ∧ win1_0.index t 1 = t.val + 28 := by
  have h : ∀ t : Fin grid1.N, win1_0.index t 0 = 0 ∧ win1_0.index t 1 = t.val + 28 := by decide +kernel
  exact h t

/-- A fetch fills the whole buffer with the block's columns. -/
theorem before_in (c : Dev nD) (t : Fin cfg1.N) (d) : (dat V c).before 0 t d = tX (lg V c) t.val := by
  rw [Dat.before_fetched (dat V c) 0 t (fetch1_0 t)]
  funext j
  have hj : win1_0.moved (grid1.coords t) j = true :=
    (win1_0.moved_iff _ j).mpr fun a => lt_of_lt_of_le (j a).isLt (ext0 t a)
  have ht : t.val < 94 := lt_of_lt_of_eq t.isLt N_1
  unfold Dat.fetched Pipeline.Window.fill
  rw [dif_pos hj]
  show V c main_arg0 _ = V c main_arg0 _
  congr 1
  funext a
  refine Fin.ext ?_
  match a with
  | 0 =>
    show win1_0.index t 0 * 32 + 1 * (j 0).val = (j 0).val
    rw [(off0 t).1]; omega
  | 1 =>
    show win1_0.index t 1 * 8192 + 1 * (j 1).val = (229376 + 8192 * t.val + (j 1).val) % 1000000
    have h1 : (j 1).val < 8192 := (j 1).isLt
    rw [(off0 t).2, Nat.mod_eq_of_lt (by omega)]; omega

/-- A whole memref owned is its buffer held. -/
theorem owns_has (c : Dev nD) {S : Shape} {e : EltTy} (M : Memref sig .tc .vmem S e) (h : M.IsWhole) (X : S.Idx → Elt F e) :
    (owns (c : Thread nD τ) M fullShare X : sProp 𝕄) = has c M X := by
  unfold owns
  rw [h.set_eq_univ]

theorem idle_last (t : Fin cfg1.N) : (!(k1_cond2 (grid1.coords t) == 1#1)) = decide (t.val ≠ 93) := by
  by_cases h : t.val = 93
  · rw [(last_iff _).2 ((coord0 t).trans h)]; simp [h]
  · have : k1_cond2 (grid1.coords t) ≠ 1#1 := fun e => h ((coord0 t).symm.trans ((last_iff _).1 e))
    simp [h, this]

/-- What the body leaves in a result's buffer: the records at the last point, what it found before. -/
theorem leaves_out (c : Dev nD) (t : Fin cfg1.N) (w : Fin 4) (hi : cfg1.idle w (cfg1.grid.coords t) = decide (t.val ≠ 93))
    (hf : (cfg1.win w).flush t = true ↔ t.val % 94 = 93) (d : (cfg1.win w).block.Idx → Elt F (cfg1.win w).elt) :
    (owns (c : Thread nD τ) ((cfg1.win w).stage (cfg1.slots t w)) fullShare (if t.val = 93 then (dat V c).after w t else (dat V c).before w t d) : sProp 𝕄)
      ⊢ match cfg1.idle w (cfg1.grid.coords t) with
        | true =>
          match (cfg1.win w).flush t with
          | false => iprop(∃ d, owns (c : Thread nD τ) ((cfg1.win w).stage (cfg1.slots t w)) fullShare ((dat V c).before w t d))
          | true => owns (c : Thread nD τ) ((cfg1.win w).stage (cfg1.slots t w)) fullShare ((dat V c).after w t)
        | false => owns (c : Thread nD τ) ((cfg1.win w).stage (cfg1.slots t w)) fullShare ((dat V c).after w t) := by
  have ht : t.val < 94 := lt_of_lt_of_eq t.isLt N_1
  rw [hi]
  by_cases h : t.val = 93
  · rw [if_pos h]; simp only [h, ne_eq, not_true_eq_false, decide_false]; exact .rfl
  · have hfl : (cfg1.win w).flush t = false := by
      rw [← Bool.not_eq_true, hf]; omega
    rw [if_neg h, hfl]
    simp only [ne_eq, h, not_false_eq_true, decide_true]
    iintro H; iexists d; iexact H

set_option maxHeartbeats 1000000 in
/-- The body at every point. -/
theorem body_obligation (c : Dev nD) : BodyObligation (dat V c) (defs₀ (F := F)) 𝒱₀ none Set.univ := fun t => by
  rw [bigSep_W1, bigSep_W1]
  dsimp only
  rw [show (dat V c).Φ t.castSucc = Φn V c t.val from rfl, show (dat V c).Φ t.succ = Φn V c (t.val + 1) from rfl,
    show (dat V c).owesAt none t.succ = (dat V c).owesAt none t.castSucc from rfl]
  unfold Φn scr
  iintro ⟨⟨%s, %hs, HΦ⟩, Howes, ⟨%d0, H0⟩, ⟨%d1, H1⟩, ⟨%d2, H2⟩, ⟨%d3, H3⟩⟩
  rw [before_in]
  have hw0 := hstage1_0 ((cfg1.slots t 0).cast nbuf1_0)
  have hw1 := hstage1_1 ((cfg1.slots t 1).cast nbuf1_1)
  have hw2 := hstage1_2 ((cfg1.slots t 2).cast nbuf1_2)
  have hw3 := hstage1_3 ((cfg1.slots t 3).cast nbuf1_3)
  have hrun := tc_run (F := F) c (grid1.coords t) (win1_0.stage (cfg1.slots t 0)) hw0 (win1_1.stage (cfg1.slots t 1)) hw1
    (win1_2.stage (cfg1.slots t 2)) hw2 (win1_3.stage (cfg1.slots t 3)) hw3 (Memref.whole cc1_scratch0) (Memref.isWhole_whole _)
    (Memref.whole cc1_scratch1) (Memref.isWhole_whole _) (Memref.whole cc1_scratch2) (Memref.isWhole_whole _)
    (Memref.whole cc1_scratch3) (Memref.isWhole_whole _) (Memref.whole cc1_scratch4) (Memref.isWhole_whole _)
    (tX (lg V c) t.val) ((dat V c).before 1 t d1) ((dat V c).before 2 t d2) ((dat V c).before 3 t d3) s Set.univ
  rw [tstart_state _ _ _ hs, coord0] at hrun
  unfold tcBufs at hrun
  iapply (wp_wand_r _ _ _)
  isplitl [HΦ H0 H1 H2 H3]
  · iapply hrun
    isplitl [H0]; · iapply (Entails.of_eq (owns_has c _ hw0 _)); iexact H0
    isplitl [H1]; · iapply (Entails.of_eq (owns_has c _ hw1 _)); iexact H1
    isplitl [H2]; · iapply (Entails.of_eq (owns_has c _ hw2 _)); iexact H2
    isplitl [H3]; · iapply (Entails.of_eq (owns_has c _ hw3 _)); iexact H3
    iexact HΦ
  iintro %a
  iintro ⟨H0, H1, H2, H3, HΦ⟩
  isplitl [HΦ]
  · iexists _; isplitr; swap; (· iexact HΦ); ipureintro; exact Or.inr rfl
  isplitl [Howes]; · iexact Howes
  isplitl [H0]; · iapply (Entails.of_eq (owns_has c _ hw0 _).symm); iexact H0
  isplitl [H1]; · iapply (leaves_out V c t 1 (idle_last t) (flush1_1 t) d1); iapply (Entails.of_eq (owns_has c _ hw1 _).symm); iexact H1
  isplitl [H2]; · iapply (leaves_out V c t 2 (idle_last t) (flush1_2 t) d2); iapply (Entails.of_eq (owns_has c _ hw2 _).symm); iexact H2
  iapply (leaves_out V c t 3 (idle_last t) (flush1_3 t) d3); iapply (Entails.of_eq (owns_has c _ hw3 _).symm); iexact H3

end Cert.Proof
-- ==== Proof.TcRegion.lean ====
/- The TensorCore kernel's region: entered with every unscoped buffer at a valuation, left with its three results
   at the records of all the blocks. -/
module

public import proofs.«01_k».proof.Proof.TcBody
public import Idealize.ShloMosaic.Lib.Pipeline.RegionsLoop
public import Idealize.ShloMosaic.Lib.Pipeline.Value

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [∀ e, Nonempty (Elt F e)]

local notation "𝕄" => MT nD τ sig (HIx 1) (Elt F) ℕ UU ℕ

variable (V : (c : Dev nD) → (b : Ref sig .tc) → Buf (Elt F) ((c : Thread nD τ).loc b))

/-! ## The results after the grid -/

theorem out_ext (t : Fin cfg1.N) (a : Fin 2) :
    (S32x512.size a ≤ win1_1.xsize (grid1.coords t) a ∧ S32x512.size a ≤ win1_2.xsize (grid1.coords t) a ∧ S32x512.size a ≤ win1_3.xsize (grid1.coords t) a)
      ∧ win1_1.index t a = 0 ∧ win1_2.index t a = 0 ∧ win1_3.index t a = 0 := by
  have h : ∀ t : Fin grid1.N, ∀ a : Fin 2,
      (S32x512.size a ≤ win1_1.xsize (grid1.coords t) a ∧ S32x512.size a ≤ win1_2.xsize (grid1.coords t) a ∧ S32x512.size a ≤ win1_3.xsize (grid1.coords t) a)
        ∧ win1_1.index t a = 0 ∧ win1_2.index t a = 0 ∧ win1_3.index t a = 0 := by decide +kernel
  exact h t a

theorem last_lt : 93 < cfg1.N := by rw [show cfg1.N = 94 from N_1]; decide

theorem arr_m (c : Dev nD) : (dat V c).arrAt 1 cfg1.N = (tstate (lg V c) 94).m := by
  refine Dat.arrAt_eq_of_cover (dat := dat V c) 1 _ (fun t hf => ?_) (fun i => ⟨⟨93, last_lt⟩, (flush1_1 _).2 rfl, ?_⟩)
  · have ht : t.val < 94 := lt_of_lt_of_eq t.isLt N_1
    have h93 : t.val = 93 := by have := (flush1_1 t).1 hf; omega
    funext y
    show (tstate (lg V c) (t.val + 1)).m _ = (tstate (lg V c) 94).m _
    rw [h93]
    congr 1
    funext a
    exact Fin.ext (Pipeline.Window.rect_emb_val_of_index_zero win1_1 t a (out_ext t a).2.1 y).symm
  · let y : (win1_1.xblock (grid1.coords ⟨93, last_lt⟩)).Idx :=
      fun a => ⟨(i a).val, lt_of_lt_of_le (i a).isLt (out_ext ⟨93, last_lt⟩ a).1.1⟩
    have : i = (win1_1.blk ⟨93, last_lt⟩).view.emb y := by
      funext a
      exact Fin.ext (Pipeline.Window.rect_emb_val_of_index_zero win1_1 ⟨93, last_lt⟩ a (out_ext ⟨93, last_lt⟩ a).2.1 y).symm
    rw [this]
    exact (win1_1.blk ⟨93, last_lt⟩).view.emb_mem_set y

theorem arr_z (c : Dev nD) : (dat V c).arrAt 2 cfg1.N = (tstate (lg V c) 94).z := by
  refine Dat.arrAt_eq_of_cover (dat := dat V c) 2 _ (fun t hf => ?_) (fun i => ⟨⟨93, last_lt⟩, (flush1_2 _).2 rfl, ?_⟩)
  · have ht : t.val < 94 := lt_of_lt_of_eq t.isLt N_1
    have h93 : t.val = 93 := by have := (flush1_2 t).1 hf; omega
    funext y
    show (tstate (lg V c) (t.val + 1)).z _ = (tstate (lg V c) 94).z _
    rw [h93]
    congr 1
    funext a
    exact Fin.ext (Pipeline.Window.rect_emb_val_of_index_zero win1_2 t a (out_ext t a).2.2.1 y).symm
  · let y : (win1_2.xblock (grid1.coords ⟨93, last_lt⟩)).Idx :=
      fun a => ⟨(i a).val, lt_of_lt_of_le (i a).isLt (out_ext ⟨93, last_lt⟩ a).1.2.1⟩
    have : i = (win1_2.blk ⟨93, last_lt⟩).view.emb y := by
      funext a
      exact Fin.ext (Pipeline.Window.rect_emb_val_of_index_zero win1_2 ⟨93, last_lt⟩ a (out_ext ⟨93, last_lt⟩ a).2.2.1 y).symm
    rw [this]
    exact (win1_2.blk ⟨93, last_lt⟩).view.emb_mem_set y

theorem arr_i (c : Dev nD) : (dat V c).arrAt 3 cfg1.N = (tstate (lg V c) 94).i := by
  refine Dat.arrAt_eq_of_cover (dat := dat V c) 3 _ (fun t hf => ?_) (fun i => ⟨⟨93, last_lt⟩, (flush1_3 _).2 rfl, ?_⟩)
  · have ht : t.val < 94 := lt_of_lt_of_eq t.isLt N_1
    have h93 : t.val = 93 := by have := (flush1_3 t).1 hf; omega
    funext y
    show (tstate (lg V c) (t.val + 1)).i _ = (tstate (lg V c) 94).i _
    rw [h93]
    congr 1
    funext a
    exact Fin.ext (Pipeline.Window.rect_emb_val_of_index_zero win1_3 t a (out_ext t a).2.2.2 y).symm
  · let y : (win1_3.xblock (grid1.coords ⟨93, last_lt⟩)).Idx :=
      fun a => ⟨(i a).val, lt_of_lt_of_le (i a).isLt (out_ext ⟨93, last_lt⟩ a).1.2.2⟩
    have : i = (win1_3.blk ⟨93, last_lt⟩).view.emb y := by
      funext a
      exact Fin.ext (Pipeline.Window.rect_emb_val_of_index_zero win1_3 ⟨93, last_lt⟩ a (out_ext ⟨93, last_lt⟩ a).2.2.2 y).symm
    rw [this]
    exact (win1_3.blk ⟨93, last_lt⟩).view.emb_mem_set y

/-! ## The region over the thread state -/

/-- The pipeline's tables: none. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- A core that owes nothing, its recorded waits below the handshakes' last. -/
def idleOwes (c : Dev nD) : sProp 𝕄 :=
  iprop(∃ W, ⌜(K (F := F)).WBelow (c : Thread nD τ) W 8⌝ ∗ owes (c : Thread nD τ) (0 : CellTallies nD τ sig (HIx 1)) W)

theorem owes_in (c : Dev nD) (t : Fin (cfg1.N + 1)) : (idleOwes (F := F) c : sProp 𝕄) ⊢ (dat V c).owesAt none t := by
  unfold idleOwes Pipeline.Dat.owesAt Pipeline.owesWithin
  iintro ⟨%W, %hW, H⟩
  iexists W
  isplitr
  · ipureintro; exact fun p hp => Or.inl (hW p hp)
  iexact H

theorem owes_out (c : Dev nD) (t : Fin (cfg1.N + 1)) : (dat V c).owesAt none t ⊢ (idleOwes (F := F) c : sProp 𝕄) := by
  unfold idleOwes Pipeline.Dat.owesAt Pipeline.owesWithin
  iintro ⟨%W, %hW, H⟩
  iexists W
  isplitr
  · ipureintro
    intro p hp
    rcases hW hp with h | ⟨w, s, h⟩
    · exact h
    · rw [h]; exact Nat.zero_le _
  iexact H

variable (Vp : (c : Dev nD) → (b : Ref sig .tc) → Buf (Elt F) ((c : Thread nD τ).loc b))

set_option backward.isDefEq.respectTransparency.types false in
/-- The region from the valuation `V`, left at `Vp`: the three results at the records of all the blocks, the
    rest as they were. -/
def reg (R : Dev nD → sProp 𝕄) (h1 : ∀ c, Vp c main_v1_0 = (tstate (lg V c) 94).m) (h2 : ∀ c, Vp c main_v1_1 = (tstate (lg V c) 94).z)
    (h3 : ∀ c, Vp c main_v1_2 = (tstate (lg V c) 94).i)
    (hne : ∀ c (b : Ref sig .tc), b ≠ main_v1_0 → b ≠ main_v1_1 → b ≠ main_v1_2 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ idleOwes c)
  post c := iprop(unscopedBufs c (Vp c) ∗ R c ∗ idleOwes c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in V c 0); iexact HO
    isplitr; · iempintro
    isplitl [Hrest] <;> iassumption
  hin c := by
    rw [show (pdats V 0 c).Φ 0 = Φn V c 0 from rfl]
    iintro ⟨-, -, Hr⟩
    ihave H := (Entails.of_eq (scopedRest1_eq c)) $$ Hr
    icases H with ⟨⟨%f0, H0⟩, ⟨%f1, H1⟩, ⟨%f2, H2⟩, ⟨%f3, H3⟩, ⟨%f4, H4⟩⟩
    unfold Φn scr has
    iexists (⟨f0, f1, f2, f3, f4⟩ : TAcc F)
    isplitr; · ipureintro; exact Or.inl rfl
    isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  hout c := by
    rw [Pipeline.ownSems0_none, show (pdats V 0 c).Φ (Fin.last _) = Φn V c cfg1.N from rfl]
    unfold Φn scr has
    iintro ⟨%s, -, ⟨%f0, -, H0⟩, ⟨%f1, -, H1⟩, ⟨%f2, -, H2⟩, ⟨%f3, -, H3⟩, ⟨%f4, -, H4⟩⟩
    isplitr; · iempintro
    isplitr; · iempintro
    iapply (Entails.of_eq (scopedRest1_eq c).symm)
    isplitl [H0]; · iexists f0; iexact H0
    isplitl [H1]; · iexists f1; iexact H1
    isplitl [H2]; · iexists f2; iexact H2
    isplitl [H3]; · iexists f3; iexact H3
    iexists f4; iexact H4
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide) (by decide) (by decide)).symm
        · exact (arr_m V c).trans (h1 c).symm
        · exact (arr_z V c).trans (h2 c).symm
        · exact (arr_i V c).trans (h3 c).symm)
      (fun b hb => hne c b (fun h => hb (h ▸ Finset.mem_image.mpr ⟨1, Finset.mem_univ _, rfl⟩))
        (fun h => hb (h ▸ Finset.mem_image.mpr ⟨2, Finset.mem_univ _, rfl⟩))
        (fun h => hb (h ▸ Finset.mem_image.mpr ⟨3, Finset.mem_univ _, rfl⟩)))
    iintro ⟨Ha, HO, -, Hrest, HR⟩
    imodintro
    isplitl [Ha Hrest]
    · iapply hjoin; isplitl [Ha] <;> iassumption
    isplitl [HR]; · iexact HR
    iapply (owes_out V c (Fin.last _)); iexact HO

end Cert.Proof
-- ==== Proof.Host.lean ====
/- The host operations after the two calls, as lists. -/
module

public import proofs.«01_k».proof.Proof.TcRegion
public import Idealize.ShloMosaic.Lib.StableHlo.RunHlo

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.StableHlo (IsSeq)
open Idealize.SL Idealize.SL.Sem

variable {F : FTy → Type} [FloatOps F]

abbrev ΛH : Labels := SparseCore.Sig (ΛP (F := F)) 1

/-- Two operations before a list's program. -/
theorem tail2 {α β : Type} {k : Prog (TpuEff nD τ sig (Elt F) (ΛH (F := F)) .tc) PUnit} {ops : List (HloOp τ sig (Elt F))}
    (p : Prog (TpuEff nD τ sig (Elt F) (ΛH (F := F)) .tc) α) (q : Prog (TpuEff nD τ sig (Elt F) (ΛH (F := F)) .tc) β) (h : IsSeq k ops) :
    (p >>= fun _ => q >>= fun _ => k) = (p >>= fun _ => q >>= fun _ => StableHlo.seq ops) := by
  rw [show k = StableHlo.seq ops from h]

/-- The two calls at the head of the program. -/
def callsThen (d : Dev nD) (k : Prog (TpuEff nD τ sig (Elt F) (ΛH (F := F)) .tc) PUnit) : Prog (TpuEff nD τ sig (Elt F) (ΛH (F := F)) .tc) PUnit :=
  (sc (F := F)).run d 0 >>= fun _ => Prog.lift (.customCall (SparseCore.inner (Pipeline.entry 0)) ()) >>= fun _ => k

def host0 : { ops : List (HloOp τ sig (Elt F)) // ∀ d, main_part0 (F := F) d = callsThen d (StableHlo.seq ops) } :=
  by apply Subtype.mk; intro d; unfold main_part0 callsThen; apply tail2; hlo_seq

def host1 : { ops : List (HloOp τ sig (Elt F)) // ∀ d, IsSeq (main_part1 (F := F) d) ops } :=
  by apply Subtype.mk; unfold main_part1; hlo_seq

def host2 : { ops : List (HloOp τ sig (Elt F)) // ∀ d, IsSeq (main_part2 (F := F) d) ops } :=
  by apply Subtype.mk; unfold main_part2; hlo_seq

def host3 : { ops : List (HloOp τ sig (Elt F)) // ∀ d, IsSeq (main_part3 (F := F) d) ops } :=
  by apply Subtype.mk; unfold main_part3; hlo_seq

def host4 : { ops : List (HloOp τ sig (Elt F)) // ∀ d, IsSeq (main_part4 (F := F) d) ops } :=
  by apply Subtype.mk; unfold main_part4; hlo_seq

theorem fresh0 : ∀ op ∈ (host0 (F := F)).1, op.fresh = ∅ := by
  dsimp only [host0]
  intro _ h
  repeat (cases h with | head => rfl | tail _ h => ?_)
  exact nomatch h

theorem bufs0 : (host0 (F := F)).1.Forall fun op => op.bufs ⊆ StableHlo.tcRefs τ sig := by
  dsimp only [host0]
  simp

theorem fresh1 : ∀ op ∈ (host1 (F := F)).1, op.fresh = ∅ := by
  dsimp only [host1]
  intro _ h
  repeat (cases h with | head => rfl | tail _ h => ?_)
  exact nomatch h

theorem bufs1 : (host1 (F := F)).1.Forall fun op => op.bufs ⊆ StableHlo.tcRefs τ sig := by
  dsimp only [host1]
  simp

theorem fresh2 : ∀ op ∈ (host2 (F := F)).1, op.fresh = ∅ := by
  dsimp only [host2]
  intro _ h
  repeat (cases h with | head => rfl | tail _ h => ?_)
  exact nomatch h

theorem bufs2 : (host2 (F := F)).1.Forall fun op => op.bufs ⊆ StableHlo.tcRefs τ sig := by
  dsimp only [host2]
  simp

theorem fresh3 : ∀ op ∈ (host3 (F := F)).1, op.fresh = ∅ := by
  dsimp only [host3]
  intro _ h
  repeat (cases h with | head => rfl | tail _ h => ?_)
  exact nomatch h

theorem bufs3 : (host3 (F := F)).1.Forall fun op => op.bufs ⊆ StableHlo.tcRefs τ sig := by
  dsimp only [host3]
  simp

theorem fresh4 : ∀ op ∈ (host4 (F := F)).1, op.fresh = ∅ := by
  dsimp only [host4]
  intro _ h
  repeat (cases h with | head => rfl | tail _ h => ?_)
  exact nomatch h

theorem bufs4 : (host4 (F := F)).1.Forall fun op => op.bufs ⊆ StableHlo.tcRefs τ sig := by
  dsimp only [host4]
  simp

end Cert.Proof
-- ==== Proof.ScBody.lean ====
/- The SparseCore kernel on one tile, with the values it leaves. -/
module

public import proofs.«01_k».proof.Proof.ScSetup
public import Idealize.ShloMosaic.Lib.WritesUnit

@[expose] public section

set_option synthInstance.maxSize 4096
set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S32x1000000 EltTy.f32)
local notation "mV" => (Memref.whole Cert.KernelIdeal.main_v0_0_scv : Memref Cert.KernelIdeal.sig Kind.scVector Space.hbm Cert.KernelIdeal.S32x32 EltTy.f32)
local notation "zV" => (Memref.whole Cert.KernelIdeal.main_v0_1_scv : Memref Cert.KernelIdeal.sig Kind.scVector Space.hbm Cert.KernelIdeal.S32x32 EltTy.f32)
local notation "iV" => (Memref.whole Cert.KernelIdeal.main_v0_2_scv : Memref Cert.KernelIdeal.sig Kind.scVector Space.hbm Cert.KernelIdeal.S32x32 EltTy.i32)
local notation "bV" => (Memref.whole Cert.KernelIdeal.cc0_scratch0 : Memref Cert.KernelIdeal.sig Kind.scVector Space.vmem Cert.KernelIdeal.S2x28672 EltTy.f32)
local notation "mB" => (Memref.whole Cert.KernelIdeal.cc0_scratch1 : Memref Cert.KernelIdeal.sig Kind.scVector Space.vmem Cert.KernelIdeal.S32 EltTy.f32)
local notation "zB" => (Memref.whole Cert.KernelIdeal.cc0_scratch2 : Memref Cert.KernelIdeal.sig Kind.scVector Space.vmem Cert.KernelIdeal.S32 EltTy.f32)
local notation "iB" => (Memref.whole Cert.KernelIdeal.cc0_scratch3 : Memref Cert.KernelIdeal.sig Kind.scVector Space.vmem Cert.KernelIdeal.S32 EltTy.i32)
local notation "tV" => (Memref.whole Cert.KernelIdeal.cc0_scratch6 : Memref Cert.KernelIdeal.sig Kind.scVector Space.vmem Cert.KernelIdeal.S576 EltTy.f32)

variable (m : (ℓ : Loc nD τ sig) → Buf (Elt F) ℓ) (d : Dev nD) (L : grid0.Coords) [FloatOps F]

abbrev row0 : Memref sig .scVector .vmem S28672 .f32 := rowM ![0, 0] inb_S2x28672_S1x28672_0_0
abbrev row1 : Memref sig .scVector .vmem S28672 .f32 := rowM ![1, 0] inb_S2x28672_S1x28672_1_0

/-- A tile's row of an output array, as the program slices it. -/
abbrev outRow {e : EltTy} (M : Memref sig .scVector .hbm S32x32 e) (L : grid0.Coords) : Memref sig .scVector .hbm S32 e :=
  (M.slice (Rect.unit (s := S32x32) (k0_off19 L) S1x32.size (k0_off19_inb L)) (fun _ => rfl)).squeeze S32 squeezes_S1x32_S32

abbrev csem (k : Nat) (hk : k < 11 := by decide) : DmaSem sig := ⟨k, hk⟩
/-- The six cells the task names, at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0)

/-- A copy of columns into a row of the buffer leaves them in the buffer's elements. -/
theorem row_holds (b : Fin 2) (o : Fin 2 → ℕ) (h) (ho : o = ![b.val, 0]) (f : S2x28672.Idx → F .f32) (w : S28672.Idx → F .f32)
    (x : ℕ → F .f32) (bs : ℕ) (hw : ∀ l : S28672.Idx, w l = x (bs + (l 0).val)) (l : Fin 28672) :
    (rowM o h).view.writes (Elt F) f [⟨Rect.whole S28672, w⟩] (ix2 b l) = x (bs + l.val) := by
  have e := read_row b o h ho ((rowM o h).view.writes (Elt F) f [⟨Rect.whole S28672, w⟩]) (ix1 l)
  rw [show (ix1 l : S28672.Idx) 0 = l from rfl] at e
  rw [← e, View.read_writes_whole]
  exact hw (ix1 l)

/-- A column loop over a row of the buffer that holds columns from `bs` leaves `vfold`'s records. -/
theorem loop_row (b : Fin 2) (o : Fin 2 → ℕ) (h) (ho : o = ![b.val, 0]) (lp : Scf.Loop 32) (hn : lp.trips = 896) (hok)
    (body : Fin lp.trips → VAcc F → Prog (TpuEff nD τ sig (Elt F) Λ₀ (.scVector (cV L) (jV L))) (VAcc F))
    (row base : BitVec 32) (lane : IVec S16 32) (x : ℕ → F .f32) (bs : ℕ)
    (f : S2x28672.Idx → F .f32) (hf : ∀ l : Fin 28672, f (ix2 b l) = x (bs + l.val))
    (o0 o1 : Fin lp.trips → Fin 2 → ℕ) (h0 : ∀ t a, o0 t a + S1x16.size a ≤ S2x28672.size a) (h1 : ∀ t a, o1 t a + S1x16.size a ≤ S2x28672.size a) (ho0 : ∀ t, o0 t = ![b.val, 32 * t.val]) (ho1 : ∀ t, o1 t = ![b.val, 32 * t.val + 16])
    (hbody : ∀ t s, body t s = tripProg L (bV) (o0 t) (o1 t) (h0 t) (h1 t) row base lane (Scf.iv 0#32 1#32 t) s)
    (s : VAcc F) {β : Type} {kk : VAcc F → Prog (TpuEff nD τ sig (Elt F) Λ₀ (.scVector (cV L) (jV L))) β} {Q : β → sProp 𝕄} :
    ((rowM o h).view.loc (VT d L) ↦[(rowM o h).view.set]{fullShare} f : sProp 𝕄)
      ⊢ iprop((((rowM o h).view.loc (VT d L) ↦[(rowM o h).view.set]{fullShare} f)
          -∗ (∀ r, ⌜vfold row base lane x bs s 896 = r⌝ -∗ wp frame (wpE (defs₀ (F := F)) 𝒱₀ (VT d L) none) Set.univ (kk r) Q))
          -∗ wp frame (wpE (defs₀ (F := F)) 𝒱₀ (VT d L) none) Set.univ (Scf.Loop.for lp hok s body >>= kk) Q) := by
  iintro H HK
  iapply (wp_fold d L _ 896 lp hn hok body row base lane x bs (fun t ht s => by
    rw [hbody]
    exact wp_trip d L b o h ho (o0 t) (o1 t) (h0 t) (h1 t) t.val (lt_of_lt_of_eq t.isLt hn) (ho0 t) (ho1 t) row base lane _ s f x bs hf) s) $$ H
  iintro H
  iapply HK $$ H
  ipureintro
  rfl

/-- The column loop over the tail's buffer. -/
theorem loop_tail (lp : Scf.Loop 32) (hn : lp.trips = 18) (hok)
    (body : Fin lp.trips → VAcc F → Prog (TpuEff nD τ sig (Elt F) Λ₀ (.scVector (cV L) (jV L))) (VAcc F))
    (row base : BitVec 32) (lane : IVec S16 32) (x : ℕ → F .f32) (bs : ℕ)
    (f : S576.Idx → F .f32) (hf : ∀ l : Fin 576, f (ix1 l) = x (bs + l.val))
    (o0 o1 : Fin lp.trips → Fin 1 → ℕ) (h0 : ∀ t a, o0 t a + S16.size a ≤ S576.size a) (h1 : ∀ t a, o1 t a + S16.size a ≤ S576.size a)
    (ho0 : ∀ t, o0 t = ![32 * t.val]) (ho1 : ∀ t, o1 t = ![32 * t.val + 16])
    (hbody : ∀ t s, body t s = tripProg' L (tV) (o0 t) (o1 t) (h0 t) (h1 t) row base lane (Scf.iv 0#32 1#32 t) s)
    (s : VAcc F) {β : Type} {kk : VAcc F → Prog (TpuEff nD τ sig (Elt F) Λ₀ (.scVector (cV L) (jV L))) β} {Q : β → sProp 𝕄} :
    ((tV).view.loc (VT d L) ↦{fullShare} f : sProp 𝕄)
      ⊢ iprop((((tV).view.loc (VT d L) ↦{fullShare} f)
          -∗ (∀ r, ⌜vfold row base lane x bs s 18 = r⌝ -∗ wp frame (wpE (defs₀ (F := F)) 𝒱₀ (VT d L) none) Set.univ (kk r) Q))
          -∗ wp frame (wpE (defs₀ (F := F)) 𝒱₀ (VT d L) none) Set.univ (Scf.Loop.for lp hok s body >>= kk) Q) := by
  iintro H HK
  iapply (wp_fold d L _ 18 lp hn hok body row base lane x bs (fun t ht s => by
    rw [hbody]
    exact wp_trip' d L (o0 t) (o1 t) (h0 t) (h1 t) t.val (lt_of_lt_of_eq t.isLt hn) (ho0 t) (ho1 t) row base lane _ s f x bs hf) s) $$ H
  iintro H
  iapply HK $$ H
  ipureintro
  rfl

/-- A copy of the last columns into the tail's buffer leaves them there. -/
theorem tail_holds (f : S576.Idx → F .f32) (w : S576.Idx → F .f32)
    (x : ℕ → F .f32) (bs : ℕ) (hw : ∀ l : S576.Idx, w l = x (bs + (l 0).val)) (l : Fin 576) :
    (tV).view.write (Elt F) f w Finset.univ (ix1 l) = x (bs + l.val) := by
  rw [View.write_whole_univ]
  exact hw (ix1 l)

/-- The buffer's two rows are apart. -/
theorem disj_rows : Disjoint (row0).view.set (row1).view.set := by
  simp only [Memref.view, View.set_reshape, View.set_slice]
  exact (Finset.disjoint_map _).mpr (Rect.disjoint_of_separated (Rect.unit (s := S2x28672) ![0, 0] S1x28672.size inb_S2x28672_S1x28672_0_0) (Rect.unit (s := S2x28672) ![1, 0] S1x28672.size inb_S2x28672_S1x28672_1_0) 0 (Or.inl (Or.inr (by decide))))

/-- Two contents that a memref reads alike are held alike through it. -/
theorem pointsTo_of_read {c : Thread nD τ} {sp : Space} {s : Shape} {e : EltTy} (M : Memref sig c.2.kind sp s e) (q : PosShare TreeShare)
    (f g : Buf (Elt F) (M.view.loc c)) (h : M.view.read (Elt F) f = M.view.read (Elt F) g) :
    (M.view.loc c ↦[M.view.set]{q} f : sProp 𝕄) ⊢ M.view.loc c ↦[M.view.set]{q} g := by
  rw [pointsTo_congr (f := f) (g := g) fun i hi => by
    obtain ⟨z, -, rfl⟩ := Finset.mem_map.mp hi
    have := congrFun h z
    rw [View.read_apply, View.read_apply] at this
    exact (cast_inj _).mp this]

/-- The ten vectors before the first column. -/
def scInit : VAcc F := (k0_pay867, k0_pay868, k0_pay869, k0_pay870, k0_pay871, k0_pay867, k0_pay868, k0_pay869, k0_pay870, k0_pay871)

/-- The first counter of row `r`. -/
def rowBase (r : Fin 32) : BitVec 32 := BitVec.ofNat 32 (r.val * 1000000 + 42)

/-- The lanes' numbers. -/
def lane16 : IVec S16 32 := iota .scVector S16 32 [0] iota_S16_d0_w32_scVector

/-- The ten vectors after the tile's columns: eight chunks of 28672 and the last 576. -/
def scRow (x : ℕ → F .f32) (row : BitVec 32) : VAcc F :=
  vfold row 999424#32 lane16 x 999424 (vfold row 200704#32 lane16 x 200704 (vfold row 172032#32 lane16 x 172032
    (vfold row 143360#32 lane16 x 143360 (vfold row 114688#32 lane16 x 114688 (vfold row 86016#32 lane16 x 86016
      (vfold row 57344#32 lane16 x 57344 (vfold row 28672#32 lane16 x 28672 (vfold row 0#32 lane16 x 0 scInit 896) 896) 896)
        896) 896) 896) 896) 896) 18

/-- The record that the tile of a row leaves on one of its thirty-two lanes. -/
def scOut (x : ℕ → F .f32) (row : BitVec 32) (l : Fin 32) : Acc F :=
  if h : l.val < 16 then (scRow x row).lo (ix1 ⟨l.val, h⟩) else (scRow x row).hi (ix1 ⟨l.val - 16, by omega⟩)

/-- What the call leaves of the largest logits, the sums and the columns. -/
def mOut (X : S32x1000000.Idx → F .f32) : S32x32.Idx → F .f32 := fun j => (scOut (rowOf X (j 0)) (rowBase (j 0)) (j 1)).m
def zOut (X : S32x1000000.Idx → F .f32) : S32x32.Idx → F .f32 := fun j => (scOut (rowOf X (j 0)) (rowBase (j 0)) (j 1)).z
def iOut (X : S32x1000000.Idx → F .f32) : S32x32.Idx → BitVec 32 := fun j => (scOut (rowOf X (j 0)) (rowBase (j 0)) (j 1)).i

/-- A staging buffer read after its two stores. -/
theorem stage_read {κ : Kind} {sp : Space} {e : EltTy} (v : View sig κ sp S32 e) (f : v.ty.Contents (Elt F)) (h0) (h16)
    (p q : S16.Idx → Elt F e) (l : S32.Idx) :
    v.read (Elt F) (v.writes (Elt F) f [(⟨Rect.unit (s := S32) ![16] S16.size h16, q⟩ : View.Piece (Elt F) S32 e), ⟨Rect.unit (s := S32) ![0] S16.size h0, p⟩]) l
      = if h : (l 0).val < 16 then p (ix1 ⟨(l 0).val, h⟩) else q (ix1 ⟨(l 0).val - 16, by have : (l 0).val < 32 := (l 0).isLt; omega⟩) := by
  have hl : (l 0).val < 32 := (l 0).isLt
  by_cases h : (l 0).val < 16
  · rw [dif_pos h, View.read_writes_cons_unit_of_not_mem v f h16 q _ l rfl 0 (Or.inl h)]
    refine View.read_writes_cons_unit_of_mem v f h0 p _ l (ix1 ⟨(l 0).val, h⟩ : S16.Idx) rfl fun a => ?_
    match a with
    | 0 => exact (Nat.zero_add _).symm
  · rw [dif_neg h]
    refine View.read_writes_cons_unit_of_mem v f h16 q _ l (ix1 ⟨(l 0).val - 16, by omega⟩ : S16.Idx) rfl fun a => ?_
    match a with
    | 0 => show (l 0).val = 16 + ((l 0).val - 16); omega

/-- A tile's row of an output array reads the array. -/
theorem read_outRow {e : EltTy} (M : Memref sig .scVector .hbm S32x32 e) (f : M.view.ty.Contents (Elt F)) (l : S32.Idx) :
    (outRow M L).view.read (Elt F) f l = M.view.read (Elt F) f (ix2 (wid L) (l 0)) := by
  unfold outRow
  refine (congrFun (Memref.read_squeeze_slice (Val := Elt F) M (Rect.unit (s := S32x32) (k0_off19 L) S1x32.size (k0_off19_inb L)) (fun _ => rfl)
    squeezes_S1x32_S32 squeezes_S1x32_S32.numel_eq f) l).trans ?_
  refine (shapeCast_dropUnit_apply (n := 1) ![32] _ _ l).trans ?_
  show M.view.read (Elt F) f _ = _
  congr 1
  have e := k0_off19_eq L
  funext a
  refine Fin.ext ?_
  match a with
  | 0 =>
    show k0_off19 L 0 + 1 * 0 = 2 * (L 1).val + (L 0).val
    rw [e]; show 2 * (L 1).val + (L 0).val + 1 * 0 = _; omega
  | 1 => show k0_off19 L 1 + 1 * (l 0).val = (l 0).val; rw [e]; show 0 + 1 * (l 0).val = (l 0).val; omega

/-- The tile's first counter. -/
theorem rowBase_eq : ∀ L : grid0.Coords, Scalar.addi (Scalar.muli (Scalar.addi (Scalar.muli (BitVec.ofNat 32 (L 1).val) 2#32) (BitVec.ofNat 32 (L 0).val)) 1000000#32) 42#32
    = rowBase (wid L) := by decide +kernel

set_option maxHeartbeats 0 in
theorem tile_run (O : CellTallies nD τ sig (HIx 1)) (W : Waits sig (HIx 1)) (q : PosShare TreeShare)
    (fb0 fb1 : Buf (Elt F) ((bV).view.loc (VT d L))) (ft : Buf (Elt F) ((tV).view.loc (VT d L)))
    (fm : Buf (Elt F) ((mB).view.loc (VT d L))) (fz : Buf (Elt F) ((zB).view.loc (VT d L))) (fi : Buf (Elt F) ((iB).view.loc (VT d L)))
    (gm : Buf (Elt F) ((mV).view.loc (VT d L))) (gz : Buf (Elt F) ((zV).view.loc (VT d L))) (gi : Buf (Elt F) ((iV).view.loc (VT d L))) :
    (iprop(Transfers.MayWaits (VT d L) (default : HIx 1) O
        ∗ ((xV).view.loc (VT d L) ↦{Transfers.shareTokN q 0} m (xLoc d))
        ∗ ((xV).view.loc (VT d L) ↦{Transfers.shareTokN q 1} m (xLoc d))
        ∗ ((xV).view.loc (VT d L) ↦{Transfers.shareTokN q 2} m (xLoc d))
        ∗ ((row0).view.loc (VT d L) ↦[(row0).view.set]{fullShare} fb0)
        ∗ ((row1).view.loc (VT d L) ↦[(row1).view.set]{fullShare} fb1)
        ∗ ((tV).view.loc (VT d L) ↦{fullShare} ft)
        ∗ ((mB).view.loc (VT d L) ↦{fullShare} fm)
        ∗ ((zB).view.loc (VT d L) ↦{fullShare} fz)
        ∗ ((iB).view.loc (VT d L) ↦{fullShare} fi)
        ∗ ((outRow mV L).view.loc (VT d L) ↦[(outRow mV L).view.set]{fullShare} gm)
        ∗ ((outRow zV L).view.loc (VT d L) ↦[(outRow zV L).view.set]{fullShare} gz)
        ∗ ((outRow iV L).view.loc (VT d L) ↦[(outRow iV L).view.set]{fullShare} gi)
        ∗ cells0 d L
        ∗ owes (VT d L) O W) : sProp 𝕄)
      ⊢ wp frame (wpE (defs₀ (F := F)) 𝒱₀ (VT d L) none) Set.univ
          (cc0_sc_kern L xV (Memref.isWhole_whole _) mV (Memref.isWhole_whole _) zV (Memref.isWhole_whole _) iV (Memref.isWhole_whole _)
            bV (Memref.isWhole_whole _) mB (Memref.isWhole_whole _) zB (Memref.isWhole_whole _) iB (Memref.isWhole_whole _)
            cc0_scratch4 cc0_scratch5 tV (Memref.isWhole_whole _) cc0_scratch7 cc0_scoped0 cc0_scoped1 cc0_scoped2)
          fun _ => iprop(((xV).view.loc (VT d L) ↦{Transfers.shareTokN q 0} m (xLoc d))
            ∗ ((xV).view.loc (VT d L) ↦{Transfers.shareTokN q 1} m (xLoc d))
            ∗ ((xV).view.loc (VT d L) ↦{Transfers.shareTokN q 2} m (xLoc d))
            ∗ (∃ f, (row0).view.loc (VT d L) ↦[(row0).view.set]{fullShare} f)
            ∗ (∃ f, (row1).view.loc (VT d L) ↦[(row1).view.set]{fullShare} f)
            ∗ (∃ f, (tV).view.loc (VT d L) ↦{fullShare} f)
            ∗ (∃ f, (mB).view.loc (VT d L) ↦{fullShare} f)
            ∗ (∃ f, (zB).view.loc (VT d L) ↦{fullShare} f)
            ∗ (∃ f, (iB).view.loc (VT d L) ↦{fullShare} f)
            ∗ ((outRow mV L).view.loc (VT d L) ↦[(outRow mV L).view.set]{fullShare} mOut (m (xLoc d)))
            ∗ ((outRow zV L).view.loc (VT d L) ↦[(outRow zV L).view.set]{fullShare} zOut (m (xLoc d)))
            ∗ ((outRow iV L).view.loc (VT d L) ↦[(outRow iV L).view.set]{fullShare} iOut (m (xLoc d)))
            ∗ cells0 d L
            ∗ ∃ W', owes (VT d L) O W') := by
  generalize hp : cc0_sc_kern (F := F) L xV (Memref.isWhole_whole _) mV (Memref.isWhole_whole _) zV (Memref.isWhole_whole _) iV (Memref.isWhole_whole _)
            bV (Memref.isWhole_whole _) mB (Memref.isWhole_whole _) zB (Memref.isWhole_whole _) iB (Memref.isWhole_whole _)
            cc0_scratch4 cc0_scratch5 tV (Memref.isWhole_whole _) cc0_scratch7 cc0_scoped0 cc0_scoped1 cc0_scoped2 = prog
  rw [cc0_sc_kern_eq_skeleton] at hp
  unfold cc0_sc_kern_skel at hp
  rw [k0_part73_eq_skeleton, k0_part74_eq_skeleton, k0_part75_eq_skeleton, k0_part76_eq_skeleton, k0_part77_eq_skeleton, k0_part78_eq_skeleton] at hp
  unfold k0_part73_skel k0_part74_skel k0_part75_skel k0_part76_skel k0_part77_skel k0_part78_skel at hp
  subst hp
  have hd01 := disj_rows
  have hd10 := disj_rows.symm
  iintro ⟨#Hmw, HX0, HX1, HX2, HR0, HR1, HT, HM, HZ, HI, HOm, HOz, HOi, ⟨Hc0, Hc1, Hc2, Hc3, Hc4, Hc5⟩, HO⟩
  sl_exec
  rw [Prog.bind_assoc]
  iapply (loop_row d L 0 ![0, 0] inb_S2x28672_S1x28672_0_0 rfl k0_t1_loop rfl k0_t1_ok _ _ 0#32 _
    (rowOf (m (xLoc d)) (wid L)) 0 _ (row_holds 0 _ _ rfl _ _ _ _ (fun l => read_cols (wid L) 28672 _ 0 (k0_off1_eq L) _ _ _ l))
    _ _ _ _ (fun t => k0_off4_eq t 0) (fun t => k0_off4_eq t 1) (fun t s => body1 (t := t) (s := s) ..)) $$ HR0
  iintro HR0 %s1 %hs1
  obtain ⟨a10, a11, a12, a13, a14, a15, a16, a17, a18, a19⟩ := s1
  sl_exec
  rw [Prog.bind_assoc]
  iapply (loop_row d L 1 ![1, 0] inb_S2x28672_S1x28672_1_0 rfl k0_t2_loop rfl k0_t2_ok _ _ 28672#32 _
    (rowOf (m (xLoc d)) (wid L)) 28672 _ (row_holds 1 _ _ rfl _ _ _ _ (fun l => read_cols (wid L) 28672 _ 28672 (k0_off3_eq L) _ _ _ l))
    _ _ _ _ (fun t => k0_off6_eq t 0) (fun t => k0_off6_eq t 1) (fun t s => body2 (t := t) (s := s) ..)) $$ HR1
  iintro HR1 %s2 %hs2
  obtain ⟨a20, a21, a22, a23, a24, a25, a26, a27, a28, a29⟩ := s2
  sl_exec
  rw [Prog.bind_assoc]
  iapply (loop_row d L 0 ![0, 0] inb_S2x28672_S1x28672_0_0 rfl k0_t3_loop rfl k0_t3_ok _ _ 57344#32 _
    (rowOf (m (xLoc d)) (wid L)) 57344 _ (row_holds 0 _ _ rfl _ _ _ _ (fun l => read_cols (wid L) 28672 _ 57344 (k0_off5_eq L) _ _ _ l))
    _ _ _ _ (fun t => k0_off8_eq t 0) (fun t => k0_off8_eq t 1) (fun t s => body3 (t := t) (s := s) ..)) $$ HR0
  iintro HR0 %s3 %hs3
  obtain ⟨a30, a31, a32, a33, a34, a35, a36, a37, a38, a39⟩ := s3
  sl_exec
  rw [Prog.bind_assoc]
  iapply (loop_row d L 1 ![1, 0] inb_S2x28672_S1x28672_1_0 rfl k0_t4_loop rfl k0_t4_ok _ _ 86016#32 _
    (rowOf (m (xLoc d)) (wid L)) 86016 _ (row_holds 1 _ _ rfl _ _ _ _ (fun l => read_cols (wid L) 28672 _ 86016 (k0_off7_eq L) _ _ _ l))
    _ _ _ _ (fun t => k0_off10_eq t 0) (fun t => k0_off10_eq t 1) (fun t s => body4 (t := t) (s := s) ..)) $$ HR1
  iintro HR1 %s4 %hs4
  obtain ⟨a40, a41, a42, a43, a44, a45, a46, a47, a48, a49⟩ := s4
  sl_exec
  rw [Prog.bind_assoc]
  iapply (loop_row d L 0 ![0, 0] inb_S2x28672_S1x28672_0_0 rfl k0_t5_loop rfl k0_t5_ok _ _ 114688#32 _
    (rowOf (m (xLoc d)) (wid L)) 114688 _ (row_holds 0 _ _ rfl _ _ _ _ (fun l => read_cols (wid L) 28672 _ 114688 (k0_off9_eq L) _ _ _ l))
    _ _ _ _ (fun t => k0_off12_eq t 0) (fun t => k0_off12_eq t 1) (fun t s => body5 (t := t) (s := s) ..)) $$ HR0
  iintro HR0 %s5 %hs5
  obtain ⟨a50, a51, a52, a53, a54, a55, a56, a57, a58, a59⟩ := s5
  sl_exec
  rw [Prog.bind_assoc]
  iapply (loop_row d L 1 ![1, 0] inb_S2x28672_S1x28672_1_0 rfl k0_t6_loop rfl k0_t6_ok _ _ 143360#32 _
    (rowOf (m (xLoc d)) (wid L)) 143360 _ (row_holds 1 _ _ rfl _ _ _ _ (fun l => read_cols (wid L) 28672 _ 143360 (k0_off11_eq L) _ _ _ l))
    _ _ _ _ (fun t => k0_off14_eq t 0) (fun t => k0_off14_eq t 1) (fun t s => body6 (t := t) (s := s) ..)) $$ HR1
  iintro HR1 %s6 %hs6
  obtain ⟨a60, a61, a62, a63, a64, a65, a66, a67, a68, a69⟩ := s6
  sl_exec
  rw [Prog.bind_assoc]
  iapply (loop_row d L 0 ![0, 0] inb_S2x28672_S1x28672_0_0 rfl k0_t7_loop rfl k0_t7_ok _ _ 172032#32 _
    (rowOf (m (xLoc d)) (wid L)) 172032 _ (row_holds 0 _ _ rfl _ _ _ _ (fun l => read_cols (wid L) 28672 _ 172032 (k0_off13_eq L) _ _ _ l))
    _ _ _ _ (fun t => k0_off16_eq t 0) (fun t => k0_off16_eq t 1) (fun t s => body7 (t := t) (s := s) ..)) $$ HR0
  iintro HR0 %s7 %hs7
  obtain ⟨a70, a71, a72, a73, a74, a75, a76, a77, a78, a79⟩ := s7
  sl_exec
  rw [Prog.bind_assoc]
  iapply (loop_row d L 1 ![1, 0] inb_S2x28672_S1x28672_1_0 rfl k0_t8_loop rfl k0_t8_ok _ _ 200704#32 _
    (rowOf (m (xLoc d)) (wid L)) 200704 _ (row_holds 1 _ _ rfl _ _ _ _ (fun l => read_cols (wid L) 28672 _ 200704 (k0_off15_eq L) _ _ _ l))
    _ _ _ _ (fun t => k0_off17_eq t 0) (fun t => k0_off17_eq t 1) (fun t s => body8 (t := t) (s := s) ..)) $$ HR1
  iintro HR1 %s8 %hs8
  obtain ⟨a80, a81, a82, a83, a84, a85, a86, a87, a88, a89⟩ := s8
  sl_exec
  rw [Prog.bind_assoc]
  iapply (loop_tail d L k0_t9_loop rfl k0_t9_ok _ _ 999424#32 _
    (rowOf (m (xLoc d)) (wid L)) 999424 _ (tail_holds ft (tile_run.sl.dma0_1 m d L) _ _ (fun l => read_cols (wid L) 576 _ 999424 (k0_off2_eq L) _ _ _ l))
    _ _ _ _ (fun t => k0_off18_eq t 0) (fun t => k0_off18_eq t 1) (fun t s => body9 (t := t) (s := s) ..)) $$ HT
  iintro HT %s9 %hs9
  obtain ⟨a90, a91, a92, a93, a94, a95, a96, a97, a98, a99⟩ := s9
  sl_exec

  have hrow : tile_run.sl.v3 L = rowBase (wid L) := rowBase_eq L
  have hlane : tile_run.sl.v16 = lane16 := rfl
  rw [hrow, hlane] at hs1 hs2 hs3 hs4 hs5 hs6 hs7 hs8 hs9
  have hS : scRow (rowOf (m (xLoc d)) (wid L)) (rowBase (wid L)) = (a90, a91, a92, a93, a94, a95, a96, a97, a98, a99) := by
    unfold scRow scInit
    rw [hs1, hs2, hs3, hs4, hs5, hs6, hs7, hs8, hs9]
  have c16 : ∀ {e : EltTy} (v : S16.Idx → Elt F e), shapeCast S16 v shapeCasts_S16_S16 = v := fun v => shapeCast_self _ _
  have em : (outRow mV L).view.read (Elt F) ((outRow mV L).view.writes (Elt F) gm [⟨Rect.whole S32, tile_run.sl.dma12 d L fm a90 a95⟩])
      = (outRow mV L).view.read (Elt F) (mOut (m (xLoc d))) := by
    rw [View.read_writes_whole]
    funext l
    rw [read_outRow]
    refine (stage_read (F := F) (e := .f32) (mB).view fm _ _ (k0_pay962 a90) (k0_pay965 a95) l).trans ?_
    show _ = (scOut (rowOf (m (xLoc d)) (wid L)) (rowBase (wid L)) (l 0)).m
    unfold scOut
    rw [hS]
    split <;> exact congrFun (c16 (e := .f32) _) _
  have ez : (outRow zV L).view.read (Elt F) ((outRow zV L).view.writes (Elt F) gz [⟨Rect.whole S32, tile_run.sl.dma12_1 d L fz a91 a96⟩])
      = (outRow zV L).view.read (Elt F) (zOut (m (xLoc d))) := by
    rw [View.read_writes_whole]
    funext l
    rw [read_outRow]
    refine (stage_read (F := F) (e := .f32) (zB).view fz _ _ (k0_pay963 a91) (k0_pay966 a96) l).trans ?_
    show _ = (scOut (rowOf (m (xLoc d)) (wid L)) (rowBase (wid L)) (l 0)).z
    unfold scOut
    rw [hS]
    split <;> exact congrFun (c16 (e := .f32) _) _
  have ei : (outRow iV L).view.read (Elt F) ((outRow iV L).view.writes (Elt F) gi [⟨Rect.whole S32, tile_run.sl.dma12_2 d L fi a94 a99⟩])
      = (outRow iV L).view.read (Elt F) (iOut (m (xLoc d))) := by
    rw [View.read_writes_whole]
    funext l
    rw [read_outRow]
    refine (stage_read (F := F) (e := .i32) (iB).view fi _ _ (k0_pay964 a94) (k0_pay967 a99) l).trans ?_
    show _ = (scOut (rowOf (m (xLoc d)) (wid L)) (rowBase (wid L)) (l 0)).i
    unfold scOut
    rw [hS]
    split <;> exact congrFun (c16 (e := .i32) _) _
  ihave HOm := (pointsTo_of_read _ _ _ _ em) $$ HOm
  ihave HOz := (pointsTo_of_read _ _ _ _ ez) $$ HOz
  ihave HOi := (pointsTo_of_read _ _ _ _ ei) $$ HOi
  rw [wp_ret]
  imodintro
  isplitl [HX0]; · iexact HX0
  isplitl [HX1]; · iexact HX1
  isplitl [HX2]; · iexact HX2
  isplitl [HR0]; · iexists _; iexact HR0
  isplitl [HR1]; · iexists _; iexact HR1
  isplitl [HT]; · iexists _; iexact HT
  isplitl [HM]; · iexists _; iexact HM
  isplitl [HZ]; · iexists _; iexact HZ
  isplitl [HI]; · iexists _; iexact HI
  isplitl [HOm]; · iexact HOm
  isplitl [HOz]; · iexact HOz
  isplitl [HOi]; · iexact HOi
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  iexists _; iexact HO

end Cert.Proof

end
-- ==== Proof.ScTask.lean ====
/- The SparseCore call as the launch sees it: what each tile is dealt and hands back, and the tile's
   obligation. -/
module

public import proofs.«01_k».proof.Proof.ScBody

@[expose] public section

set_option synthInstance.maxSize 4096
set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S32x1000000 EltTy.f32)
local notation "mV" => (Memref.whole Cert.KernelIdeal.main_v0_0_scv : Memref Cert.KernelIdeal.sig Kind.scVector Space.hbm Cert.KernelIdeal.S32x32 EltTy.f32)
local notation "zV" => (Memref.whole Cert.KernelIdeal.main_v0_1_scv : Memref Cert.KernelIdeal.sig Kind.scVector Space.hbm Cert.KernelIdeal.S32x32 EltTy.f32)
local notation "iV" => (Memref.whole Cert.KernelIdeal.main_v0_2_scv : Memref Cert.KernelIdeal.sig Kind.scVector Space.hbm Cert.KernelIdeal.S32x32 EltTy.i32)
local notation "bV" => (Memref.whole Cert.KernelIdeal.cc0_scratch0 : Memref Cert.KernelIdeal.sig Kind.scVector Space.vmem Cert.KernelIdeal.S2x28672 EltTy.f32)
local notation "mB" => (Memref.whole Cert.KernelIdeal.cc0_scratch1 : Memref Cert.KernelIdeal.sig Kind.scVector Space.vmem Cert.KernelIdeal.S32 EltTy.f32)
local notation "zB" => (Memref.whole Cert.KernelIdeal.cc0_scratch2 : Memref Cert.KernelIdeal.sig Kind.scVector Space.vmem Cert.KernelIdeal.S32 EltTy.f32)
local notation "iB" => (Memref.whole Cert.KernelIdeal.cc0_scratch3 : Memref Cert.KernelIdeal.sig Kind.scVector Space.vmem Cert.KernelIdeal.S32 EltTy.i32)
local notation "tV" => (Memref.whole Cert.KernelIdeal.cc0_scratch6 : Memref Cert.KernelIdeal.sig Kind.scVector Space.vmem Cert.KernelIdeal.S576 EltTy.f32)

variable (m : (ℓ : Loc nD τ sig) → Buf (Elt F) ℓ)

/-- Row `w` of an output array. -/
def rowSet (w : Fin 32) : Finset S32x32.Idx := Finset.univ.filter fun j => (j 0).val = w.val

theorem rowSet_disjoint : ∀ i ∈ (Finset.univ : Finset (Fin 32)), ∀ j ∈ (Finset.univ : Finset (Fin 32)), i ≠ j → Disjoint (rowSet i) (rowSet j) :=
  fun i _ j _ h => Finset.disjoint_left.mpr fun x hx hy => h (Fin.ext ((Finset.mem_filter.mp hx).2.symm.trans (Finset.mem_filter.mp hy).2))

theorem rowSet_cover : (Finset.univ : Finset (Fin 32)).biUnion rowSet = Finset.univ :=
  Finset.eq_univ_of_forall fun x => Finset.mem_biUnion.mpr ⟨x 0, Finset.mem_univ _, Finset.mem_filter.mpr ⟨Finset.mem_univ _, rfl⟩⟩

/-- Tile `i` of core `c`'s row. -/
def wOf (c : Fin 2) (i : Fin 16) : Fin 32 := ⟨2 * i.val + c.val, by omega⟩

variable [FloatOps F]

/-- What the tile of row `w` is dealt: a share of the logits and its rows of the three output arrays. -/
def tilePre (d : Dev nD) (w : Fin 32) : sProp 𝕄 :=
  iprop((xLoc d ↦{Transfers.shareTokN fullShare w.val} m (xLoc d)) ∗ (mLoc d ↦[rowSet w]{fullShare} m (mLoc d))
    ∗ (zLoc d ↦[rowSet w]{fullShare} m (zLoc d)) ∗ (iLoc d ↦[rowSet w]{fullShare} m (iLoc d)))

/-- What it hands back: the share, and its rows at the records of its lanes. -/
def tilePost (d : Dev nD) (w : Fin 32) : sProp 𝕄 :=
  iprop((xLoc d ↦{Transfers.shareTokN fullShare w.val} m (xLoc d)) ∗ (mLoc d ↦[rowSet w]{fullShare} mOut (m (xLoc d)))
    ∗ (zLoc d ↦[rowSet w]{fullShare} zOut (m (xLoc d))) ∗ (iLoc d ↦[rowSet w]{fullShare} iOut (m (xLoc d))))

instance (d : Dev nD) (w : Fin 32) : BI.Storable (upEmb : UEmb _ 𝕄) (tilePre m d w) := by unfold tilePre; infer_instance
instance (d : Dev nD) (w : Fin 32) : BI.Storable (upEmb : UEmb _ 𝕄) (tilePost m d w) := by unfold tilePost; infer_instance

abbrev ca (c : Fin ((K (F := F)).nCore 0)) : Fin 2 := Fin.cast nCore_zero c
abbrev ia (i : Fin ((K (F := F)).nSub 0)) : Fin 16 := Fin.cast nSub_zero i

/-- The one call: each core takes its sixteen tiles' pieces and brings them back. -/
def P : (K (F := F)).Pay (nD := nD) (Val := Elt F) (Name := ℕ) (U := UU) where
  st := fun q d c => match q with | 0 => bigSep Finset.univ fun i : Fin ((K (F := F)).nSub 0) => tilePre m d (wOf (ca (F := F) c) (ia (F := F) i))
  dn := fun q d c => match q with | 0 => bigSep Finset.univ fun i : Fin ((K (F := F)).nSub 0) => tilePost m d (wOf (ca (F := F) c) (ia (F := F) i))
  go := fun q d c i => match q with | 0 => tilePre m d (wOf (ca (F := F) c) (ia (F := F) i))
  td := fun q d c i => match q with | 0 => tilePost m d (wOf (ca (F := F) c) (ia (F := F) i))
  x := fun _ _ => iprop(emp)

instance P_storable : (P (F := F) m).IsStorable where
  st q d c := match q with
    | 0 => (inferInstance : BI.Storable (upEmb : UEmb _ 𝕄) (bigSep Finset.univ fun i : Fin ((K (F := F)).nSub 0) => tilePre m d (wOf (ca (F := F) c) (ia (F := F) i))))
  dn q d c := match q with
    | 0 => (inferInstance : BI.Storable (upEmb : UEmb _ 𝕄) (bigSep Finset.univ fun i : Fin ((K (F := F)).nSub 0) => tilePost m d (wOf (ca (F := F) c) (ia (F := F) i))))
  go q d c i := match q with
    | 0 => (inferInstance : BI.Storable (upEmb : UEmb _ 𝕄) (tilePre m d (wOf (ca (F := F) c) (ia (F := F) i))))
  td q d c i := match q with
    | 0 => (inferInstance : BI.Storable (upEmb : UEmb _ 𝕄) (tilePost m d (wOf (ca (F := F) c) (ia (F := F) i))))

section Tile

variable (d : Dev nD) (L : grid0.Coords)

omit [FloatOps F] in
/-- The rectangle of the tile's row is that row. -/
theorem rect_outRow : (Rect.unit (s := S32x32) (k0_off19 L) S1x32.size (k0_off19_inb L)).set = rowSet (wid L) := by
  ext j
  rw [Rect.mem_set_unit, rowSet, Finset.mem_filter]
  have e := k0_off19_eq L
  have hj : (j 1).val < 32 := (j 1).isLt
  constructor
  · intro h
    have h0 := h 0
    rw [e] at h0
    have h0' : 2 * (L 1).val + (L 0).val ≤ (j 0).val ∧ (j 0).val < 2 * (L 1).val + (L 0).val + 1 := h0
    exact ⟨Finset.mem_univ _, by show (j 0).val = 2 * (L 1).val + (L 0).val; omega⟩
  · rintro ⟨-, h⟩ a
    have h0 : (j 0).val = 2 * (L 1).val + (L 0).val := h
    rw [e]
    match a with
    | 0 => show 2 * (L 1).val + (L 0).val ≤ (j 0).val ∧ (j 0).val < 2 * (L 1).val + (L 0).val + 1; omega
    | 1 => show 0 ≤ (j 1).val ∧ (j 1).val < 0 + 32; omega

omit [FloatOps F] in
theorem set_mRow : (outRow mV L).view.set = rowSet (wid L) := by
  show (((mV).view.slice (Rect.unit (s := S32x32) (k0_off19 L) S1x32.size (k0_off19_inb L))).reshape S32 squeezes_S1x32_S32.numel_eq).set = _
  rw [View.set_reshape, View.set_slice, rect_outRow]; exact Finset.map_refl
omit [FloatOps F] in
theorem set_zRow : (outRow zV L).view.set = rowSet (wid L) := by
  show (((zV).view.slice (Rect.unit (s := S32x32) (k0_off19 L) S1x32.size (k0_off19_inb L))).reshape S32 squeezes_S1x32_S32.numel_eq).set = _
  rw [View.set_reshape, View.set_slice, rect_outRow]; exact Finset.map_refl
omit [FloatOps F] in
theorem set_iRow : (outRow iV L).view.set = rowSet (wid L) := by
  show (((iV).view.slice (Rect.unit (s := S32x32) (k0_off19 L) S1x32.size (k0_off19_inb L))).reshape S32 squeezes_S1x32_S32.numel_eq).set = _
  rw [View.set_reshape, View.set_slice, rect_outRow]; exact Finset.map_refl

omit [FloatOps F] in
theorem pts_mRow (f : Buf (Elt F) (mLoc d)) :
    ((outRow mV L).view.loc (VT d L) ↦[(outRow mV L).view.set]{fullShare} f : sProp 𝕄) = mLoc d ↦[rowSet (wid L)]{fullShare} f := by rw [set_mRow]
omit [FloatOps F] in
theorem pts_zRow (f : Buf (Elt F) (zLoc d)) :
    ((outRow zV L).view.loc (VT d L) ↦[(outRow zV L).view.set]{fullShare} f : sProp 𝕄) = zLoc d ↦[rowSet (wid L)]{fullShare} f := by rw [set_zRow]
omit [FloatOps F] in
theorem pts_iRow (f : Buf (Elt F) (iLoc d)) :
    ((outRow iV L).view.loc (VT d L) ↦[(outRow iV L).view.set]{fullShare} f : sProp 𝕄) = iLoc d ↦[rowSet (wid L)]{fullShare} f := by rw [set_iRow]

omit [FloatOps F] in
/-- The two rows make up the buffer. -/
theorem rows_cover : (row0).view.set ∪ (row1).view.set = Finset.univ := by
  show (((bV).view.slice (Rect.unit (s := S2x28672) ![0, 0] S1x28672.size inb_S2x28672_S1x28672_0_0)).reshape S28672 squeezes_S1x28672_S28672.numel_eq).set
    ∪ (((bV).view.slice (Rect.unit (s := S2x28672) ![1, 0] S1x28672.size inb_S2x28672_S1x28672_1_0)).reshape S28672 squeezes_S1x28672_S28672.numel_eq).set = _
  rw [View.set_reshape, View.set_slice, View.set_reshape, View.set_slice]
  refine Finset.eq_univ_of_forall fun (j : S2x28672.Idx) => ?_
  have h0 : (j 0).val < 2 := (j 0).isLt
  have h1 : (j 1).val < 28672 := (j 1).isLt
  by_cases h : (j 0).val = 0
  · refine Finset.mem_union_left _ (Finset.mem_map.mpr ⟨j, ?_, rfl⟩)
    rw [Rect.mem_set_unit]
    intro a
    match a with
    | 0 => show 0 ≤ (j 0).val ∧ (j 0).val < 0 + 1; omega
    | 1 => show 0 ≤ (j 1).val ∧ (j 1).val < 0 + 28672; omega
  · refine Finset.mem_union_right _ (Finset.mem_map.mpr ⟨j, ?_, rfl⟩)
    rw [Rect.mem_set_unit]
    intro a
    match a with
    | 0 => show 1 ≤ (j 0).val ∧ (j 0).val < 1 + 1; omega
    | 1 => show 0 ≤ (j 1).val ∧ (j 1).val < 0 + 28672; omega

omit [FloatOps F] in
theorem buf_rows (f : Buf (Elt F) ((bV).view.loc (VT d L))) :
    ((VT d L).loc cc0_scratch0 ↦{fullShare} f : sProp 𝕄)
      ⊢ iprop(((row0).view.loc (VT d L) ↦[(row0).view.set]{fullShare} f) ∗ ((row1).view.loc (VT d L) ↦[(row1).view.set]{fullShare} f)) := by
  have h := (pointsTo_union (ℓ := (VT d L).loc cc0_scratch0) (q := fullShare) (f := f) (Ix := HIx 1) (Name := ℕ) (U := UU) (Lvl := ℕ) disj_rows).1
  rw [rows_cover] at h
  exact h

omit [FloatOps F] in
theorem rows_buf (f g : Buf (Elt F) ((bV).view.loc (VT d L))) :
    iprop(((row0).view.loc (VT d L) ↦[(row0).view.set]{fullShare} f) ∗ ((row1).view.loc (VT d L) ↦[(row1).view.set]{fullShare} g))
      ⊢ (iprop(∃ f, (VT d L).loc cc0_scratch0 ↦{fullShare} f) : sProp 𝕄) := by
  have h := pointsTo_join (ℓ := (VT d L).loc cc0_scratch0) (q := fullShare) (f := f) (g := g) (Ix := HIx 1) (Name := ℕ) (U := UU) (Lvl := ℕ) disj_rows
  rw [rows_cover] at h
  iintro H
  iexists _
  iapply h
  iexact H

abbrev dcell (d : Dev nD) (c : Fin τ.nSC) (i : Fin τ.nSub) (k : Fin 6) : GSem nD τ sig := (V d c i, .dma (csem k.val (by omega)))

omit [FloatOps F] in
theorem dcell_mem (c : Fin τ.nSC) (i : Fin τ.nSub) (k : Fin 6) : dcell d c i k ∈ ownCells (V d c i) :=
  mem_ownCells.mpr ⟨rfl, (show ∀ k : Fin 6, (SemLoc.dma (csem k.val (by omega)) : SemLoc sig).isScoped .scVector = true by decide) k⟩

omit [FloatOps F] in
/-- The subcore's own cells at zero: the six the task names, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The five buffers of the tile that the task uses. -/
def bufs : Fin 5 → Ref sig .scVector := fun k =>
  match k with | 0 => cc0_scratch0 | 1 => cc0_scratch1 | 2 => cc0_scratch2 | 3 => cc0_scratch3 | 4 => cc0_scratch6

def bref (L : grid0.Coords) : Fin 5 → DevRef τ sig := fun k => (Proc.scVector (cV L) (jV L)).devRef (bufs k)

omit [FloatOps F] in
theorem bref_inj : Function.Injective (bref L) := by
  intro a b h
  exact (show ∀ a b : Fin 5, bufs a = bufs b → a = b by decide) a b (Proc.devRef_injective _ h)

omit [FloatOps F] in
/-- The subcore's own buffers at some contents: the five the task uses, and the rest. -/
theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch6 ↦{fullShare} f))
          ∗ bigSep ((ownRefs (τ := τ) (.scVector (cV L) (jV L))) \ Finset.univ.image (bref L))
              fun b => iprop(∃ f, ((d, b) : Loc nD τ sig) ↦{fullShare} f)) := by
  unfold SparseCore.Cfg.ownBufs
  refine (SparseCore.bigSep_sdiff_split' (t := Finset.univ.image (bref L))
      (Finset.image_subset_iff.mpr fun k _ => SparseCore.Cfg.mem_ownRefs_of_owner (p := Proc.scVector (cV L) (jV L)) (b := bref L k) (by
        match k with
        | 0 => rfl
        | 1 => rfl
        | 2 => rfl
        | 3 => rfl
        | 4 => rfl))).trans ?_
  rw [SparseCore.bigSep_image_of_injOn (fun a _ b _ h => bref_inj L h)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
/-- A share of the logits as what stays and three read tokens. -/
theorem xToks (q : PosShare TreeShare) (f : Buf (Elt F) (xLoc d)) :
    (xLoc d ↦{q} f : sProp 𝕄) ⊣⊢ iprop((xLoc d ↦{Transfers.shareDrop q 3} f) ∗ (xLoc d ↦{Transfers.shareTokN q 0} f)
      ∗ (xLoc d ↦{Transfers.shareTokN q 1} f) ∗ (xLoc d ↦{Transfers.shareTokN q 2} f)) := by
  have h : (xLoc d ↦{q} f : sProp 𝕄) ⊣⊢ iprop((xLoc d ↦{Transfers.shareDrop q 3} f) ∗ bigSep (Finset.range 3) fun i => xLoc d ↦{Transfers.shareTokN q i} f) :=
    Transfers.pointsTo_toks_range (ℓ := xLoc d) (S := Finset.univ) (f := f) q 3
  rw [show Finset.range 3 = {0, 1, 2} by decide, SparseCore.bigSep_insert' (by decide), SparseCore.bigSep_insert' (by decide), bigSep_singleton] at h
  exact h

/-- The task from what the launch deals it to what it hands back. -/
theorem tile_body (O : CellTallies nD τ sig (HIx 1)) (W : Waits sig (HIx 1)) (hO : ∀ g, O g none = 0) :
    iprop(levAts (K (F := F)).L (K (F := F)).lev ∗ emp
        ∗ tilePre m d (wid L)
        ∗ scopedBufs (VT d L) ∗ scopedSems0 (VT d L) ∗ owes (VT d L) O W)
      ⊢ wp frame (wpE (defs₀ (F := F)) 𝒱₀ (VT d L) none) Set.univ
          (cc0_sc_kern L xV (Memref.isWhole_whole _) mV (Memref.isWhole_whole _) zV (Memref.isWhole_whole _) iV (Memref.isWhole_whole _)
            bV (Memref.isWhole_whole _) mB (Memref.isWhole_whole _) zB (Memref.isWhole_whole _) iB (Memref.isWhole_whole _)
            cc0_scratch4 cc0_scratch5 tV (Memref.isWhole_whole _) cc0_scratch7 cc0_scoped0 cc0_scoped1 cc0_scoped2)
          fun _ => iprop(tilePost m d (wid L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  unfold tilePre tilePost
  iintro ⟨#Hlv, -, ⟨Hx, Hm, Hz, Hi⟩, ⟨⟨⟨%fb, HB⟩, ⟨%fm, HM⟩, ⟨%fz, HZ⟩, ⟨%fi, HI⟩, ⟨%ft, HT⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hm' := (Entails.of_eq (pts_mRow (F := F) d L _).symm) $$ Hm
  ihave Hz' := (Entails.of_eq (pts_zRow (F := F) d L _).symm) $$ Hz
  ihave Hi' := (Entails.of_eq (pts_iRow (F := F) d L _).symm) $$ Hi
  ihave HB' := (buf_rows (F := F) d L fb) $$ HB
  icases HB' with ⟨HR0, HR1⟩
  ihave Hx' := (xToks d _ (m (xLoc d))).1 $$ Hx
  icases Hx' with ⟨Hxr, Hx0, Hx1, Hx2⟩
  iapply (wp_wand_r Idealize.ShloMosaic.frame (wpE (defs₀ (F := F)) 𝒱₀ (VT d L) none) Set.univ)
  isplitl [Hm' Hz' Hi' HR0 HR1 Hx0 Hx1 Hx2 HM HZ HI HT HC HO]
  · iapply (tile_run m d L O W (Transfers.shareTokN fullShare (wid L).val) fb fb ft fm fz fi (m (mLoc d)) (m (zLoc d)) (m (iLoc d)))
    isplitr; · iexact Hmw
    isplitl [Hx0]; · iexact Hx0
    isplitl [Hx1]; · iexact Hx1
    isplitl [Hx2]; · iexact Hx2
    isplitl [HR0]; · iexact HR0
    isplitl [HR1]; · iexact HR1
    isplitl [HT]; · iexact HT
    isplitl [HM]; · iexact HM
    isplitl [HZ]; · iexact HZ
    isplitl [HI]; · iexact HI
    isplitl [Hm']; · iexact Hm'
    isplitl [Hz']; · iexact Hz'
    isplitl [Hi']; · iexact Hi'
    isplitl [HC]; · iexact HC
    iexact HO
  iintro %_ ⟨Hx0, Hx1, Hx2, ⟨%g0, HR0⟩, ⟨%g1, HR1⟩, HT, HM, HZ, HI, Hm', Hz', Hi', HC, ⟨%W', HO⟩⟩
  ihave Hx := (xToks d (Transfers.shareTokN fullShare (wid L).val) (m (xLoc d))).2 $$ [Hxr Hx0 Hx1 Hx2]
  · isplitl [Hxr]; · iexact Hxr
    isplitl [Hx0]; · iexact Hx0
    isplitl [Hx1]; · iexact Hx1
    iexact Hx2
  ihave HB := (rows_buf (F := F) d L g0 g1) $$ [HR0 HR1]
  · isplitl [HR0]; · iexact HR0
    iexact HR1
  isplitl [Hm' Hz' Hi' Hx]
  · isplitl [Hx]; · iexact Hx
    isplitl [Hm']; · iapply (Entails.of_eq (pts_mRow (F := F) d L _)); iexact Hm'
    isplitl [Hz']; · iapply (Entails.of_eq (pts_zRow (F := F) d L _)); iexact Hz'
    iapply (Entails.of_eq (pts_iRow (F := F) d L _)); iexact Hi'
  isplitl [HB HM HZ HI HT Hbufs]
  · isplitr [Hbufs]
    · isplitl [HB]; · iexact HB
      isplitl [HM]; · iexact HM
      isplitl [HZ]; · iexact HZ
      isplitl [HI]; · iexact HI
      iexact HT
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kern (coordsV c s)
          xV (Memref.isWhole_whole _) mV (Memref.isWhole_whole _) zV (Memref.isWhole_whole _) iV (Memref.isWhole_whole _)
            bV (Memref.isWhole_whole _) mB (Memref.isWhole_whole _) zB (Memref.isWhole_whole _) iB (Memref.isWhole_whole _)
            cc0_scratch4 cc0_scratch5 tV (Memref.isWhole_whole _) cc0_scratch7 cc0_scoped0 cc0_scoped1 cc0_scoped2) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

end Tile

theorem vecSplit : (K (F := F)).VecSplit' (P m) 0 := by
  intro d c
  change bigSep Finset.univ (fun i : Fin ((K (F := F)).nSub 0) => (P m).go 0 d c i) ⊢ |={Set.univ}=>
    iprop(bigSep Finset.univ (fun i : Fin ((K (F := F)).nSub 0) => (P m).go 0 d c i)
      ∗ (bigSep Finset.univ (fun i : Fin ((K (F := F)).nSub 0) => (P m).td 0 d c i)
          -∗ bigSep Finset.univ (fun i : Fin ((K (F := F)).nSub 0) => (P m).td 0 d c i)))
  iintro H; imodintro
  isplitl [H]; · iexact H
  iintro H; iexact H

end Cert.Proof

end
-- ==== Proof.Main.lean ====
/- The program on the TensorCore: the SparseCore call, the TensorCore kernel, the host operations; and its run. -/
module

public import proofs.«01_k».proof.Proof.Host
public import proofs.«01_k».proof.Proof.ScTask

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after launchContents)
open Idealize.ShloMosaic.Pipeline (ucRefs)

variable {F : FTy → Type} [FloatOps F] [∀ e, Nonempty (Elt F e)]

local notation "𝕄" => MT nD τ sig (HIx 1) (Elt F) ℕ UU ℕ

/-! ## The three protocols' places in the algebra -/

abbrev EH : Emb UH 𝕄 := (Emb.inl : Emb UH (UH × URounds (GSem nD τ sig) Unit)).trans embL
abbrev EP : Emb (URounds (GSem nD τ sig) Unit) 𝕄 := (Emb.inr : Emb _ (UH × URounds (GSem nD τ sig) Unit)).trans embL

instance : (EH (F := F)).LandsIn (upEmb : UEmb _ 𝕄) := by unfold EH; infer_instance
instance : (EP (F := F)).LandsIn (upEmb : UEmb _ 𝕄) := by unfold EP; infer_instance

theorem phinj : Function.Injective (Pipeline.cellOf (nD := nD) (τ := τ) (Pipeline.pin (pcfgs (F := F)) adm)) := launch1.cellOf_inj

/-! ## The contents before and after each part -/

variable (m : (ℓ : Loc nD τ sig) → Buf (Elt F) ℓ) (ρ : Dev nD → PrngReg)

/-- After the SparseCore call: its three results, the rest as launched. -/
def W1 (d : Dev nD) : Valuation τ sig (Elt F) :=
  Function.update (Function.update (Function.update (launchContents m d) (main_v0_0 : DevRef τ sig) (mOut (m (xLoc d))))
    (main_v0_1 : DevRef τ sig) (zOut (m (xLoc d)))) (main_v0_2 : DevRef τ sig) (iOut (m (xLoc d)))

/-- What the TensorCore kernel is entered at. -/
def V1 (d : Dev nD) (b : Ref sig .tc) : Buf (Elt F) ((d : Thread nD τ).loc b) := W1 m d b

/-- After the TensorCore kernel. -/
def W2 (d : Dev nD) : Valuation τ sig (Elt F) :=
  Function.update (Function.update (Function.update (W1 m d) (main_v1_0 : DevRef τ sig) (tstate (lg (V1 m) d) 94).m)
    (main_v1_1 : DevRef τ sig) (tstate (lg (V1 m) d) 94).z) (main_v1_2 : DevRef τ sig) (tstate (lg (V1 m) d) 94).i

def V2 (d : Dev nD) (b : Ref sig .tc) : Buf (Elt F) ((d : Thread nD τ).loc b) := W2 m d b

/-- The host's operations, in order. -/
def hostOps : List (HloOp τ sig (Elt F)) := host0.1 ++ (host1.1 ++ (host2.1 ++ (host3.1 ++ host4.1)))

/-- The final contents. -/
def W3 (d : Dev nD) : Valuation τ sig (Elt F) := after hostOps (W2 m d)

theorem W2_ne (d : Dev nD) (b : DevRef τ sig) (h1 : b ≠ (main_v1_0 : DevRef τ sig)) (h2 : b ≠ (main_v1_1 : DevRef τ sig))
    (h3 : b ≠ (main_v1_2 : DevRef τ sig)) : W2 m d b = W1 m d b := by
  unfold W2
  rw [Function.update_of_ne h3, Function.update_of_ne h2, Function.update_of_ne h1]
theorem W2_m (d : Dev nD) : W2 m d (main_v1_0 : DevRef τ sig) = (tstate (lg (V1 m) d) 94).m := by
  unfold W2
  rw [Function.update_of_ne (by decide), Function.update_of_ne (by decide), Function.update_self]
theorem W2_z (d : Dev nD) : W2 m d (main_v1_1 : DevRef τ sig) = (tstate (lg (V1 m) d) 94).z := by
  unfold W2
  rw [Function.update_of_ne (by decide), Function.update_self]
theorem W2_i (d : Dev nD) : W2 m d (main_v1_2 : DevRef τ sig) = (tstate (lg (V1 m) d) 94).i := by
  unfold W2
  rw [Function.update_self]
theorem W1_ne (d : Dev nD) (b : DevRef τ sig) (h1 : b ≠ (main_v0_0 : DevRef τ sig)) (h2 : b ≠ (main_v0_1 : DevRef τ sig))
    (h3 : b ≠ (main_v0_2 : DevRef τ sig)) : W1 m d b = launchContents m d b := by
  unfold W1
  rw [Function.update_of_ne h3, Function.update_of_ne h2, Function.update_of_ne h1]
theorem W1_m (d : Dev nD) : W1 m d (main_v0_0 : DevRef τ sig) = mOut (m (xLoc d)) := by
  unfold W1
  rw [Function.update_of_ne (by decide), Function.update_of_ne (by decide), Function.update_self]
theorem W1_z (d : Dev nD) : W1 m d (main_v0_1 : DevRef τ sig) = zOut (m (xLoc d)) := by
  unfold W1
  rw [Function.update_of_ne (by decide), Function.update_self]
theorem W1_i (d : Dev nD) : W1 m d (main_v0_2 : DevRef τ sig) = iOut (m (xLoc d)) := by
  unfold W1
  rw [Function.update_self]
theorem W1_x (d : Dev nD) : W1 m d (main_arg0 : DevRef τ sig) = m (xLoc d) :=
  W1_ne m d (main_arg0 : DevRef τ sig) (by decide) (by decide) (by decide)

/-! ## The host's operations as one list -/

theorem main_eq (d : Dev nD) : main (F := F) d = callsThen d (StableHlo.seq hostOps) := by
  have e1 := (host1 (F := F)).2 d
  have e2 := (host2 (F := F)).2 d
  have e3 := (host3 (F := F)).2 d
  have e4 := (host4 (F := F)).2 d
  unfold StableHlo.IsSeq at e1 e2 e3 e4
  unfold main hostOps
  rw [(host0 (F := F)).2 d, e1, e2, e3, e4, StableHlo.seq_append, StableHlo.seq_append, StableHlo.seq_append, StableHlo.seq_append]
  unfold callsThen
  simp only [bind_assoc]

theorem hostOps_mem {op : HloOp τ sig (Elt F)} (h : op ∈ hostOps) :
    op ∈ host0.1 ∨ op ∈ host1.1 ∨ op ∈ host2.1 ∨ op ∈ host3.1 ∨ op ∈ host4.1 := by
  simpa only [hostOps, List.mem_append] using h

theorem host_fresh (op : HloOp τ sig (Elt F)) (h : op ∈ hostOps) : op.fresh = ∅ := by
  rcases hostOps_mem h with h | h | h | h | h
  exacts [fresh0 op h, fresh1 op h, fresh2 op h, fresh3 op h, fresh4 op h]

theorem host_bufs (op : HloOp τ sig (Elt F)) (h : op ∈ hostOps) : op.bufs ⊆ ucRefs τ sig := by
  refine Pipeline.sub_ucRefs op ?_
  rcases hostOps_mem h with h | h | h | h | h
  exacts [List.forall_iff_forall_mem.mp bufs0 op h, List.forall_iff_forall_mem.mp bufs1 op h, List.forall_iff_forall_mem.mp bufs2 op h,
    List.forall_iff_forall_mem.mp bufs3 op h, List.forall_iff_forall_mem.mp bufs4 op h]

theorem keeps0 : ∀ op ∈ (host0 (F := F)).1, (main_arg0 : DevRef τ sig) ∉ op.writes := by
  dsimp only [host0]
  intro _ h
  repeat (cases h with | head => exact fun h => absurd (Finset.mem_singleton.mp h) (by decide) | tail _ h => ?_)
  exact nomatch h

theorem keeps1 : ∀ op ∈ (host1 (F := F)).1, (main_arg0 : DevRef τ sig) ∉ op.writes := by
  dsimp only [host1]
  intro _ h
  repeat (cases h with | head => exact fun h => absurd (Finset.mem_singleton.mp h) (by decide) | tail _ h => ?_)
  exact nomatch h

theorem keeps2 : ∀ op ∈ (host2 (F := F)).1, (main_arg0 : DevRef τ sig) ∉ op.writes := by
  dsimp only [host2]
  intro _ h
  repeat (cases h with | head => exact fun h => absurd (Finset.mem_singleton.mp h) (by decide) | tail _ h => ?_)
  exact nomatch h

theorem keeps3 : ∀ op ∈ (host3 (F := F)).1, (main_arg0 : DevRef τ sig) ∉ op.writes := by
  dsimp only [host3]
  intro _ h
  repeat (cases h with | head => exact fun h => absurd (Finset.mem_singleton.mp h) (by decide) | tail _ h => ?_)
  exact nomatch h

theorem keeps4 : ∀ op ∈ (host4 (F := F)).1, (main_arg0 : DevRef τ sig) ∉ op.writes := by
  dsimp only [host4]
  intro _ h
  repeat (cases h with | head => exact fun h => absurd (Finset.mem_singleton.mp h) (by decide) | tail _ h => ?_)
  exact nomatch h

/-- The logits end as they began. -/
theorem W3_x (d : Dev nD) : W3 m d (main_arg0 : DevRef τ sig) = m (xLoc d) := by
  refine (StableHlo.after_of_forall_not_mem hostOps (W2 m d) fun op h => ?_).trans
    ((W2_ne m d (main_arg0 : DevRef τ sig) (by decide) (by decide) (by decide)).trans (W1_x m d))
  rcases hostOps_mem h with h | h | h | h | h
  exacts [keeps0 op h, keeps1 op h, keeps2 op h, keeps3 op h, keeps4 op h]

/-! ## The SparseCore call's pieces -/

/-- The tiles by core and subcore are the tiles by row. -/
theorem bigSep_tiles (Φ : Fin 32 → sProp 𝕄) :
    (bigSep Finset.univ fun c : Fin ((K (F := F)).nCore 0) => bigSep Finset.univ fun i : Fin ((K (F := F)).nSub 0) =>
      Φ (wOf (ca (F := F) c) (ia (F := F) i))) = bigSep Finset.univ Φ := by
  show (bigSep Finset.univ fun c : Fin 2 => bigSep Finset.univ fun i : Fin 16 => Φ (wOf c i)) = _
  rw [← BI.bigSep_univ_prod (fun p : Fin 2 × Fin 16 => Φ (wOf p.1 p.2))]
  rw [show (Finset.univ : Finset (Fin 32)) = (Finset.univ : Finset (Fin 2 × Fin 16)).image (fun p => wOf p.1 p.2) by decide +kernel]
  refine (SparseCore.bigSep_image_of_injOn (f := fun p : Fin 2 × Fin 16 => wOf p.1 p.2) (fun p _ q _ h => ?_) Φ).symm
  have e : ∀ p q : Fin 2 × Fin 16, wOf p.1 p.2 = wOf q.1 q.2 → p = q := by decide +kernel
  exact e p q h

theorem pts_rows {ℓ : Loc nD τ sig} (R : Fin 32 → Finset (Idx ℓ)) (hd : ∀ i ∈ (Finset.univ : Finset (Fin 32)), ∀ j ∈ (Finset.univ : Finset (Fin 32)), i ≠ j → Disjoint (R i) (R j))
    (hc : (Finset.univ : Finset (Fin 32)).biUnion R = Finset.univ) (f : Buf (Elt F) ℓ) :
    (ℓ ↦{fullShare} f : sProp 𝕄) = bigSep Finset.univ fun w : Fin 32 => ℓ ↦[R w]{fullShare} f := by
  rw [← pointsTo_biUnion Finset.univ (ℓ := ℓ) R hd, hc]; try rfl

theorem eq_of_equiv {P Q : sProp 𝕄} (h : P ⊣⊢ Q) : P = Q := BI.Entails.antisymm h.1 h.2

theorem pts_shares {ℓ : Loc nD τ sig} (f : Buf (Elt F) ℓ) :
    (ℓ ↦{fullShare} f : sProp 𝕄)
      = iprop((ℓ ↦{Transfers.shareDrop fullShare 32} f) ∗ bigSep Finset.univ fun w : Fin 32 => ℓ ↦{Transfers.shareTokN fullShare w.val} f) := by
  have h := Transfers.pointsTo_toks_range (ℓ := ℓ) (S := Finset.univ) (f := f) (Ix := HIx 1) (Name := ℕ) (U := UU) (Lvl := ℕ) fullShare 32
  rw [show (Finset.range 32) = (Finset.univ : Finset (Fin 32)).image Fin.val by decide,
    SparseCore.bigSep_image_of_injOn (f := (Fin.val : Fin 32 → ℕ)) (Fin.val_injective.injOn)] at h
  exact BI.Entails.antisymm h.1 h.2

/-- A tile's piece, its rows at given contents. -/
def tileAt (d : Dev nD) (fm : Buf (Elt F) (mLoc d)) (fz : Buf (Elt F) (zLoc d)) (fi : Buf (Elt F) (iLoc d)) (w : Fin 32) : sProp 𝕄 :=
  iprop((xLoc d ↦{Transfers.shareTokN fullShare w.val} m (xLoc d)) ∗ (mLoc d ↦[rowSet w]{fullShare} fm)
    ∗ (zLoc d ↦[rowSet w]{fullShare} fz) ∗ (iLoc d ↦[rowSet w]{fullShare} fi))

/-- The four arrays are the tiles' pieces and the rest of the logits' share. -/
theorem deal (d : Dev nD) (fm : Buf (Elt F) (mLoc d)) (fz : Buf (Elt F) (zLoc d)) (fi : Buf (Elt F) (iLoc d)) :
    (iprop((xLoc d ↦{fullShare} m (xLoc d)) ∗ (mLoc d ↦{fullShare} fm) ∗ (zLoc d ↦{fullShare} fz) ∗ (iLoc d ↦{fullShare} fi)) : sProp 𝕄)
      = iprop((xLoc d ↦{Transfers.shareDrop fullShare 32} m (xLoc d)) ∗ bigSep Finset.univ fun w : Fin 32 => tileAt m d fm fz fi w) := by
  unfold tileAt
  rw [bigSep_sep', bigSep_sep', bigSep_sep', pts_shares (ℓ := xLoc d), pts_rows (ℓ := mLoc d) rowSet rowSet_disjoint rowSet_cover,
    pts_rows (ℓ := zLoc d) rowSet rowSet_disjoint rowSet_cover, pts_rows (ℓ := iLoc d) rowSet rowSet_disjoint rowSet_cover]
  exact eq_of_equiv sep_assoc

theorem st_eq (d : Dev nD) : (bigSep Finset.univ fun c : Fin ((K (F := F)).nCore 0) => (P m).st 0 d c)
    = bigSep Finset.univ fun w : Fin 32 => tileAt m d (m (mLoc d)) (m (zLoc d)) (m (iLoc d)) w :=
  bigSep_tiles (fun w => tileAt m d (m (mLoc d)) (m (zLoc d)) (m (iLoc d)) w)
theorem dn_eq (d : Dev nD) : (bigSep Finset.univ fun c : Fin ((K (F := F)).nCore 0) => (P m).dn 0 d c)
    = bigSep Finset.univ fun w : Fin 32 => tileAt m d (mOut (m (xLoc d))) (zOut (m (xLoc d))) (iOut (m (xLoc d))) w :=
  bigSep_tiles (fun w => tileAt m d (mOut (m (xLoc d))) (zOut (m (xLoc d))) (iOut (m (xLoc d))) w)

/-- The arrays of the SparseCore call. -/
def refs4 : Finset (DevRef τ sig) := {(main_arg0 : DevRef τ sig), (main_v0_0 : DevRef τ sig), (main_v0_1 : DevRef τ sig), (main_v0_2 : DevRef τ sig)}

theorem refs4_sub : refs4 ⊆ ucRefs τ sig := by
  intro b hb
  unfold refs4 at hb
  simp only [Finset.mem_insert, Finset.mem_singleton] at hb
  rcases hb with h | h | h | h <;> rw [h] <;> exact Finset.mem_filter.mpr ⟨StableHlo.devRef_mem_tcRefs _, by rw [Proc.isScoped_devRef]; decide⟩

theorem held4 (d : Dev nD) (W : Valuation τ sig (Elt F)) :
    (held (d : Thread nD τ) refs4 W : sProp 𝕄)
      = iprop((xLoc d ↦{fullShare} W (main_arg0 : DevRef τ sig)) ∗ (mLoc d ↦{fullShare} W (main_v0_0 : DevRef τ sig))
          ∗ (zLoc d ↦{fullShare} W (main_v0_1 : DevRef τ sig)) ∗ (iLoc d ↦{fullShare} W (main_v0_2 : DevRef τ sig))) := by
  unfold held refs4
  rw [SparseCore.bigSep_insert' (by decide), SparseCore.bigSep_insert' (by decide), SparseCore.bigSep_insert' (by decide), bigSep_singleton]

/-! ## The launch element -/

def u₀ : UU := ((initOf (K (F := F)).hsCells (K (F := F)).hsToks,
  initOf (Pipeline.cells (Pipeline.pin (pcfgs (F := F)) adm) phinj) (Pipeline.launchToks (Pipeline.pin (pcfgs (F := F)) adm) phinj)), 1)

/-- The TensorCore's own ghost state: the pipeline's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ (1 : Counters)) $$ Hu
  icases H with ⟨H, -⟩
  ihave H := (own_pair_emb embL _ _) $$ H
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · unfold G
    iapply (Entails.of_eq (bigSep_sep' (M := 𝕄) Finset.univ (fun d : Dev nD => Pipeline.cellsGhost (Pipeline.pin (pcfgs (F := F)) adm) EP 0 d)
      (fun d : Dev nD => Pipeline.toksInit (Pipeline.pin (pcfgs (F := F)) adm) EP 0 d)).symm)
    isplitl [Hg]
    · iapply (Entails.of_eq (bigSep_congr fun (c : Dev nD) _ => bigSep_univ_of_subsingleton (0 : Fin 1)
        (Φ := fun p => (Pipeline.cellsGhost (Pipeline.pin (pcfgs (F := F)) adm) EP p c : sProp 𝕄)))); iexact Hg
    · iapply (Entails.of_eq (bigSep_congr fun (c : Dev nD) _ => bigSep_univ_of_subsingleton (0 : Fin 1)
        (Φ := fun p => (Pipeline.toksInit (Pipeline.pin (pcfgs (F := F)) adm) EP p c : sProp 𝕄)))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's program -/

/-- The TensorCore kernel's region, from the SparseCore call's contents. -/
def regionAt := reg (V1 (F := F) m) (V2 m) (fun _ => iprop(emp)) (W2_m m) (W2_z m) (W2_i m)
  (fun c b h1 h2 h3 => W2_ne m c b (fun h => h1 (Proc.devRef_injective _ h)) (fun h => h2 (Proc.devRef_injective _ h)) (fun h => h3 (Proc.devRef_injective _ h)))

/-- The call's results and the arrays it did not touch are everything, after it. -/
theorem join1 (d : Dev nD) :
    (iprop(((xLoc d ↦{fullShare} m (xLoc d)) ∗ (mLoc d ↦{fullShare} mOut (m (xLoc d))) ∗ (zLoc d ↦{fullShare} zOut (m (xLoc d)))
        ∗ (iLoc d ↦{fullShare} iOut (m (xLoc d)))) ∗ held (d : Thread nD τ) (ucRefs τ sig \ refs4) (launchContents m d)) : sProp 𝕄)
      = unscopedBufs d (V1 m d) := by
  refine Eq.trans ?_ (Pipeline.unscopedBufs_held d (W1 m d)).symm
  rw [StableHlo.held_sub_split (d : Thread nD τ) refs4_sub, held4, W1_x, W1_m, W1_z, W1_i]
  congr 1

abbrev FIN (d : Dev nD) : sProp 𝕄 := held (d : Thread nD τ) (ucRefs τ sig) (W3 m d)

theorem owes_end (d : Dev nD) : (idleOwes (F := F) d : sProp 𝕄)
    ⊢ iprop(∃ W, ⌜(K (F := F)).WBelow (SparseCore.T d) W (8 * SparseCore.Cfg.Blocks.fst 1 1 1)⌝ ∗ owes (SparseCore.T d) ((K (F := F)).Otc d 1) W) := by
  rw [(K (F := F)).Otc_end d (le_refl 1)]
  unfold idleOwes
  exact Entails.of_eq rfl
theorem owes_start (d : Dev nD) :
    (iprop(∃ W, ⌜(K (F := F)).WBelow (SparseCore.T d) W (8 * SparseCore.Cfg.Blocks.fst 1 1 1)⌝ ∗ owes (SparseCore.T d) ((K (F := F)).Otc d 1) W) : sProp 𝕄)
      ⊢ idleOwes (F := F) d := by
  rw [(K (F := F)).Otc_end d (le_refl 1)]
  unfold idleOwes
  exact Entails.of_eq rfl

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d : Thread nD τ) (ucRefs τ sig) (launchContents m d) from
    Pipeline.unscopedBufs_held d (launchContents m d), StableHlo.held_sub_split (d : Thread nD τ) refs4_sub, held4]
  unfold callsThen
  rw [wp_bind]
  iintro ⟨#Hctx, Hst, ⟨Hb, ⟨H4, Hrest⟩, Hts, -⟩, HG⟩
  ihave H4 := (Entails.of_eq (deal m d (m (mLoc d)) (m (zLoc d)) (m (iLoc d)))) $$ H4
  icases H4 with ⟨Hx, Htiles⟩
  iapply ((K (F := F)).wp_run (D (F := F)) 𝒱 (EH := EH) (P := P m) κ d 0) $$ [Hst Htiles Hx Hb Hrest Hts HG]
  isplitr; · iexact Hctx
  isplitl [Hst]; · iexact Hst
  isplitl [Htiles]; · rw [st_eq]; iexact Htiles
  iintro ⟨Hst, Hdn⟩
  ihave Hdn := (Entails.of_eq (dn_eq m d)) $$ Hdn
  ihave H4 := (Entails.of_eq (deal m d (mOut (m (xLoc d))) (zOut (m (xLoc d))) (iOut (m (xLoc d)))).symm) $$ [Hx Hdn]
  · isplitl [Hx] <;> iassumption
  ihave Hheld := (Entails.of_eq (join1 m d)) $$ [H4 Hrest]
  · isplitl [H4] <;> iassumption
  unfold SparseCore.Cfg.tcSt
  icases Hst with ⟨HO, Hat, Hrd, Hrs, Htoks⟩
  ihave Hlev := (SparseCore.Cfg.ctx_levAts κ) $$ Hctx
  rw [wp_bind]
  iapply ((K (F := F)).wp_liftProg (D := D (F := F)) (𝒱 := 𝒱) (SparseCore.T d) Set.univ none (Prog.lift (.customCall (Pipeline.entry 0) ())) _)
  iapply (Pipeline.RegionSeg.wp (pcfgs (F := F)) adm (pdats (V1 m)) none phinj EP defs₀ 𝒱₀ (K (F := F)).L (K (F := F)).lev (regionAt m) d none
    (fun _ h => nomatch h) .ret _)
  rw [show (regionAt m).pre d = iprop(unscopedBufs d (V1 m d) ∗ emp ∗ idleOwes (F := F) d) from rfl,
    show (regionAt m).post d = iprop(unscopedBufs d (V2 m d) ∗ emp ∗ idleOwes (F := F) d) from rfl]
  isplitr [Hb Hheld HO Hlev HG]
  · iintro ⟨Hb, Hheld, -, HO⟩
    rw [show (Prog.ret PUnit.unit : Prog (TpuEff nD τ sig (Elt F) (ΛP (F := F)) .tc) PUnit) = pure ⟨⟩ from rfl, wp_pure]
    ihave Hheld := (Entails.of_eq (show (unscopedBufs d (V2 m d) : sProp 𝕄) = held (d : Thread nD τ) (ucRefs τ sig) (W2 m d) from Pipeline.unscopedBufs_held d (W2 m d))) $$ Hheld
    rw [← bind_pure (StableHlo.seq hostOps)]
    imodintro
    iapply (StableHlo.wp_seq (defs := (K (F := F)).defs (D (F := F))) (𝒱 := 𝒱) (bd := none) (E := Set.univ) d (ucRefs τ sig)
      (fun x => pure x) hostOps host_bufs host_fresh (W2 m d)) $$ [Hb Hheld]
    · isplitl [Hb] <;> iassumption
    iintro ⟨Hb, Hheld⟩
    rw [wp_pure]
    imodintro
    isplitl [HO Hat Hrd Hrs Htoks]
    · isplitl [HO]
      · iapply (owes_end d); iexact HO
      isplitl [Hat]; · iexact Hat
      isplitl [Hrd]; · iexact Hrd
      isplitl [Hrs]; · iexact Hrs
      iexact Htoks
    isplitl [Hheld]; · iexact Hheld
    isplitl [Hb] <;> iassumption
  isplitl [Hb]; · iexact Hb
  isplitl [Hheld HO]
  · isplitl [Hheld]; · iexact Hheld
    isplitr; · iempintro
    iapply (owes_start d); iexact HO
  isplitl [Hlev]; · iexact Hlev
  unfold G
  iexact HG

/-! ## The run -/

/-- The result's array. -/
abbrev rLoc (d : Dev nD) : Loc nD τ sig := (SparseCore.T d).loc main_v211

def refs2 : Finset (DevRef τ sig) := {(main_arg0 : DevRef τ sig), (main_v211 : DevRef τ sig)}

theorem refs2_sub : refs2 ⊆ ucRefs τ sig := by
  intro b hb
  unfold refs2 at hb
  simp only [Finset.mem_insert, Finset.mem_singleton] at hb
  rcases hb with h | h <;> rw [h] <;> exact Finset.mem_filter.mpr ⟨StableHlo.devRef_mem_tcRefs _, by rw [Proc.isScoped_devRef]; decide⟩

theorem held2 (d : Dev nD) (W : Valuation τ sig (Elt F)) :
    (held (d : Thread nD τ) refs2 W : sProp 𝕄)
      = iprop((xLoc d ↦{fullShare} W (main_arg0 : DevRef τ sig)) ∗ (rLoc d ↦{fullShare} W (main_v211 : DevRef τ sig))) := by
  unfold held refs2
  rw [SparseCore.bigSep_insert' (by decide), bigSep_singleton]

def fq (d : Dev nD) (s' : Phys nD τ sig (Elt F)) : Prop :=
  s'.mem.mem (xLoc d) = m (xLoc d) ∧ s'.mem.mem (rLoc d) = W3 m d (main_v211 : DevRef τ sig)

theorem hfin (d : Dev nD) (s' : Phys nD τ sig (Elt F)) : iprop(FIN m d ∗ SI s') ⊢ (⌜fq m d s'⌝ : sProp 𝕄) := by
  unfold FIN
  rw [StableHlo.held_sub_split (d : Thread nD τ) refs2_sub, held2, W3_x]
  iintro ⟨⟨⟨Hi, Hx⟩, -⟩, HSI⟩
  ihave H := (persistent_entails_right (SI_pointsTo_agree (st := s') (ℓ := xLoc d) (I := Finset.univ) (q := fullShare) (f := m (xLoc d)))) $$ [HSI Hi]
  · isplitl [HSI] <;> iassumption
  icases H with ⟨%h1, HSI, -⟩
  ihave H := (SI_pointsTo_agree (st := s') (ℓ := rLoc d) (I := Finset.univ) (q := fullShare) (f := W3 m d (main_v211 : DevRef τ sig))) $$ [HSI Hx]
  · isplitl [HSI] <;> iassumption
  icases H with %h2
  ipureintro
  have e1 : s'.mem.mem (xLoc d) = m (xLoc d) := funext fun (i : Idx (xLoc d)) => h1 i (by simp)
  have e2 : s'.mem.mem (rLoc d) = W3 m d (main_v211 : DevRef τ sig) := funext fun (i : Idx (rLoc d)) => h2 i (by simp)
  exact ⟨e1, e2⟩

def QC : PUnit × MemSt nD τ sig (Elt F) → Prop := fun r =>
  (∀ d : Dev nD, r.2.mem (xLoc d) = m (xLoc d) ∧ r.2.mem (rLoc d) = W3 m d (main_v211 : DevRef τ sig)) ∧ r.2.sem = fun _ => 0

/-- Every execution ends, faultless and quiescent, the logits kept and the result at the host operations' last value. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof
-- ==== Proof.RefRun.lean ====
/- The reference's run: a straight line of host operations. -/
module

public import proofs.«01_k».proof.Proof.Gen.ReferenceIdeal
public import Idealize.ShloMosaic.Lib.StableHlo.RunHlo
public import Idealize.ShloMosaic.Lib.Claim

@[expose] public section

set_option maxRecDepth 65536

noncomputable section

namespace Cert.Proof.Ref

open Cert.ReferenceIdeal Cert.ReferenceIdeal.Gen
open Idealize.ShloMosaic
open Idealize.ShloMosaic.TcCoe
open Idealize.ShloMosaic.StableHlo (IsSeq after launchContents)
open Idealize.SL Idealize.SL.Sem

variable {F : FTy → Type} [FloatOps F] [∀ e, Nonempty (Elt F e)]

def ref0 : { ops : List (HloOp τ sig (Elt F)) // ∀ d, IsSeq (main_part0 (F := F) d) ops } :=
  by apply Subtype.mk; unfold main_part0; hlo_seq

def ref1 : { ops : List (HloOp τ sig (Elt F)) // ∀ d, IsSeq (main_part1 (F := F) d) ops } :=
  by apply Subtype.mk; unfold main_part1; hlo_seq

/-- The reference's operations, in order. -/
def refOps : List (HloOp τ sig (Elt F)) := ref0.1 ++ ref1.1

theorem ref_main (d : Dev nD) : IsSeq (main (F := F) d) refOps := by
  have e0 := (ref0 (F := F)).2 d
  have e1 := (ref1 (F := F)).2 d
  unfold IsSeq at e0 e1 ⊢
  unfold main refOps
  rw [e0, e1, StableHlo.seq_append]

theorem fresh0 : ∀ op ∈ (ref0 (F := F)).1, op.fresh = ∅ := by
  dsimp only [ref0]
  intro _ h
  repeat (cases h with | head => rfl | tail _ h => ?_)
  exact nomatch h
theorem fresh1 : ∀ op ∈ (ref1 (F := F)).1, op.fresh = ∅ := by
  dsimp only [ref1]
  intro _ h
  repeat (cases h with | head => rfl | tail _ h => ?_)
  exact nomatch h
theorem bufs0 : (ref0 (F := F)).1.Forall fun op => op.bufs ⊆ StableHlo.tcRefs τ sig := by dsimp only [ref0]; simp
theorem bufs1 : (ref1 (F := F)).1.Forall fun op => op.bufs ⊆ StableHlo.tcRefs τ sig := by dsimp only [ref1]; simp
theorem keeps0 : ∀ op ∈ (ref0 (F := F)).1, (main_arg0 : DevRef τ sig) ∉ op.writes := by
  dsimp only [ref0]
  intro _ h
  repeat (cases h with | head => exact fun h => absurd (Finset.mem_singleton.mp h) (by decide) | tail _ h => ?_)
  exact nomatch h
theorem keeps1 : ∀ op ∈ (ref1 (F := F)).1, (main_arg0 : DevRef τ sig) ∉ op.writes := by
  dsimp only [ref1]
  intro _ h
  repeat (cases h with | head => exact fun h => absurd (Finset.mem_singleton.mp h) (by decide) | tail _ h => ?_)
  exact nomatch h

theorem ref_x (V : Valuation τ sig (Elt F)) : after refOps V (main_arg0 : DevRef τ sig) = V (main_arg0 : DevRef τ sig) :=
  StableHlo.after_of_forall_not_mem refOps V fun op h => by
    rcases List.mem_append.mp h with h | h
    exacts [keeps0 op h, keeps1 op h]

/-- Every execution of the reference ends, faultless and quiescent, the logits kept and the result at its last value. -/
theorem run_ref (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      (∀ d : Dev nD, r.2.mem ((d.tc : Thread nD τ).loc main_arg0) = m ((d.tc : Thread nD τ).loc main_arg0)
        ∧ r.2.mem ((d.tc : Thread nD τ).loc main_v56) = after refOps (launchContents m d) (main_v56 : DevRef τ sig))
      ∧ r.2.sem = fun _ => 0 :=
  (θ_run Cert.ReferenceIdeal.defs _ _).mono
    (fun r h => ⟨fun d => ⟨(h d main_arg0).trans (ref_x _), h d main_v56⟩, Idealize.ShloMosaic.sem_eq_zero_of_no_sems (by decide) r.2⟩)
    (StableHlo.run_hlo _ _ ref_main (by decide) (by decide)
      (List.forall_iff_forall_mem.mpr fun op h => by
        rcases List.mem_append.mp h with h | h
        exacts [List.forall_iff_forall_mem.mp bufs0 op h, List.forall_iff_forall_mem.mp bufs1 op h])
      (fun op h => by
        rcases List.mem_append.mp h with h | h
        exacts [fresh0 op h, fresh1 op h]) m ρ)

end Cert.Proof.Ref
-- ==== Proof.Same.lean ====
/- The program as printed, at the floats' bits, is the program already run. -/
module

public import proofs.«01_k».proof.Defs
public import proofs.«01_k».proof.Proof.Gen.Kernel
public import proofs.«01_k».proof.Proof.Main

@[expose] public section

set_option maxRecDepth 65536
set_option maxHeartbeats 0

noncomputable section

namespace Cert.Proof

open Idealize.ShloMosaic Idealize.SL.Sem

/-- The run at the floats' bits, with its values dropped. -/
def Frame : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem frame_bits : Frame := fun m ρ =>
  (θ_run Cert.KernelIdeal.defs _ _).mono (fun _ h => ⟨fun c => (h.1 c).1, h.2⟩) (run_main (F := Bits) m ρ)

/-- The two body tables are one. -/
theorem same_defs₀ : Cert.Kernel.defs₀ (F := Bits) = Cert.KernelIdeal.defs₀ (F := Bits) := by
  funext p l a
  match p, l, a with
  | .scVector c s, 0, _ => rfl
  | .scVector c s, 1, _ => rfl
  | .tc, 0, _ => rfl
  | .tc, 1, (t, s) => rfl
  | .scScalar c, 0, _ => rfl
  | .scScalar c, 1, _ => rfl

theorem same_defs : Cert.Kernel.defs (F := Bits) = Cert.KernelIdeal.defs (F := Bits) := by
  show (Cert.KernelIdeal.sc (F := Bits)).defs (Pipeline.defs Cert.KernelIdeal.pcfgs (Cert.Kernel.defs₀ (F := Bits))) = _
  rw [same_defs₀]
  rfl

theorem same_main (d : Dev Cert.KernelIdeal.nD) : Cert.Kernel.main (F := Bits) d = Cert.KernelIdeal.main (F := Bits) d := rfl

theorem same_threads : Cert.Kernel.threads (F := Bits) = Cert.KernelIdeal.threads (F := Bits) := by
  show (Cert.KernelIdeal.sc (F := Bits)).threads (Cert.Kernel.main (F := Bits)) = _
  rw [show Cert.Kernel.main (F := Bits) = Cert.KernelIdeal.main (F := Bits) from funext same_main]

theorem frame_P : Cert.quiescent_Kernel := fun m g _ => by
  have h : ∀ (D : Defs Cert.KernelIdeal.nD Cert.KernelIdeal.τ Cert.KernelIdeal.sig (Elt Bits) _)
      (M : (c : Thread Cert.KernelIdeal.nD Cert.KernelIdeal.τ) → Prog _ PUnit),
      D = Cert.KernelIdeal.defs (F := Bits) → M = Cert.KernelIdeal.threads (F := Bits) →
      θ_run D M ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) := by
    rintro _ _ rfl rfl
    exact frame_bits m g
  exact h _ _ same_defs same_threads

end Cert.Proof

end
-- ==== Proof.Lanes.lean ====
/- Both calls' lanes as one fold: the columns of a lane in order, each updating the lane's record. -/
module

public import proofs.«01_k».proof.Proof.ScBody
public import proofs.«01_k».proof.Proof.TcBody

@[expose] public section

set_option synthInstance.maxSize 4096
set_option maxRecDepth 65536

noncomputable section

namespace Cert.Proof

open Idealize.ShloMosaic Idealize.SL.Sem
open Cert.KernelIdeal Cert.KernelIdeal.Gen

variable {F : FTy → Type} [FloatOps F]

/-- A record after the first `n` of the columns `cl`, in a row of logits `x` whose first counter is `row`. -/
def laneFold (x : ℕ → F .f32) (row : BitVec 32) (cl : ℕ → ℕ) (a : Acc F) : ℕ → Acc F
  | 0 => a
  | n + 1 => (laneFold x row cl a n).step (x (cl n)) (IntOp.addi row (BitVec.ofNat 32 (cl n))) (BitVec.ofNat 32 (cl n))

theorem laneFold_zero (x : ℕ → F .f32) (row : BitVec 32) (cl : ℕ → ℕ) (a : Acc F) : laneFold x row cl a 0 = a := rfl

theorem laneFold_add (x : ℕ → F .f32) (row : BitVec 32) (cl : ℕ → ℕ) (a : Acc F) (n k : ℕ) :
    laneFold x row cl a (n + k) = laneFold x row (fun i => cl (n + i)) (laneFold x row cl a n) k := by
  induction k with
  | zero => rfl
  | succ k ih =>
    show (laneFold x row cl a (n + k)).step _ _ _ = _
    rw [ih]; rfl

theorem laneFold_congr (x : ℕ → F .f32) (row : BitVec 32) {cl cl' : ℕ → ℕ} (a : Acc F) (n : ℕ) (h : ∀ k < n, cl k = cl' k) :
    laneFold x row cl a n = laneFold x row cl' a n := by
  induction n with
  | zero => rfl
  | succ n ih =>
    show (laneFold x row cl a n).step _ _ _ = (laneFold x row cl' a n).step _ _ _
    rw [ih (fun k hk => h k (by omega)), h n (by omega)]

theorem colAt_eq (b o n : ℕ) (l : S16.Idx) :
    colAt (BitVec.ofNat 32 b) (BitVec.ofNat 32 o) lane16 (Scf.iv 0#32 1#32 n) l = BitVec.ofNat 32 (b + (32 * n + o) + (l 0).val) := by
  have hl : lane16 l = BitVec.ofNat 32 (l 0).val := by
    show BitVec.ofNat 32 (0 * 16 + (l 0).val) = _
    rw [Nat.zero_mul, Nat.zero_add]
  unfold colAt
  rw [hl]
  show BitVec.ofNat 32 b + (0#32 + BitVec.ofNat 32 n * 1#32) * 32#32 + BitVec.ofNat 32 o + BitVec.ofNat 32 (l 0).val = _
  apply BitVec.eq_of_toNat_eq
  simp only [BitVec.toNat_add, BitVec.toNat_mul, BitVec.toNat_ofNat]
  omega

/-- A column loop on a lane of the low half. -/
theorem vfold_lo (row : BitVec 32) (x : ℕ → F .f32) (b : ℕ) (s : VAcc F) (l : S16.Idx) (n : ℕ) :
    (vfold row (BitVec.ofNat 32 b) lane16 x b s n).lo l = laneFold x row (fun k => b + 32 * k + (l 0).val) (s.lo l) n := by
  induction n with
  | zero => rfl
  | succ n ih =>
    show ((vfold row (BitVec.ofNat 32 b) lane16 x b s n).lo l).step (x (b + 32 * n + (l 0).val))
      (IntOp.addi row (colAt (BitVec.ofNat 32 b) (BitVec.ofNat 32 0) lane16 (Scf.iv 0#32 1#32 n) l))
      (colAt (BitVec.ofNat 32 b) (BitVec.ofNat 32 0) lane16 (Scf.iv 0#32 1#32 n) l) = _
    rw [ih, colAt_eq]
    rfl

/-- A column loop on a lane of the high half. -/
theorem vfold_hi (row : BitVec 32) (x : ℕ → F .f32) (b : ℕ) (s : VAcc F) (l : S16.Idx) (n : ℕ) :
    (vfold row (BitVec.ofNat 32 b) lane16 x b s n).hi l = laneFold x row (fun k => b + 32 * k + ((l 0).val + 16)) (s.hi l) n := by
  induction n with
  | zero => rfl
  | succ n ih =>
    show ((vfold row (BitVec.ofNat 32 b) lane16 x b s n).hi l).step (x (b + (32 * n + 16) + (l 0).val))
      (IntOp.addi row (colAt (BitVec.ofNat 32 b) (BitVec.ofNat 32 16) lane16 (Scf.iv 0#32 1#32 n) l))
      (colAt (BitVec.ofNat 32 b) (BitVec.ofNat 32 16) lane16 (Scf.iv 0#32 1#32 n) l) = _
    rw [ih, colAt_eq, show b + (32 * n + 16) + (l 0).val = b + 32 * n + ((l 0).val + 16) by omega]
    rfl

/-- The columns of a TensorCore lane. -/
def tcCol (l k : ℕ) : ℕ := 229376 + 512 * k + l

/-- A column's counter, as each call computes it. -/
theorem ctr_eq (r : ℕ) (c : BitVec 32) :
    IntOp.addi (IntOp.addi (IntOp.muli (BitVec.ofNat 32 (0 * 32 + r)) 1000000#32) c) 42#32 = IntOp.addi (BitVec.ofNat 32 (r * 1000000 + 42)) c := by
  unfold IntOp.addi IntOp.muli
  rw [Nat.zero_mul, Nat.zero_add, BitVec.ofNat_add, BitVec.ofNat_mul]
  rw [BitVec.add_assoc, BitVec.add_assoc, BitVec.add_comm c 42#32]

/-- One group on one lane. -/
theorem tstep (A : S32x1000000.Idx → F .f32) (n : ℕ) (hn : n < 94) (k : ℕ) (K : BitVec 32) (o : Fin 2 → ℕ) (h) (hK : K = BitVec.ofNat 32 (512 * k))
    (ho : o = ![0, 512 * k]) (s : TAcc F) (j : S32x512.Idx) :
    (TAcc.step (tcoord n) K s (tgrp (tX A n) o h)).at j = (s.at j).step (rowOf A (j 0) (tcCol (j 1).val (16 * n + k)))
      (IntOp.addi (rowBase (j 0)) (BitVec.ofNat 32 (tcCol (j 1).val (16 * n + k)))) (BitVec.ofNat 32 (tcCol (j 1).val (16 * n + k))) := by
  subst hK ho
  have hc : vcol (tcoord n) (BitVec.ofNat 32 (512 * k)) j = BitVec.ofNat 32 (tcCol (j 1).val (16 * n + k)) := by
    show ((229376#32 + BitVec.ofNat 32 (n % 94) * 8192#32) + BitVec.ofNat 32 (512 * k)) + BitVec.ofNat 32 (0 * 512 + (j 1).val) = _
    unfold tcCol
    apply BitVec.eq_of_toNat_eq
    simp only [BitVec.toNat_add, BitVec.toNat_mul, BitVec.toNat_ofNat, Nat.mod_eq_of_lt hn]
    omega
  have hr : vctr (vcol (tcoord n) (BitVec.ofNat 32 (512 * k))) j = IntOp.addi (rowBase (j 0)) (vcol (tcoord n) (BitVec.ofNat 32 (512 * k)) j) := by
    generalize vcol (tcoord n) (BitVec.ofNat 32 (512 * k)) = C
    exact ctr_eq (j 0).val (C j)
  have hx : tgrp (tX A n) ![0, 512 * k] h j = rowOf A (j 0) (tcCol (j 1).val (16 * n + k)) := by
    have h0 : (Rect.unit (s := S32x8192) ![0, 512 * k] S32x512.size h).idx j 0 = j 0 := Fin.ext (by
      show 0 + 1 * (j 0).val = _
      omega)
    have h1 : ((Rect.unit (s := S32x8192) ![0, 512 * k] S32x512.size h).idx j 1).val = 512 * k + 1 * (j 1).val := rfl
    unfold tgrp tX tcCol
    rw [h0, h1]
    congr 1
    omega
  rw [TAcc.step_at, hr, hc, hx]

theorem tblock_at (A : S32x1000000.Idx → F .f32) (n : ℕ) (hn : n < 94) (s : TAcc F) (j : S32x512.Idx) :
    (tblock (tcoord n) (tX A n) s).at j
      = laneFold (rowOf A (j 0)) (rowBase (j 0)) (fun k => tcCol (j 1).val (16 * n + k)) (s.at j) 16 := by
  unfold tblock
  rw [tstep A n hn 15 _ _ _ rfl rfl, tstep A n hn 14 _ _ _ rfl rfl, tstep A n hn 13 _ _ _ rfl rfl, tstep A n hn 12 _ _ _ rfl rfl,
    tstep A n hn 11 _ _ _ rfl rfl, tstep A n hn 10 _ _ _ rfl rfl, tstep A n hn 9 _ _ _ rfl rfl, tstep A n hn 8 _ _ _ rfl rfl,
    tstep A n hn 7 _ _ _ rfl rfl, tstep A n hn 6 _ _ _ rfl rfl, tstep A n hn 5 _ _ _ rfl rfl, tstep A n hn 4 _ _ _ rfl rfl,
    tstep A n hn 3 _ _ _ rfl rfl, tstep A n hn 2 _ _ _ rfl rfl, tstep A n hn 1 _ _ _ rfl rfl, tstep A n hn 0 _ _ _ rfl rfl]
  rfl

attribute [local irreducible] laneFold vfold

/-- The columns of a SparseCore lane. -/
def scCol (l k : ℕ) : ℕ := if k < 7168 then 32 * k + l else 999424 + 32 * (k - 7168) + l

/-- The record a SparseCore lane begins with. -/
def scFirst : Acc F := ⟨FloatOps.ofBits .f32 0xFF61B1E6#32, FloatOps.ofBits .f32 0#32, FloatOps.ofBits .f32 0#32, FloatOps.ofBits .f32 0xBF800000#32, 0#32⟩

/-- One more chunk of 896 trips. -/
theorem chunk (x : ℕ → F .f32) (row : BitVec 32) (l j b : ℕ) (a : Acc F) (hj : j < 8) (hb : b = 28672 * j) :
    laneFold x row (fun k => b + 32 * k + l) (laneFold x row (scCol l) a (896 * j)) 896 = laneFold x row (scCol l) a (896 * (j + 1)) := by
  rw [show 896 * (j + 1) = 896 * j + 896 by omega, laneFold_add]
  refine laneFold_congr _ _ _ _ (fun k hk => ?_)
  unfold scCol
  rw [if_pos (by omega)]; omega

/-- The nine loops as one. -/
theorem chunks (x : ℕ → F .f32) (row : BitVec 32) (l : ℕ) (a : Acc F) :
    laneFold x row (fun k => 999424 + 32 * k + l) (laneFold x row (fun k => 200704 + 32 * k + l) (laneFold x row (fun k => 172032 + 32 * k + l)
      (laneFold x row (fun k => 143360 + 32 * k + l) (laneFold x row (fun k => 114688 + 32 * k + l) (laneFold x row (fun k => 86016 + 32 * k + l)
      (laneFold x row (fun k => 57344 + 32 * k + l) (laneFold x row (fun k => 28672 + 32 * k + l) (laneFold x row (fun k => 0 + 32 * k + l) a
      896) 896) 896) 896) 896) 896) 896) 896) 18 = laneFold x row (scCol l) a 7186 := by
  rw [show laneFold x row (fun k => 0 + 32 * k + l) a 896 = laneFold x row (scCol l) a (896 * (0 + 1)) by have := chunk x row l 0 0 a (by omega) rfl; rwa [Nat.mul_zero, laneFold_zero] at this,
    chunk x row l (0 + 1) 28672 a (by omega) rfl, chunk x row l (0 + 1 + 1) 57344 a (by omega) rfl,
    chunk x row l (0 + 1 + 1 + 1) 86016 a (by omega) rfl, chunk x row l (0 + 1 + 1 + 1 + 1) 114688 a (by omega) rfl,
    chunk x row l (0 + 1 + 1 + 1 + 1 + 1) 143360 a (by omega) rfl, chunk x row l (0 + 1 + 1 + 1 + 1 + 1 + 1) 172032 a (by omega) rfl,
    chunk x row l (0 + 1 + 1 + 1 + 1 + 1 + 1 + 1) 200704 a (by omega) rfl]
  refine (laneFold_congr _ _ _ _ (fun k hk => ?_)).trans (laneFold_add x row (scCol l) a 7168 18).symm
  unfold scCol
  rw [if_neg (by omega)]; omega

/-- A SparseCore lane's record. -/
theorem scOut_eq (x : ℕ → F .f32) (row : BitVec 32) (l : Fin 32) :
    scOut x row l = laneFold x row (scCol l.val) scFirst 7186 := by
  unfold scOut
  split
  · next h =>
    unfold scRow
    rw [vfold_lo row x 999424, vfold_lo row x 200704, vfold_lo row x 172032, vfold_lo row x 143360, vfold_lo row x 114688, vfold_lo row x 86016,
      vfold_lo row x 57344, vfold_lo row x 28672, vfold_lo row x 0]
    exact chunks x row l.val _
  · next h =>
    unfold scRow
    rw [vfold_hi row x 999424, vfold_hi row x 200704, vfold_hi row x 172032, vfold_hi row x 143360, vfold_hi row x 114688, vfold_hi row x 86016,
      vfold_hi row x 57344, vfold_hi row x 28672, vfold_hi row x 0]
    have e : ((ix1 (⟨l.val - 16, by omega⟩ : Fin 16) : S16.Idx) 0).val + 16 = l.val := by
      show l.val - 16 + 16 = l.val
      omega
    rw [e]
    exact chunks x row l.val _

/-- The record a TensorCore lane begins with. -/
def tcFirst : Acc F := ⟨FloatOps.ofBits .f32 0xFF800000#32, FloatOps.ofBits .f32 0#32, FloatOps.ofBits .f32 0#32, FloatOps.ofBits .f32 0xBF800000#32, 0#32⟩

/-- A TensorCore lane's record after `n` points. -/
theorem tstate_at (A : S32x1000000.Idx → F .f32) (j : S32x512.Idx) : ∀ n ≤ 94,
    (tstate A n).at j = laneFold (rowOf A (j 0)) (rowBase (j 0)) (tcCol (j 1).val) tcFirst (16 * n)
  | 0, _ => by rw [Nat.mul_zero, laneFold_zero]; rfl
  | n + 1, hn => by
    show (tblock (tcoord n) (tX A n) (tstate A n)).at j = _
    rw [tblock_at A n (by omega), tstate_at A j n (by omega), show 16 * (n + 1) = 16 * n + 16 by omega, laneFold_add]

end Cert.Proof

end
-- ==== Proof.Fold.lean ====
/- A lane's record over the extended reals: after any number of columns it holds their largest logit,
   the sum of their exponentials, and the first column whose score is greatest. -/
module

public import proofs.«01_k».proof.Proof.Lane
public import Idealize.ShloMosaic.Lib.IdealHost

@[expose] public section

noncomputable section

namespace Cert.Proof

open Idealize.ShloMosaic

/-- A column's score: its logit, less the logarithm of minus its log-uniform. -/
def score (x w : ℝ) : ℝ := x - Real.log (-w)

/-- What a record holds after the first `n` columns of logits `x`, log-uniforms `w` and names `col`. -/
def Holds (x w : ℕ → ℝ) (col : ℕ → BitVec 32) (n : ℕ) (a : Acc Ideal) : Prop :=
  ∃ m : ℝ, a.m = (m : EReal) ∧ a.z = ((∑ k ∈ Finset.range n, Real.exp (x k - m) : ℝ) : EReal) ∧
    ∃ b, b < n ∧ a.t = ((Real.exp (x b - m) : ℝ) : EReal) ∧ a.w = ((w b : ℝ) : EReal) ∧ a.i = col b ∧
      (∀ k < n, score (x k) (w k) ≤ score (x b) (w b)) ∧ ∀ k < b, score (x k) (w k) < score (x b) (w b)

theorem exp_le_score {x w x' w' : ℝ} (hw : w < 0) (hw' : w' < 0) :
    Real.exp x * w' < Real.exp x' * w ↔ score x' w' < score x w := by
  have e : ∀ {x w : ℝ}, w < 0 → Real.exp (score x w) = Real.exp x / (-w) := fun {x w} h => by
    rw [score, Real.exp_sub, Real.exp_log (by linarith)]
  rw [← Real.exp_lt_exp (x := score x' w'), e hw, e hw', div_lt_div_iff₀ (by linarith) (by linarith)]
  constructor <;> intro h <;> nlinarith

theorem select_cmp {α : Type} (x y : ℝ) (p q : α) :
    Scalar.select (FloatOps.cmpf (F := Ideal) (φ := .f32) .olt (x : EReal) (y : EReal)) p q = if x < y then p else q := by
  show Scalar.select (Ideal.cmp .olt (x : EReal) (y : EReal)) p q = _
  unfold Ideal.cmp Scalar.select
  by_cases h : x < y <;> simp [h]

section
variable (a b : ℝ)
theorem e_sub : FloatOps.subf (F := Ideal) (φ := .f32) (a : EReal) (b : EReal) = ((a - b : ℝ) : EReal) := (EReal.coe_sub a b).symm
theorem e_add : FloatOps.addf (F := Ideal) (φ := .f32) (a : EReal) (b : EReal) = ((a + b : ℝ) : EReal) := (EReal.coe_add a b).symm
theorem e_mul : FloatOps.mulf (F := Ideal) (φ := .f32) (a : EReal) (b : EReal) = ((a * b : ℝ) : EReal) := (EReal.coe_mul a b).symm
theorem e_max : FloatOps.maximumf (F := Ideal) (φ := .f32) (a : EReal) (b : EReal) = ((max a b : ℝ) : EReal) :=
  (EReal.coe_strictMono.monotone.map_max (a := a) (b := b)).symm
theorem e_exp : FloatOps.exp (F := Ideal) (φ := .f32) (a : EReal) = ((Real.exp a : ℝ) : EReal) := rfl
theorem e_log (h : 0 < a) : FloatOps.log (F := Ideal) (φ := .f32) (a : EReal) = ((Real.log a : ℝ) : EReal) := by
  show Ideal.log (a : EReal) = _
  show (if a ≤ 0 then (⊥ : EReal) else (Real.log a : EReal)) = _
  rw [if_neg (not_le.mpr h)]
end

/-- A record of reals updated by a real column. -/
theorem upd_real (m z t w x w' : ℝ) (i c : BitVec 32) :
    (Acc.mk (F := Ideal) (m : EReal) (z : EReal) (t : EReal) (w : EReal) i).upd (x : EReal) (w' : EReal) c
      = { m := ((max m x : ℝ) : EReal), z := ((z * Real.exp (m - max m x) + Real.exp (x - max m x) : ℝ) : EReal),
          t := if Real.exp (x - max m x) * w < t * Real.exp (m - max m x) * w' then ((Real.exp (x - max m x) : ℝ) : EReal)
            else ((t * Real.exp (m - max m x) : ℝ) : EReal),
          w := if Real.exp (x - max m x) * w < t * Real.exp (m - max m x) * w' then (w' : EReal) else (w : EReal),
          i := if Real.exp (x - max m x) * w < t * Real.exp (m - max m x) * w' then c else i } := by
  unfold Acc.upd Acc.better
  simp only [e_max, e_sub, e_exp, e_mul, e_add, select_cmp]

/-- One more column. -/
theorem Holds.step {x w : ℕ → ℝ} {col : ℕ → BitVec 32} {n : ℕ} {a : Acc Ideal} (hw : ∀ k, w k < 0) (h : Holds x w col n a) :
    Holds x w col (n + 1) (a.upd (x n : EReal) (w n : EReal) (col n)) := by
  obtain ⟨m, hm, hz, b, hb, ht, hww, hi, hall, hfirst⟩ := h
  obtain ⟨am, az, at', aw, ai⟩ := a
  simp only at hm hz ht hww hi
  subst hm hz ht hww hi
  rw [upd_real]
  set M := max m (x n) with hM
  have e1 : ∀ y, Real.exp (y - m) * Real.exp (m - M) = Real.exp (y - M) := fun y => by
    rw [← Real.exp_add]; congr 1; ring
  have hc : (Real.exp (x n - M) * w b < Real.exp (x b - m) * Real.exp (m - M) * w n) ↔ score (x b) (w b) < score (x n) (w n) := by
    rw [e1, exp_le_score (hw n) (hw b)]
    unfold score
    constructor <;> intro h <;> linarith
  refine ⟨M, rfl, ?_, ?_⟩
  · show ((_ : ℝ) : EReal) = _
    rw [Finset.sum_range_succ, Finset.sum_mul]
    simp only [e1]
  · by_cases h : score (x b) (w b) < score (x n) (w n)
    · refine ⟨n, Nat.lt_succ_self n, ?_, ?_, ?_, ?_, ?_⟩
      · exact if_pos (hc.mpr h)
      · exact if_pos (hc.mpr h)
      · exact if_pos (hc.mpr h)
      · intro k hk
        rcases Nat.lt_succ_iff_lt_or_eq.mp hk with h' | rfl
        · exact (hall k h').trans h.le
        · exact le_rfl
      · intro k hk
        exact lt_of_le_of_lt (hall k hk) h
    · refine ⟨b, Nat.lt_succ_of_lt hb, ?_, ?_, ?_, ?_, hfirst⟩
      · exact (if_neg (fun e => h (hc.mp e))).trans (by rw [e1])
      · exact if_neg (fun e => h (hc.mp e))
      · exact if_neg (fun e => h (hc.mp e))
      · intro k hk
        rcases Nat.lt_succ_iff_lt_or_eq.mp hk with h' | rfl
        · exact hall k h'
        · exact not_lt.mp h

/-- The first column, from the record with nothing in it. -/
theorem Holds.first {x w : ℕ → ℝ} {col : ℕ → BitVec 32} (m : EReal) (hm : m ≠ ⊤) (i : BitVec 32) :
    Holds x w col 1 ((Acc.mk (F := Ideal) m 0 0 (-1) i).upd (x 0 : EReal) (w 0 : EReal) (col 0)) := by
  have key : ∀ (m : ℝ) (d : EReal) (hd : d = ((Real.exp (x 0 - m) : ℝ) : EReal)) (c : EReal) (hc : 0 ≤ c),
      ({ m := (m : EReal), z := (0 : EReal) * c + d,
         t := Scalar.select (FloatOps.cmpf (F := Ideal) (φ := .f32) .olt (d * (-1) : EReal) ((0 : EReal) * c * (w 0 : EReal))) d (0 * c : EReal),
         w := Scalar.select (FloatOps.cmpf (F := Ideal) (φ := .f32) .olt (d * (-1) : EReal) ((0 : EReal) * c * (w 0 : EReal))) (w 0 : EReal) (-1 : EReal),
         i := Scalar.select (FloatOps.cmpf (F := Ideal) (φ := .f32) .olt (d * (-1) : EReal) ((0 : EReal) * c * (w 0 : EReal))) (col 0) i } : Acc Ideal)
        = ⟨(m : EReal), d, d, (w 0 : EReal), col 0⟩ := by
    intro m d hd c hc
    have e0 : (0 : EReal) * c = 0 := zero_mul c
    have e1 : (d * (-1) : EReal) = ((Real.exp (x 0 - m) * (-1) : ℝ) : EReal) := by rw [hd, EReal.coe_mul]; rfl
    have e2 : ((0 : EReal) * (w 0 : EReal)) = ((0 : ℝ) : EReal) := by rw [zero_mul]; rfl
    have hlt : Real.exp (x 0 - m) * (-1) < 0 := by have := Real.exp_pos (x 0 - m); linarith
    rw [e0, e1, e2, zero_add]
    simp only [select_cmp, if_pos hlt]
  have fin : ∀ (m : ℝ), Holds x w col 1 ⟨(m : EReal), ((Real.exp (x 0 - m) : ℝ) : EReal), ((Real.exp (x 0 - m) : ℝ) : EReal), (w 0 : EReal), col 0⟩ := by
    intro m
    refine ⟨m, rfl, by simp, 0, Nat.one_pos, rfl, rfl, rfl, ?_, fun k hk => absurd hk (Nat.not_lt_zero k)⟩
    intro k hk
    obtain rfl : k = 0 := by omega
    exact le_rfl
  induction m with
  | top => exact absurd rfl hm
  | bot =>
    have := fin (x 0)
    rw [← key (x 0) _ rfl 0 le_rfl] at this
    convert this using 1
    unfold Acc.upd Acc.better
    have e1 : FloatOps.maximumf (F := Ideal) (φ := .f32) (⊥ : EReal) (x 0 : EReal) = (x 0 : EReal) := max_eq_right bot_le
    have e2 : FloatOps.subf (F := Ideal) (φ := .f32) (⊥ : EReal) (x 0 : EReal) = (⊥ : EReal) := EReal.bot_sub (x 0 : EReal)
    have e3 : FloatOps.exp (F := Ideal) (φ := .f32) (⊥ : EReal) = (0 : EReal) := rfl
    simp only [e1, e2, e3, e_sub, e_exp]
    rfl
  | coe m =>
    have := fin (max m (x 0))
    rw [← key (max m (x 0)) _ rfl ((Real.exp (m - max m (x 0)) : ℝ) : EReal) (by exact_mod_cast (Real.exp_pos _).le)] at this
    convert this using 1
    unfold Acc.upd Acc.better
    simp only [e_max, e_sub, e_exp]
    rfl

/-- All the columns, one after another. -/
def foldUpd (x w : ℕ → ℝ) (col : ℕ → BitVec 32) (a : Acc Ideal) : ℕ → Acc Ideal
  | 0 => a
  | n + 1 => (foldUpd x w col a n).upd (x n : EReal) (w n : EReal) (col n)

theorem foldUpd_holds {x w : ℕ → ℝ} {col : ℕ → BitVec 32} (hw : ∀ k, w k < 0) (m : EReal) (hm : m ≠ ⊤) (i : BitVec 32) :
    ∀ n, 0 < n → Holds x w col n (foldUpd x w col (Acc.mk (F := Ideal) m 0 0 (-1) i) n)
  | 0, h => absurd h (Nat.lt_irrefl 0)
  | 1, _ => Holds.first m hm i
  | n + 2, _ => (foldUpd_holds hw m hm i (n + 1) (Nat.succ_pos n)).step hw

end Cert.Proof

end
-- ==== Proof.Unit.lean ====
/- The uniform number of a random word, over the extended reals: strictly between zero and one. -/
module

public import proofs.«01_k».proof.Proof.Fold

@[expose] public section

noncomputable section

namespace Cert.Proof

open Idealize.ShloMosaic

theorem frac_toNat (b : BitVec 32) : (IntOp.ori (IntOp.shrui .vector b 9#32) 1065353216#32).toNat = 1065353216 + b.toNat / 512 := by
  have h : (IntOp.shrui .vector b 9#32) = b >>> 9#32 := if_pos (by decide)
  rw [h]
  unfold IntOp.ori
  have hb : b.toNat / 512 < 2 ^ 23 := by have := b.isLt; omega
  have e := Nat.two_pow_add_eq_or_of_lt hb 127
  rw [show 2 ^ 23 * 127 = 1065353216 by norm_num] at e
  rw [BitVec.toNat_or, BitVec.ushiftRight_eq', BitVec.toNat_ushiftRight, Nat.shiftRight_eq_div_pow, Nat.or_comm, e]
  rfl

/-- The float whose exponent is zero and whose fraction is a word's upper bits. -/
theorem frac_val (b : BitVec 32) :
    Ideal.ofBits .f32 (IntOp.ori (IntOp.shrui .vector b 9#32) 1065353216#32) = ((1 + (b.toNat / 512 : ℕ) / 2 ^ 23 : ℝ) : EReal) := by
  have hb : b.toNat / 512 < 2 ^ 23 := by have := b.isLt; omega
  have hn := frac_toNat b
  generalize IntOp.ori (IntOp.shrui .vector b 9#32) 1065353216#32 = w at hn
  have h1 : (w.extractLsb' (8 + 23) 1 == 1#1) = false := by
    rw [beq_eq_false_iff_ne]
    intro h
    have := congrArg BitVec.toNat h
    rw [BitVec.extractLsb'_toNat, hn, Nat.shiftRight_eq_div_pow] at this
    simp only [BitVec.toNat_ofNat] at this
    omega
  have h2 : (w.extractLsb' 23 8).toNat = 127 := by
    rw [BitVec.extractLsb'_toNat, hn, Nat.shiftRight_eq_div_pow]; omega
  have h3 : (w.extractLsb' 0 23).toNat = b.toNat / 512 := by
    rw [BitVec.extractLsb'_toNat, hn, Nat.shiftRight_eq_div_pow]; omega
  show Ideal.ieee 8 23 w = _
  unfold Ideal.ieee
  simp only [h1, h2, h3]
  rw [if_neg (by norm_num), if_neg (by norm_num)]
  congr 1
  push_cast
  norm_num
  ring

/-- The least positive normal float. -/
def tiny : ℝ := (2 : ℝ) ^ (-126 : ℤ)

theorem tiny_val : Ideal.ofBits .f32 0x00800000#32 = (tiny : EReal) := by
  show Ideal.ieee 8 23 0x00800000#32 = _
  unfold Ideal.ieee tiny
  have h1 : ((0x00800000#32).extractLsb' (8 + 23) 1 == 1#1) = false := by decide
  have h2 : ((0x00800000#32).extractLsb' 23 8).toNat = 1 := by decide
  have h3 : ((0x00800000#32).extractLsb' 0 23).toNat = 0 := by decide
  simp only [h1, h2, h3]
  rw [if_neg (by norm_num), if_neg (by norm_num)]
  congr 1
  norm_num

/-- The uniform number of a random word. -/
def unif (b : BitVec 32) : ℝ := ((b.toNat / 512 : ℕ) : ℝ) / 2 ^ 23 + tiny

theorem tiny_pos : 0 < tiny := by unfold tiny; positivity

theorem unif_pos (b : BitVec 32) : 0 < unif b := by
  unfold unif; have := tiny_pos; positivity

theorem unif_lt (b : BitVec 32) : unif b < 1 := by
  have hb : b.toNat / 512 ≤ 2 ^ 23 - 1 := by have := b.isLt; omega
  have h1 : ((b.toNat / 512 : ℕ) : ℝ) ≤ 2 ^ 23 - 1 := by
    have : ((b.toNat / 512 : ℕ) : ℝ) ≤ ((2 ^ 23 - 1 : ℕ) : ℝ) := by exact_mod_cast hb
    norm_num at this ⊢; exact this
  have h2 : tiny < 1 / 2 ^ 23 := by unfold tiny; norm_num
  unfold unif
  have : ((b.toNat / 512 : ℕ) : ℝ) / 2 ^ 23 ≤ (2 ^ 23 - 1) / 2 ^ 23 := by gcongr
  have e : ((2 : ℝ) ^ 23 - 1) / 2 ^ 23 = 1 - 1 / 2 ^ 23 := by norm_num
  rw [e] at this
  linarith

theorem tiny_le_unif (b : BitVec 32) : tiny ≤ unif b := by
  unfold unif
  have : 0 ≤ ((b.toNat / 512 : ℕ) : ℝ) / 2 ^ 23 := by positivity
  linarith

theorem unitOf_val (b : BitVec 32) : unitOf (F := Ideal) b = ((((b.toNat / 512 : ℕ) : ℝ) / 2 ^ 23 : ℝ) : EReal) := by
  unfold unitOf
  show Ideal.ofBits .f32 _ - Ideal.ofBits .f32 0x3F800000#32 = _
  rw [frac_val, Ideal.ofBits_one_f32, show (1 : EReal) = ((1 : ℝ) : EReal) from rfl, ← EReal.coe_sub]
  congr 1
  ring

/-- The logarithm of a counter's uniform number. -/
def lw (c : BitVec 32) : ℝ := Real.log (unif (word c))

theorem lw_neg (c : BitVec 32) : lw c < 0 := Real.log_neg (unif_pos _) (unif_lt _)

theorem unif_val (b : BitVec 32) :
    FloatOps.maximumf (F := Ideal) (φ := .f32) (FloatOps.ofBits .f32 0x00800000#32) (FloatOps.addf (unitOf b) (FloatOps.ofBits .f32 0x00800000#32))
      = (unif b : EReal) := by
  rw [show FloatOps.ofBits (F := Ideal) .f32 0x00800000#32 = (tiny : EReal) from tiny_val, unitOf_val, e_add, e_max]
  exact congrArg (fun r : ℝ => (r : EReal)) (show max tiny (unif b) = unif b from max_eq_right (tiny_le_unif b))

theorem logU_eq {F : FTy → Type} [FloatOps F] (c : BitVec 32) : logU (F := F) c
    = FloatOps.log (FloatOps.maximumf (FloatOps.ofBits .f32 0x00800000#32)
      (FloatOps.addf (unitOf (word c)) (FloatOps.ofBits .f32 0x00800000#32))) := rfl

theorem logU_val (c : BitVec 32) : logU (F := Ideal) c = (lw c : EReal) :=
  (logU_eq c).trans ((congrArg (FloatOps.log (F := Ideal) (φ := .f32)) (unif_val (word c))).trans (e_log _ (unif_pos (word c))))

/-- A column's Gumbel noise. -/
def gum (c : BitVec 32) : ℝ := -Real.log (-lw c)

theorem score_gum (x : ℝ) (c : BitVec 32) : score x (lw c) = x + gum c := by unfold score gum; ring

end Cert.Proof

end
-- ==== Proof.Merge.lean ====
/- The greatest value of a row and the first place it is reached, as folds over a list find them. -/
module

public import proofs.«01_k».proof.Proof.Unit
public import Idealize.ShloMosaic.Lib.IdealHost

@[expose] public section

noncomputable section

namespace Cert.Proof

open Idealize.ShloMosaic

/-- A fold by maximum from minus infinity over values that stay at most `M`, `M` among them. -/
theorem foldl_max {α : Type} (f : α → EReal) (M : EReal) : ∀ (l : List α) (a : EReal), a ≤ M → (∀ x ∈ l, f x ≤ M) → (a = M ∨ ∃ x ∈ l, f x = M) →
    l.foldl (fun b x => max b (f x)) a = M
  | [], a, _, _, h => by
    rcases h with h | ⟨x, hx, _⟩
    · exact h
    · exact absurd hx (List.not_mem_nil)
  | y :: l, a, ha, hl, h => by
    refine foldl_max f M l (max a (f y)) (max_le ha (hl y List.mem_cons_self)) (fun x hx => hl x (List.mem_cons_of_mem _ hx)) ?_
    rcases h with h | ⟨x, hx, e⟩
    · exact Or.inl (by rw [h]; exact max_eq_left (hl y List.mem_cons_self))
    · rcases List.mem_cons.mp hx with rfl | hx
      · exact Or.inl (by rw [e]; exact max_eq_right ha)
      · exact Or.inr ⟨x, hx, e⟩

theorem toNat_minsi (a b : BitVec 32) (ha : a.toNat < 2147483648) (hb : b.toNat < 2147483648) : (IntOp.minsi a b).toNat = min a.toNat b.toNat := by
  unfold IntOp.minsi
  rw [BitVec.slt_eq_decide, BitVec.toInt_eq_toNat_of_lt (by omega), BitVec.toInt_eq_toNat_of_lt (by omega)]
  by_cases h : a.toNat < b.toNat
  · simp [h, Nat.min_eq_left h.le]
  · simp [h, Nat.min_eq_right (not_lt.mp h)]

/-- A fold by signed minimum over nonnegative words that stay at least `c`, `c` among them. -/
theorem foldl_min {α : Type} (f : α → BitVec 32) (c : ℕ) : ∀ (l : List α) (a : BitVec 32), a.toNat < 2147483648 → (∀ x ∈ l, (f x).toNat < 2147483648) →
    c ≤ a.toNat → (∀ x ∈ l, c ≤ (f x).toNat) → (a.toNat = c ∨ ∃ x ∈ l, (f x).toNat = c) →
    (l.foldl (fun b x => IntOp.minsi b (f x)) a).toNat = c
  | [], a, _, _, _, _, h => by
    rcases h with h | ⟨x, hx, _⟩
    · exact h
    · exact absurd hx (List.not_mem_nil)
  | y :: l, a, ha, hl, ca, cl, h => by
    have hy := hl y List.mem_cons_self
    have cy := cl y List.mem_cons_self
    have e := toNat_minsi a (f y) ha hy
    refine foldl_min f c l (IntOp.minsi a (f y)) (by rw [e]; omega) (fun x hx => hl x (List.mem_cons_of_mem _ hx)) (by rw [e]; omega)
      (fun x hx => cl x (List.mem_cons_of_mem _ hx)) ?_
    rcases h with h | ⟨x, hx, h⟩
    · exact Or.inl (by rw [e]; omega)
    · rcases List.mem_cons.mp hx with rfl | hx
      · exact Or.inl (by rw [e]; omega)
      · exact Or.inr ⟨x, hx, h⟩

/-- One step of an argmax: the greater value, and on equal values the smaller index. -/
def pick (a b : EReal × BitVec 32) : EReal × BitVec 32 :=
  (if b.1 < a.1 then a.1 else b.1, if b.1 < a.1 ∨ (a.1 = b.1 ∧ a.2.slt b.2 = true) then a.2 else b.2)

/-- `p` comes no earlier than `q` in an argmax's order. -/
def Beaten (p q : EReal × BitVec 32) : Prop := p = q ∨ p.1 < q.1 ∨ (p.1 = q.1 ∧ q.2.slt p.2 = true)

theorem pick_right {p q : EReal × BitVec 32} (h : Beaten p q) : pick p q = q := by
  rcases h with rfl | h | ⟨h1, h2⟩
  · unfold pick
    rw [if_neg (lt_irrefl _)]
    refine Prod.ext rfl ?_
    simp
  · unfold pick
    rw [if_neg (not_lt.mpr h.le), if_neg]
    rintro (h' | ⟨h', _⟩)
    · exact lt_asymm h h'
    · exact h.ne h'
  · unfold pick
    rw [if_neg (not_lt.mpr h1.le), if_neg]
    rintro (h' | ⟨_, h'⟩)
    · exact h'.ne h1.symm
    · rw [BitVec.slt_eq_decide, decide_eq_true_eq] at h2 h'
      omega

theorem pick_left {p q : EReal × BitVec 32} (h : Beaten p q) : pick q p = q := by
  rcases h with rfl | h | ⟨h1, h2⟩
  · exact pick_right (Or.inl rfl)
  · unfold pick
    rw [if_pos h, if_pos (Or.inl h)]
  · unfold pick
    rw [if_neg (not_lt.mpr h1.ge), if_pos (Or.inr ⟨h1.symm, h2⟩), h1]

theorem pick_beaten {p p' q : EReal × BitVec 32} (h : Beaten p q) (h' : Beaten p' q) : Beaten (pick p p') q := by
  have e : (pick p p').1 = p.1 ∧ (pick p p').2 = p.2 ∨ (pick p p').1 = p'.1 ∧ (pick p p').2 = p'.2 ∨ (pick p p').1 = p.1 ∧ (pick p p').1 = p'.1 ∧ (pick p p').2 = p.2 := by
    unfold pick
    by_cases c : p'.1 < p.1
    · simp [c]
    · by_cases d : p.1 = p'.1 ∧ p.2.slt p'.2 = true
      · right; right
        simp [c, d]
      · right; left
        simp only [if_neg c, true_and]
        rw [if_neg]
        rintro (h | h)
        · exact c h
        · exact d h
  rcases e with ⟨a, b⟩ | ⟨a, b⟩ | ⟨a, _, b⟩
  · rw [show pick p p' = p from Prod.ext a b]; exact h
  · rw [show pick p p' = p' from Prod.ext a b]; exact h'
  · rw [show pick p p' = p from Prod.ext a b]; exact h

/-- A fold by argmax's step over pairs that are all beaten by `q`, `q` among them. -/
theorem foldl_pick (q : EReal × BitVec 32) : ∀ (l : List (EReal × BitVec 32)) (a : EReal × BitVec 32), Beaten a q → (∀ x ∈ l, Beaten x q) → (a = q ∨ q ∈ l) →
    l.foldl pick a = q
  | [], a, _, _, h => by
    rcases h with h | h
    · exact h
    · exact absurd h (List.not_mem_nil)
  | y :: l, a, ha, hl, h => by
    have hy := hl y List.mem_cons_self
    refine foldl_pick q l (pick a y) (pick_beaten ha hy) (fun x hx => hl x (List.mem_cons_of_mem _ hx)) ?_
    rcases h with rfl | h
    · exact Or.inl (pick_left hy)
    · rcases List.mem_cons.mp h with rfl | h
      · exact Or.inl (pick_right ha)
      · exact Or.inr h

/-- Every nonempty range of columns has a first one whose score is greatest. -/
theorem exists_first (S : ℕ → ℝ) : ∀ n, 0 < n → ∃ c < n, (∀ k < n, S k ≤ S c) ∧ ∀ k < c, S k < S c
  | 0, h => absurd h (Nat.lt_irrefl 0)
  | 1, _ => by
    refine ⟨0, Nat.one_pos, fun k hk => ?_, fun k hk => absurd hk (Nat.not_lt_zero k)⟩
    obtain rfl : k = 0 := by omega
    exact le_rfl
  | n + 2, _ => by
    obtain ⟨c, hc, h1, h2⟩ := exists_first S (n + 1) (Nat.succ_pos n)
    by_cases h : S c < S (n + 1)
    · refine ⟨n + 1, by omega, fun k hk => ?_, fun k hk => lt_of_le_of_lt (h1 k hk) h⟩
      rcases Nat.lt_succ_iff_lt_or_eq.mp hk with h' | rfl
      · exact (h1 k h').trans h.le
      · exact le_rfl
    · refine ⟨c, by omega, fun k hk => ?_, h2⟩
      rcases Nat.lt_succ_iff_lt_or_eq.mp hk with h' | rfl
      · exact h1 k h'
      · exact not_lt.mp h

end Cert.Proof

end
-- ==== Proof.LaneVal.lean ====
/- The lanes' records over the extended reals, and the columns they cover. -/
module

public import proofs.«01_k».proof.Proof.Lanes
public import proofs.«01_k».proof.Proof.Merge

@[expose] public section

noncomputable section

namespace Cert.Proof

open Cert.KernelIdeal Cert.KernelIdeal.Gen
open Idealize.ShloMosaic

/-- The columns of a lane of the joined records: the TensorCore's 512 lanes, then the SparseCore's 32. -/
def laneCol (l k : ℕ) : ℕ := if l < 512 then tcCol l k else scCol (l - 512) k

/-- How many columns a lane has. -/
def laneN (l : ℕ) : ℕ := if l < 512 then 1504 else 7186

theorem laneCol_lt {l k : ℕ} (hl : l < 544) (hk : k < laneN l) : laneCol l k < 1000000 := by
  unfold laneCol laneN tcCol scCol at *
  split_ifs at * <;> omega

theorem laneCol_mono {l k k' : ℕ} (hl : l < 544) (hk : k ≤ k') : laneCol l k ≤ laneCol l k' := by
  unfold laneCol tcCol scCol
  split_ifs <;> omega

theorem laneN_pos (l : ℕ) : 0 < laneN l := by unfold laneN; split_ifs <;> omega

/-- Every column is some lane's. -/
theorem laneCol_cover {c : ℕ} (hc : c < 1000000) : ∃ l < 544, ∃ k < laneN l, laneCol l k = c := by
  by_cases h1 : c < 229376
  · refine ⟨512 + c % 32, by omega, c / 32, ?_, ?_⟩
    · unfold laneN; rw [if_neg (by omega)]; omega
    · unfold laneCol scCol; rw [if_neg (by omega), if_pos (by omega)]; omega
  · by_cases h2 : c < 999424
    · refine ⟨(c - 229376) % 512, by omega, (c - 229376) / 512, ?_, ?_⟩
      · unfold laneN; rw [if_pos (by omega)]; omega
      · unfold laneCol tcCol; rw [if_pos (by omega)]; omega
    · refine ⟨512 + (c - 999424) % 32, by omega, 7168 + (c - 999424) / 32, ?_, ?_⟩
      · unfold laneN; rw [if_neg (by omega)]; omega
      · unfold laneCol scCol; rw [if_neg (by omega), if_neg (by omega)]; omega

section
variable {F : FTy → Type} [FloatOps F]

/-- A lane's record. -/
def laneRec (X : S32x1000000.Idx → F .f32) (r : Fin 32) (l : ℕ) : Acc F :=
  if l < 512 then laneFold (rowOf X r) (rowBase r) (tcCol l) tcFirst 1504 else laneFold (rowOf X r) (rowBase r) (scCol (l - 512)) scFirst 7186
end

/-- A column's counter. -/
def ctr (r : Fin 32) (c : ℕ) : BitVec 32 := IntOp.addi (rowBase r) (BitVec.ofNat 32 c)

theorem laneFold_real (x : ℕ → Ideal .f32) (xr : ℕ → ℝ) (hx : ∀ n, x n = (xr n : EReal)) (r : Fin 32) (cl : ℕ → ℕ) (a : Acc Ideal) : ∀ n,
    laneFold x (rowBase r) cl a n
      = foldUpd (fun k => xr (cl k)) (fun k => lw (ctr r (cl k))) (fun k => BitVec.ofNat 32 (cl k)) a n
  | 0 => rfl
  | n + 1 => by
    show (laneFold x (rowBase r) cl a n).step (x (cl n)) (ctr r (cl n)) (BitVec.ofNat 32 (cl n)) = _
    rw [laneFold_real x xr hx r cl a n, hx]
    unfold Acc.step
    rw [logU_val]
    rfl

theorem neg_one_val : Ideal.ofBits .f32 0xBF800000#32 = -1 := IdealRules.sign_bit.ideal_negOnePat .f32
theorem neg_inf_val : Ideal.ofBits .f32 0xFF800000#32 = ⊥ := by simp [Ideal.ofBits, Ideal.ieee]
theorem big_ne_top : Ideal.ofBits .f32 0xFF61B1E6#32 ≠ ⊤ := by
  show Ideal.ieee 8 23 0xFF61B1E6#32 ≠ ⊤
  unfold Ideal.ieee
  have h2 : ((0xFF61B1E6#32).extractLsb' 23 8).toNat = 254 := by decide
  simp only [h2]
  rw [if_neg (by norm_num), if_neg (by norm_num)]
  exact EReal.coe_ne_top _

theorem scFirst_val : scFirst (F := Ideal) = ⟨Ideal.ofBits .f32 0xFF61B1E6#32, 0, 0, -1, 0#32⟩ := by
  show (⟨_, Ideal.ofBits .f32 0#32, Ideal.ofBits .f32 0#32, Ideal.ofBits .f32 0xBF800000#32, 0#32⟩ : Acc Ideal) = _
  rw [neg_one_val, Ideal.ofBits_zero_f32]
  rfl
theorem tcFirst_val : tcFirst (F := Ideal) = ⟨⊥, 0, 0, -1, 0#32⟩ := by
  show (⟨Ideal.ofBits .f32 0xFF800000#32, Ideal.ofBits .f32 0#32, Ideal.ofBits .f32 0#32, Ideal.ofBits .f32 0xBF800000#32, 0#32⟩ : Acc Ideal) = _
  rw [neg_one_val, Ideal.ofBits_zero_f32, neg_inf_val]

theorem laneRec_holds (X : S32x1000000.Idx → Ideal .f32) (r : Fin 32) (xr : ℕ → ℝ) (hx : ∀ n, rowOf X r n = (xr n : EReal)) (l : ℕ) :
    Holds (fun k => xr (laneCol l k)) (fun k => lw (ctr r (laneCol l k))) (fun k => BitVec.ofNat 32 (laneCol l k)) (laneN l) (laneRec X r l) := by
  by_cases hl : l < 512
  · have e1 : laneCol l = tcCol l := funext fun k => if_pos hl
    have e2 : laneN l = 1504 := if_pos hl
    have e3 : laneRec X r l = laneFold (rowOf X r) (rowBase r) (tcCol l) tcFirst 1504 := if_pos hl
    rw [e1, e2, e3, laneFold_real _ xr hx, tcFirst_val]
    exact foldUpd_holds (fun k => lw_neg _) ⊥ bot_ne_top _ 1504 (by norm_num)
  · have e1 : laneCol l = scCol (l - 512) := funext fun k => if_neg hl
    have e2 : laneN l = 7186 := if_neg hl
    have e3 : laneRec X r l = laneFold (rowOf X r) (rowBase r) (scCol (l - 512)) scFirst 7186 := if_neg hl
    rw [e1, e2, e3, laneFold_real _ xr hx, scFirst_val]
    exact foldUpd_holds (fun k => lw_neg _) _ big_ne_top _ 7186 (by norm_num)

end Cert.Proof

end
-- ==== Proof.Point.lean ====
/- The host's elementwise operations on words, read at one index. -/
module

public import proofs.«01_k».proof.Proof.Lane
public import Idealize.ShloMosaic.Lib.StableHlo.RunRead
public import Idealize.ShloMosaic.Lib.Tactic.CleanTypes

@[expose] public section

noncomputable section

namespace Cert.Proof

open Idealize.ShloMosaic

theorem p_addi {S : Shape} (x y : IVec S 32) (j : S.Idx) : addi x y j = IntOp.addi (x j) (y j) := rfl
theorem p_xori {S : Shape} (x y : IVec S 32) (j : S.Idx) : xori x y j = IntOp.xori (x j) (y j) := rfl
theorem p_ori {S : Shape} (x y : IVec S 32) (j : S.Idx) : ori x y j = IntOp.ori (x j) (y j) := rfl
theorem p_shli {S : Shape} (x y : IVec S 32) (j : S.Idx) : Host.shli x y j = IntOp.shli .host (x j) (y j) := rfl
theorem p_shrui {S : Shape} (x y : IVec S 32) (j : S.Idx) : Host.shrui x y j = IntOp.shrui .host (x j) (y j) := rfl
theorem p_bc {α : Type} {S : Shape} (d : Fin (⟨0, ![]⟩ : Shape).rank → Fin S.rank) (h) (x : (⟨0, ![]⟩ : Shape).Idx → α) (j : S.Idx) : broadcastInDim S d h x j = x (fun a => a.elim0) :=
  congrArg x (funext fun a => a.elim0)
theorem p_constI {S : Shape} (c : BitVec 32) (j : S.Idx) : constantI S 32 c j = c := rfl
theorem s_shli (x r : BitVec 32) (h : r.toNat < 32) : IntOp.shli .host x r = IntOp.shli .vector x r := by
  unfold IntOp.shli; rw [if_pos h, if_pos h]
theorem s_shrui (x r : BitVec 32) (h : r.toNat < 32) : IntOp.shrui .host x r = IntOp.shrui .vector x r := by
  unfold IntOp.shrui; rw [if_pos h, if_pos h]

/-- A row as an index of the results. -/
def rowIx (r : Fin 32) : (⟨1, ![32]⟩ : Shape).Idx := fun | ⟨0, _⟩ => r

end Cert.Proof

end
-- ==== Proof.RowFold.lean ====
/- The host's reductions along a row over the extended reals. -/
module

public import proofs.«01_k».proof.Proof.Merge
public import proofs.«01_k».proof.Proof.Point

@[expose] public section

noncomputable section

namespace Cert.Proof

open Idealize.ShloMosaic

abbrev Sq (n : ℕ) : Shape := ⟨2, ![32, n]⟩
abbrev Sr : Shape := ⟨1, ![32]⟩

section
variable {n : ℕ} (h : (Sq n).ReducesTo [1] Sr)

theorem drop_iff (i : (Sq n).Idx) (j : Sr.Idx) : h.drop i = j ↔ i 0 = j 0 := by
  have e : (h.drop i 0 : ℕ) = (i 0 : ℕ) := h.drop_apply_val_of_eq i 0 0 (show (0 : ℕ) < 1 from Nat.one_pos) rfl
  constructor
  · intro hd
    apply Fin.ext
    rw [← e, hd]
  · intro hi
    funext a
    obtain rfl : a = 0 := Subsingleton.elim _ _
    apply Fin.ext
    rw [e, hi]

variable {u : Shape} (hu : 0 < u.numel)

theorem mem_row (i : (Sq n).Idx) (j : Sr.Idx) (hi : i 0 = j 0) :
    i ∈ ((List.finRange (Sq n).numel).map (Sq n).rowMajor.symm).filter fun i => h.drop i = j := by
  refine List.mem_filter.mpr ⟨List.mem_map.mpr ⟨(Sq n).rowMajor i, List.mem_finRange _, Equiv.symm_apply_apply _ _⟩, ?_⟩
  exact decide_eq_true ((drop_iff h i j).mpr hi)

theorem row_mem {i : (Sq n).Idx} {j : Sr.Idx}
    (hi : i ∈ ((List.finRange (Sq n).numel).map (Sq n).rowMajor.symm).filter fun i => h.drop i = j) : i 0 = j 0 :=
  (drop_iff h i j).mp (of_decide_eq_true (List.mem_filter.mp hi).2)

/-- A row's maximum. -/
theorem row_max (x : FVec Ideal (Sq n) .f32) (init : FVec Ideal u .f32) (hi : init (Shape.Idx.first hu) = (⊥ : EReal)) (j : Sr.Idx) (M : EReal)
    (hM : ∀ i, i 0 = j 0 → x i ≤ M) (i0 : (Sq n).Idx) (h0 : i0 0 = j 0) (e : x i0 = M) :
    Host.reduce FloatOps.maximumf x init h hu j = M := by
  rw [Host.reduce_eq_foldl, hi]
  exact foldl_max x M _ ⊥ bot_le (fun i hi => hM i (row_mem h hi)) (Or.inr ⟨i0, mem_row h i0 j h0, e⟩)

/-- A row of reals has a real maximum. -/
theorem row_max_real (hn : 0 < n) (x : FVec Ideal (Sq n) .f32) (init : FVec Ideal u .f32) (hi : init (Shape.Idx.first hu) = (⊥ : EReal)) (j : Sr.Idx)
    (y : (Sq n).Idx → ℝ) (hx : ∀ i, x i = (y i : EReal)) : ∃ M : ℝ, Host.reduce FloatOps.maximumf x init h hu j = (M : EReal) := by
  classical
  let k : (Sq n).Idx := fun | ⟨0, _⟩ => j 0 | ⟨1, _⟩ => (⟨0, hn⟩ : Fin n)
  obtain ⟨i0, hi0, hmax⟩ := Finset.exists_max_image (Finset.univ.filter fun i : (Sq n).Idx => i 0 = j 0) y ⟨k, Finset.mem_filter.mpr ⟨Finset.mem_univ _, rfl⟩⟩
  have h0 := (Finset.mem_filter.mp hi0).2
  refine ⟨y i0, row_max h hu x init hi j _ (fun i hi => ?_) i0 h0 (hx i0)⟩
  rw [hx]
  exact EReal.coe_le_coe_iff.mpr (hmax i (Finset.mem_filter.mpr ⟨Finset.mem_univ _, hi⟩))

theorem sum_real {ι : Type} [DecidableEq ι] (f : ι → EReal) (g : ι → ℝ) (hf : ∀ i, f i = (g i : EReal)) (s : Finset ι) : ∑ i ∈ s, f i = ((∑ i ∈ s, g i : ℝ) : EReal) := by
  induction s using Finset.induction_on with
  | empty => simp
  | insert a s ha ih => rw [Finset.sum_insert ha, Finset.sum_insert ha, ih, hf, EReal.coe_add]

/-- A row of positive reals has a positive real sum. -/
theorem row_sum_real (hn : 0 < n) (x : FVec Ideal (Sq n) .f32) (init : FVec Ideal u .f32) (hi : init (Shape.Idx.first hu) = (0 : EReal)) (j : Sr.Idx)
    (y : (Sq n).Idx → ℝ) (hy : ∀ i, 0 < y i) (hx : ∀ i, x i = (y i : EReal)) : ∃ L : ℝ, 0 < L ∧ Host.reduceAdd x init h hu j = (L : EReal) := by
  classical
  let k : (Sq n).Idx := fun | ⟨0, _⟩ => j 0 | ⟨1, _⟩ => (⟨0, hn⟩ : Fin n)
  refine ⟨∑ i ∈ Finset.univ.filter (fun i => h.drop i = j), y i, Finset.sum_pos (fun i _ => hy i) ⟨k, ?_⟩, ?_⟩
  · exact Finset.mem_filter.mpr ⟨Finset.mem_univ _, (drop_iff h k j).mpr rfl⟩
  · show init (Shape.Idx.first hu) + ∑ i ∈ Finset.univ.filter (fun i => h.drop i = j), x i = _
    rw [hi, zero_add]
    exact sum_real x y hx _

/-- A row's least word. -/
theorem row_min (x : IVec (Sq n) 32) (init : IVec u 32) (hi : init (Shape.Idx.first hu) = 2147483647#32) (j : Sr.Idx) (c : ℕ) (hc : c < 1000000)
    (hx : ∀ i, i 0 = j 0 → (x i).toNat < 2147483648) (hM : ∀ i, i 0 = j 0 → c ≤ (x i).toNat) (i0 : (Sq n).Idx) (h0 : i0 0 = j 0) (e : (x i0).toNat = c) :
    (Host.reduce IntOp.minsi x init h hu j).toNat = c := by
  rw [Host.reduce_eq_foldl, hi]
  exact foldl_min x c _ _ (by decide) (fun i hi => hx i (row_mem h hi)) (by show c ≤ 2147483647; omega) (fun i hi => hM i (row_mem h hi))
    (Or.inr ⟨i0, mem_row h i0 j h0, e⟩)
end

/-! ## The race's values -/

section
variable (a b : ℝ)
theorem h_neg : FloatOps.hostNegf (F := Ideal) (φ := .f32) (a : EReal) = ((-a : ℝ) : EReal) := (EReal.coe_neg a).symm
theorem h_exp : FloatOps.hostUnary (F := Ideal) (φ := .f32) .exp (a : EReal) = ((Real.exp a : ℝ) : EReal) := rfl
theorem h_log (h : 0 < a) : FloatOps.hostUnary (F := Ideal) (φ := .f32) .log (a : EReal) = ((Real.log a : ℝ) : EReal) := e_log a h
theorem h_div (h : 0 < b) : FloatOps.hostDivf (F := Ideal) (φ := .f32) (a : EReal) (b : EReal) = ((a / b : ℝ) : EReal) := by
  show Ideal.div (a : EReal) (b : EReal) = _
  unfold Ideal.div
  rw [if_neg (by exact_mod_cast h.ne'), ← EReal.coe_inv, ← EReal.coe_mul, div_eq_mul_inv]
end

/-- A column's noise, of its uniform number. -/
theorem gum_val (q : BitVec 32) : FloatOps.hostNegf (F := Ideal) (φ := .f32) (FloatOps.hostUnary .log (FloatOps.hostNegf (FloatOps.hostUnary .log
    (FloatOps.maximumf (FloatOps.ofBits .f32 0x00800000#32) (FloatOps.addf (unitOf (word q)) (FloatOps.ofBits .f32 0x00800000#32))))))
      = (gum q : EReal) := by
  rw [unif_val, h_log _ (unif_pos _), h_neg, h_log _ (by have := lw_neg q; unfold lw at this; linarith), h_neg]
  rfl

/-- A column's logit in the race. -/
theorem soft_val (x M L : ℝ) (hL : 0 < L) : FloatOps.hostUnary (F := Ideal) (φ := .f32) .log (FloatOps.hostDivf (FloatOps.hostUnary .exp
    (FloatOps.subf (x : EReal) (M : EReal))) (L : EReal)) = ((x - M - Real.log L : ℝ) : EReal) := by
  rw [e_sub, h_exp, h_div _ _ hL, h_log _ (div_pos (Real.exp_pos _) hL), Real.log_div (Real.exp_pos _).ne' hL.ne', Real.log_exp]

end Cert.Proof

end
-- ==== Proof.ReadB.lean ====
/- What the host's operations after the two calls leave, read operation by operation. -/
module

public import proofs.«01_k».proof.Proof.Host
public import proofs.«01_k».proof.Proof.Point

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.StableHlo (after)

variable {F : FTy → Type} [FloatOps F]

/-- One read through an operand that the operations before do not write. -/
theorem rd_in2 (V : Valuation τ sig (Elt F)) : StableHlo.upto host0.1 V 2 (main_v1_2 : DevRef τ sig) = V (main_v1_2 : DevRef τ sig) := by
  after_reads_simp

theorem rd_in2' (V : Valuation τ sig (Elt F)) : StableHlo.upto host0.1 V 2 (main_v0_2 : DevRef τ sig) = V (main_v0_2 : DevRef τ sig) := by
  after_reads_simp

/-- The candidates' columns, of the two calls together. -/
theorem rd_v4 (V : Valuation τ sig (Elt F)) :
    after host0.1 V (main_v4 : DevRef τ sig) = concatenate S32x544 1 [⟨S32x512, V (main_v1_2 : DevRef τ sig)⟩, ⟨S32x32, V (main_v0_2 : DevRef τ sig)⟩] concatenates_S32x512_S32x32_S32x544_d1 := by
  after_reads_simp
  rw [rd_in2, rd_in2']

/-- The random words' first operand: the candidates' counters. -/
theorem rd_v21 (V : Valuation τ sig (Elt F)) (j : S32x544.Idx) :
    after host0.1 V (main_v21 : DevRef τ sig) j
      = IntOp.addi (IntOp.addi (IntOp.muli (BitVec.ofNat 32 (j 0).val) 1000000#32) (after host0.1 V (main_v4 : DevRef τ sig) j)) 42#32 := by
  after_reads_simp
  rfl

end Cert.Proof
-- ==== Proof.HostTail.lean ====
/- The host's last operations, read at one lane and one row. -/
module

public import proofs.«01_k».proof.Proof.ReadB
public import Idealize.ShloMosaic.Lib.ReduceAll

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.StableHlo (after)

variable {F : FTy → Type} [FloatOps F]

/-- A row's value on every lane. -/
theorem p_row {α : Type} (x : S32.Idx → α) (h1) (h2) (j : S32x544.Idx) :
    broadcastInDim S32x544 ![0, 1] h2 (broadcastInDim S32x1 ![0] h1 x) j = x (rowIx (j 0)) := by
  unfold broadcastInDim
  refine congrArg x (funext fun a => ?_)
  obtain rfl : a = 0 := Subsingleton.elim _ _
  apply Fin.ext
  rfl

/-- A lane's value in the host's race. -/
def raceVal (b : BitVec 32) (x mx l : F .f32) : F .f32 :=
  FloatOps.addf (FloatOps.hostNegf (FloatOps.hostUnary .log (FloatOps.hostNegf (FloatOps.hostUnary .log
      (FloatOps.maximumf (FloatOps.ofBits .f32 0x00800000#32) (FloatOps.addf (unitOf b) (FloatOps.ofBits .f32 0x00800000#32)))))))
    (FloatOps.hostUnary .log (FloatOps.hostDivf (FloatOps.hostUnary .exp (FloatOps.subf x mx)) l))

theorem rd_v205 (W : Valuation τ sig (Elt F)) (j : S32x544.Idx) (b : BitVec 32)
    (h183 : W (main_v183 : DevRef τ sig) j = IntOp.shrui .vector b 9#32)
    (h53 : W (main_c_53 : DevRef τ sig) = constantI S_ 32 1065353216#32) :
    after host4.1 W (main_v205 : DevRef τ sig) j = raceVal b (W (main_v12 : DevRef τ sig) j) (W (main_v5 : DevRef τ sig) (rowIx (j 0)))
      (W (main_v11 : DevRef τ sig) (rowIx (j 0))) := by
  have e5 := p_row (α := F .f32) (W (main_v5 : DevRef τ sig)) bcast_S32_S32x1_0 bcast_S32x1_S32x544_0_1 j
  have e11 := p_row (α := F .f32) (W (main_v11 : DevRef τ sig)) bcast_S32_S32x1_0 bcast_S32x1_S32x544_0_1 j
  unfold raceVal unitOf
  rw [← e5, ← e11, ← h183]
  after_reads_simp
  rw [h53]
  rfl

theorem rd_v211 (W : Valuation τ sig (Elt F)) :
    after host4.1 W (main_v211 : DevRef τ sig) = Host.reduce IntOp.minsi
      (select (cmpf .oeq (after host4.1 W (main_v205 : DevRef τ sig))
        (broadcastInDim S32x544 ![0, 1] bcast_S32x1_S32x544_0_1 (broadcastInDim S32x1 ![0] bcast_S32_S32x1_0
          (Host.reduce FloatOps.maximumf (after host4.1 W (main_v205 : DevRef τ sig)) (constant S_ .f32 0xFF800000#32) reducesTo_S32x544_S32_d1 h_S_))))
        (W (main_v4 : DevRef τ sig)) (broadcastInDim S32x544 ![] bcast_S_S32x544 (constantI S_ 32 1073741824#32)))
      (constantI S_ 32 2147483647#32) reducesTo_S32x544_S32_d1 h_S_ := by
  after_reads_simp
  rfl

/-- The lanes' records joined: the TensorCore's, then the SparseCore's. -/
abbrev joined {e : EltTy} (a : S32x512.Idx → Elt F e) (b : S32x32.Idx → Elt F e) : S32x544.Idx → Elt F e :=
  concatenate S32x544 1 [⟨S32x512, a⟩, ⟨S32x32, b⟩] concatenates_S32x512_S32x32_S32x544_d1

theorem rd_183 (V : Valuation τ sig (Elt F)) (j : S32x544.Idx) :
    after host3.1 (after host2.1 (after host1.1 (after host0.1 V))) (main_v183 : DevRef τ sig) j
      = IntOp.shrui .vector (word (after host0.1 V (main_v21 : DevRef τ sig) j)) 9#32 := by
  after_reads_simp
  dsimp only [word, rounds, inject, mixA0, mixA, mixB, mix, rotl]
  clean_types
  simp (disch := decide) only [p_addi, p_xori, p_ori, p_shli, p_shrui, p_bc, p_constI, s_shli, s_shrui, id_eq]

theorem rd_53 (W : Valuation τ sig (Elt F)) : after host3.1 W (main_c_53 : DevRef τ sig) = constantI S_ 32 1065353216#32 := by
  after_reads_simp

theorem keep4 (W : Valuation τ sig (Elt F)) : after host3.1 (after host2.1 (after host1.1 W)) (main_v4 : DevRef τ sig) = W (main_v4 : DevRef τ sig) := by
  after_reads_simp
theorem keep5 (W : Valuation τ sig (Elt F)) : after host3.1 (after host2.1 (after host1.1 W)) (main_v5 : DevRef τ sig) = W (main_v5 : DevRef τ sig) := by
  after_reads_simp
theorem keep11 (W : Valuation τ sig (Elt F)) : after host3.1 (after host2.1 (after host1.1 W)) (main_v11 : DevRef τ sig) = W (main_v11 : DevRef τ sig) := by
  after_reads_simp
theorem keep12 (W : Valuation τ sig (Elt F)) : after host3.1 (after host2.1 (after host1.1 W)) (main_v12 : DevRef τ sig) = W (main_v12 : DevRef τ sig) := by
  after_reads_simp

end Cert.Proof
-- ==== Proof.HostHead.lean ====
/- The host's first operations, read: the largest logit and the sum over the lanes, and the candidates' logits. -/
module

public import proofs.«01_k».proof.Proof.HostTail

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.StableHlo (after)

variable {F : FTy → Type} [FloatOps F]

theorem rd_in0 (V : Valuation τ sig (Elt F)) : StableHlo.upto host0.1 V 0 (main_v1_0 : DevRef τ sig) = V (main_v1_0 : DevRef τ sig) := by
  after_reads_simp
theorem rd_in0' (V : Valuation τ sig (Elt F)) : StableHlo.upto host0.1 V 0 (main_v0_0 : DevRef τ sig) = V (main_v0_0 : DevRef τ sig) := by
  after_reads_simp
theorem rd_in1 (V : Valuation τ sig (Elt F)) : StableHlo.upto host0.1 V 1 (main_v1_1 : DevRef τ sig) = V (main_v1_1 : DevRef τ sig) := by
  after_reads_simp
theorem rd_in1' (V : Valuation τ sig (Elt F)) : StableHlo.upto host0.1 V 1 (main_v0_1 : DevRef τ sig) = V (main_v0_1 : DevRef τ sig) := by
  after_reads_simp

theorem rd_m (V : Valuation τ sig (Elt F)) : after host0.1 V (main_v2 : DevRef τ sig)
    = joined (e := .f32) (V (main_v1_0 : DevRef τ sig)) (V (main_v0_0 : DevRef τ sig)) := by
  after_reads_simp
  rw [rd_in0, rd_in0']
theorem rd_z (V : Valuation τ sig (Elt F)) : after host0.1 V (main_v3 : DevRef τ sig)
    = joined (e := .f32) (V (main_v1_1 : DevRef τ sig)) (V (main_v0_1 : DevRef τ sig)) := by
  after_reads_simp
  rw [rd_in1, rd_in1']

theorem rd_v5 (V : Valuation τ sig (Elt F)) : after host0.1 V (main_v5 : DevRef τ sig)
    = Host.reduce FloatOps.maximumf (after host0.1 V (main_v2 : DevRef τ sig)) (constant S_ .f32 0xFF800000#32) reducesTo_S32x544_S32_d1 h_S_ := by
  after_reads_simp

theorem rd_v11 (V : Valuation τ sig (Elt F)) : after host0.1 V (main_v11 : DevRef τ sig)
    = Host.reduceAdd (mulf (after host0.1 V (main_v3 : DevRef τ sig)) (Host.exp (subf (after host0.1 V (main_v2 : DevRef τ sig))
        (broadcastInDim S32x544 ![0, 1] bcast_S32x1_S32x544_0_1 (broadcastInDim S32x1 ![0] bcast_S32_S32x1_0 (after host0.1 V (main_v5 : DevRef τ sig)))))))
        (constant S_ .f32 0x00000000#32) reducesTo_S32x544_S32_d1 h_S_ := by
  after_reads_simp

/-- The indices of the candidates' logits. -/
abbrev takeIx (w : IVec S32x544 32) : IVec S32x544x1 32 :=
  shapeCast S32x544x1 (select (cmpi .slt w (broadcastInDim S32x544 ![] bcast_S_S32x544 (constantI S_ 32 0#32)))
    (addi w (broadcastInDim S32x544 ![] bcast_S_S32x544 (constantI S_ 32 1000000#32))) w) shapeCasts_S32x544_S32x544x1

theorem rd_v12 (V : Valuation τ sig (Elt F)) : after host0.1 V (main_v12 : DevRef τ sig)
    = select (Host.reduce IntOp.andi (andi (cmpi .sge (takeIx (after host0.1 V (main_v4 : DevRef τ sig))) (broadcastInDim S32x544x1 ![] bcast_S_S32x544x1 (constantI S_ 32 0#32)))
          (cmpi .sle (takeIx (after host0.1 V (main_v4 : DevRef τ sig))) (broadcastInDim S32x544x1 ![0, 1, 2] bcast_S1x1x1_S32x544x1_0_1_2
            (broadcastInDim S1x1x1 ![2] bcast_S1_S1x1x1_2 (constantI S1 32 999999#32)))))
          (constantI S_ 1 1#1) reducesTo_S32x544x1_S32x544_d2 h_S_)
        (Host.gather gather_S32x1000000_S32x544x1_S32x544_n_1_0_0_1_2_11 (V (main_arg0 : DevRef τ sig)) (takeIx (after host0.1 V (main_v4 : DevRef τ sig))))
        (broadcastInDim S32x544 ![] bcast_S_S32x544 (constant S_ .f32 0x7FC00000#32)) := by
  after_reads_simp
  simp -implicitDefEqProofs only [StableHlo.TRef.toBuf, StableHlo.TRef.ofBuf, cast_cast, cast_eq]
  rfl

end Cert.Proof
-- ==== Proof.HostGather.lean ====
/- The candidates' logits: the gather along the row at a column that is in range. -/
module

public import proofs.«01_k».proof.Proof.HostHead
public import Idealize.ShloMosaic.Lib.ReduceAll
public import Idealize.ShloMosaic.Lib.Pipeline.Value

@[expose] public section

set_option synthInstance.maxSize 4096
set_option maxRecDepth 65536

noncomputable section

namespace Cert.Proof

open Cert.KernelIdeal Cert.KernelIdeal.Gen
open Idealize.ShloMosaic
open Idealize.ShloMosaic.TcCoe
open Idealize.ShloMosaic.StableHlo (after)

/-- A lane's place among the gather's indices. -/
def ix3 (j : S32x544.Idx) : S32x544x1.Idx := fun | ⟨0, _⟩ => j 0 | ⟨1, _⟩ => j 1 | ⟨2, _⟩ => (0 : Fin 1)

/-- The column `c` of a row of the logits. -/
def rowCol (r : Fin 32) (c : Fin 1000000) : S32x1000000.Idx := fun | ⟨0, _⟩ => r | ⟨1, _⟩ => c

theorem siIdx_at (j : S32x544.Idx) (k : Fin gather_S32x1000000_S32x544x1_S32x544_n_1_0_0_1_2_11.startIndexMap.length) :
    gather_S32x1000000_S32x544x1_S32x544_n_1_0_0_1_2_11.siIdx j k = ix3 j := by
  funext b
  match b with
  | ⟨0, _⟩ =>
    unfold GatherDims.siIdx
    refine (dif_neg (show ¬ (0 : ℕ) = 2 by decide)).trans ?_
    unfold GatherDims.siCoord
    apply Fin.ext
    rfl
  | ⟨1, _⟩ =>
    unfold GatherDims.siIdx
    refine (dif_neg (show ¬ (1 : ℕ) = 2 by decide)).trans ?_
    unfold GatherDims.siCoord
    apply Fin.ext
    rfl
  | ⟨2, _⟩ => exact Subsingleton.elim (α := Fin 1) _ _

theorem gather_at {α : Type} (x : S32x1000000.Idx → α) (idx : IVec S32x544x1 32) (j : S32x544.Idx) (c : Fin 1000000)
    (hc : (idx (ix3 j)).toInt.toNat = c.val) :
    Host.gather gather_S32x1000000_S32x544x1_S32x544_n_1_0_0_1_2_11 x idx j = x (rowCol (j 0) c) := by
  unfold Host.gather
  refine congrArg x (funext fun a => ?_)
  match a with
  | ⟨0, _⟩ =>
    apply Fin.ext
    have hk : (0 : Fin 2) ∉ gather_S32x1000000_S32x544x1_S32x544_n_1_0_0_1_2_11.sKept := by decide
    have hm : (0 : Fin 2) ∉ gather_S32x1000000_S32x544x1_S32x544_n_1_0_0_1_2_11.startIndexMap := by decide
    have hb : (0 : Fin 2) ∈ gather_S32x1000000_S32x544x1_S32x544_n_1_0_0_1_2_11.operandBatchingDims := by decide
    have e : (gather_S32x1000000_S32x544x1_S32x544_n_1_0_0_1_2_11.operandIdx j idx (0 : Fin 2)).val
        = gather_S32x1000000_S32x544x1_S32x544_n_1_0_0_1_2_11.batchCoord j (0 : Fin 2) := by
      simp only [GatherDims.operandIdx, GatherDims.offCoord_eq_zero _ _ _ hk, GatherDims.start, dif_neg hm, Nat.add_zero, Nat.zero_add]
    refine e.trans ?_
    unfold GatherDims.batchCoord
    rw [dif_pos hb]
    unfold GatherDims.siCoord
    rfl
  | ⟨1, _⟩ =>
    apply Fin.ext
    have hk : (1 : Fin 2) ∉ gather_S32x1000000_S32x544x1_S32x544_n_1_0_0_1_2_11.sKept := by decide
    have hm : (1 : Fin 2) ∈ gather_S32x1000000_S32x544x1_S32x544_n_1_0_0_1_2_11.startIndexMap := by decide
    have hb : (1 : Fin 2) ∉ gather_S32x1000000_S32x544x1_S32x544_n_1_0_0_1_2_11.operandBatchingDims := by decide
    have e : (gather_S32x1000000_S32x544x1_S32x544_n_1_0_0_1_2_11.operandIdx j idx (1 : Fin 2)).val
        = min (idx (ix3 j)).toInt.toNat (1000000 - 1) := by
      simp only [GatherDims.operandIdx, GatherDims.batchCoord_eq_zero _ _ _ hb, GatherDims.offCoord_eq_zero _ _ _ hk,
        Nat.add_zero, GatherDims.start, dif_pos hm, siIdx_at]
      rfl
    refine e.trans ?_
    show _ = c.val
    rw [hc]
    have := c.isLt
    omega

/-- Moving a lane into the gather's indices. -/
theorem cast_at {α : Type} (y : S32x544.Idx → α) (j : S32x544.Idx) :
    shapeCast S32x544x1 y shapeCasts_S32x544_S32x544x1 (ix3 j) = y j := by
  refine shapeCast_apply y _ _ _ ?_
  rw [Shape.rowMajor_val_three, Shape.rowMajor_val_two]
  show (j 0).val * 544 + (j 1).val = ((j 0).val * 544 + (j 1).val) * 1 + 0
  omega

theorem ix3_surj (i : S32x544x1.Idx) : ∃ j, i = ix3 j := by
  refine ⟨fun | ⟨0, _⟩ => i 0 | ⟨1, _⟩ => i 1, funext fun a => ?_⟩
  match a with
  | ⟨0, _⟩ => rfl
  | ⟨1, _⟩ => rfl
  | ⟨2, _⟩ => exact Subsingleton.elim (α := Fin 1) _ _

theorem toInt_col (b : BitVec 32) (h : b.toNat < 1000000) : b.toInt = b.toNat := BitVec.toInt_eq_toNat_of_lt (by omega)

theorem slt_zero (b : BitVec 32) (h : b.toNat < 1000000) : IntOp.cmpi .slt b 0#32 = 0#1 := by
  have e : b.slt 0#32 = false := by
    rw [BitVec.slt_eq_decide, toInt_col b h, decide_eq_false_iff_not, show (0#32).toInt = 0 from rfl]
    omega
  show BitVec.ofBool (b.slt 0#32) = 0#1
  rw [e]; rfl

theorem sge_zero (b : BitVec 32) (h : b.toNat < 1000000) : IntOp.cmpi .sge b 0#32 = 1#1 := by
  have e : (0#32).sle b = true := by
    rw [BitVec.sle_eq_decide, toInt_col b h, decide_eq_true_eq, show (0#32).toInt = 0 from rfl]
    omega
  show BitVec.ofBool ((0#32).sle b) = 1#1
  rw [e]; rfl

theorem sle_last (b : BitVec 32) (h : b.toNat < 1000000) : IntOp.cmpi .sle b 999999#32 = 1#1 := by
  have e : b.sle 999999#32 = true := by
    rw [BitVec.sle_eq_decide, toInt_col b h, decide_eq_true_eq, show (999999#32).toInt = 999999 from rfl]
    omega
  show BitVec.ofBool (b.sle 999999#32) = 1#1
  rw [e]; rfl

theorem takeIx_at (w : IVec S32x544 32) (j : S32x544.Idx) (h : (w j).toNat < 1000000) : takeIx w (ix3 j) = w j := by
  refine (cast_at _ j).trans ?_
  show Scalar.select (IntOp.cmpi .slt (w j) 0#32) _ (w j) = w j
  rw [slt_zero _ h]
  exact if_neg (by decide)

/-- A candidate's logit. -/
theorem v12_at {F : FTy → Type} [FloatOps F] (V : Valuation τ sig (Elt F)) (w : IVec S32x544 32) (hw : after host0.1 V (main_v4 : DevRef τ sig) = w)
    (h : ∀ j, (w j).toNat < 1000000) (j : S32x544.Idx) :
    after host0.1 V (main_v12 : DevRef τ sig) j = V (main_arg0 : DevRef τ sig) (rowCol (j 0) ⟨(w j).toNat, h j⟩) := by
  have e := congrFun (rd_v12 V) j
  rw [hw] at e
  refine e.trans ?_
  have one : Host.reduce IntOp.andi (andi (cmpi .sge (takeIx w) (broadcastInDim S32x544x1 ![] bcast_S_S32x544x1 (constantI S_ 32 0#32)))
          (cmpi .sle (takeIx w) (broadcastInDim S32x544x1 ![0, 1, 2] bcast_S1x1x1_S32x544x1_0_1_2
            (broadcastInDim S1x1x1 ![2] bcast_S1_S1x1x1_2 (constantI S1 32 999999#32)))))
          (constantI S_ 1 1#1) reducesTo_S32x544x1_S32x544_d2 h_S_ j = 1#1 := by
    refine Host.reduce_andi_one _ _ _ _ j rfl fun i => ?_
    obtain ⟨k, rfl⟩ := ix3_surj i
    show IntOp.andi (IntOp.cmpi .sge (takeIx w (ix3 k)) 0#32) (IntOp.cmpi .sle (takeIx w (ix3 k)) 999999#32) = 1#1
    rw [takeIx_at w k (h k), sge_zero _ (h k), sle_last _ (h k)]
    rfl
  refine (if_pos one).trans ?_
  refine gather_at _ _ j ⟨(w j).toNat, h j⟩ ?_
  rw [takeIx_at w j (h j), toInt_col _ (h j)]
  rfl

end Cert.Proof
-- ==== Proof.Race.lean ====
/- The kernel's result over the extended reals: the first column whose score is greatest. -/
module

public import proofs.«01_k».proof.Proof.LaneVal
public import proofs.«01_k».proof.Proof.RowFold
public import proofs.«01_k».proof.Proof.HostGather
public import proofs.«01_k».proof.Proof.Main

@[expose] public section

set_option maxRecDepth 65536

noncomputable section

namespace Cert.Proof

open Cert.KernelIdeal Cert.KernelIdeal.Gen
open Idealize.ShloMosaic
open Idealize.ShloMosaic.TcCoe
open Idealize.ShloMosaic.StableHlo (after)

section
variable {F : FTy → Type} [FloatOps F]

/-- A lane of the joined records is the TensorCore's or the SparseCore's. -/
theorem joined_at {e : EltTy} (a : S32x512.Idx → Elt F e) (b : S32x32.Idx → Elt F e) (f : Fin 32 → ℕ → Elt F e)
    (ha : ∀ i, a i = f (i 0) (i 1).val) (hb : ∀ i, b i = f (i 0) (512 + (i 1).val)) (j : S32x544.Idx) : joined a b j = f (j 0) (j 1).val := by
  by_cases h : (j 1).val < 512
  · let i : S32x512.Idx := fun | ⟨0, _⟩ => j 0 | ⟨1, _⟩ => (⟨(j 1).val, h⟩ : Fin 512)
    refine (concatenate_pair_apply_left (t := S32x544) (s₁ := S32x512) (s₂ := S32x32) 1 a b _ j rfl i ?_).trans (ha i)
    intro c
    match c with
    | ⟨0, _⟩ => rfl
    | ⟨1, _⟩ => rfl
  · have h' : (j 1).val < 544 := (j 1).isLt
    let i : S32x32.Idx := fun | ⟨0, _⟩ => j 0 | ⟨1, _⟩ => (⟨(j 1).val - 512, by omega⟩ : Fin 32)
    have e : 512 + (i 1).val = (j 1).val := by show 512 + ((j 1).val - 512) = _; omega
    refine (concatenate_pair_apply_right (t := S32x544) (s₁ := S32x512) (s₂ := S32x32) 1 a b _ j rfl rfl i ?_ ?_).trans ((hb i).trans (by rw [e]))
    · intro c hc
      match c with
      | ⟨0, _⟩ => rfl
      | ⟨1, _⟩ => exact absurd rfl hc
    · show ((j 1).val - 512) + 512 = (j 1).val
      omega

theorem tc_rec (X : S32x1000000.Idx → F .f32) (i : S32x512.Idx) : (tstate X 94).at i = laneRec X (i 0) (i 1).val := by
  rw [tstate_at X i 94 le_rfl]
  exact (if_pos (show (i 1).val < 512 from (i 1).isLt)).symm

theorem sc_rec (X : S32x1000000.Idx → F .f32) (i : S32x32.Idx) : scOut (rowOf X (i 0)) (rowBase (i 0)) (i 1) = laneRec X (i 0) (512 + (i 1).val) := by
  refine (scOut_eq _ _ (i 1)).trans ?_
  unfold laneRec
  rw [if_neg (by omega), Nat.add_sub_cancel_left]

/-- What the two calls leave for the host. -/
structure Left (X : S32x1000000.Idx → F .f32) (V : Valuation τ sig (Elt F)) : Prop where
  x : V (main_arg0 : DevRef τ sig) = X
  tm : V (main_v1_0 : DevRef τ sig) = (tstate X 94).m
  tz : V (main_v1_1 : DevRef τ sig) = (tstate X 94).z
  ti : V (main_v1_2 : DevRef τ sig) = (tstate X 94).i
  sm : V (main_v0_0 : DevRef τ sig) = mOut X
  sz : V (main_v0_1 : DevRef τ sig) = zOut X
  si : V (main_v0_2 : DevRef τ sig) = iOut X

variable {X : S32x1000000.Idx → F .f32} {V : Valuation τ sig (Elt F)} (H : Left X V)
include H

theorem m_at (j : S32x544.Idx) : after host0.1 V (main_v2 : DevRef τ sig) j = (laneRec X (j 0) (j 1).val).m := by
  rw [rd_m, H.tm, H.sm]
  exact joined_at (e := .f32) _ _ (fun r l => (laneRec X r l).m) (fun i => congrArg Acc.m (tc_rec X i)) (fun i => congrArg Acc.m (sc_rec X i)) j
theorem z_at (j : S32x544.Idx) : after host0.1 V (main_v3 : DevRef τ sig) j = (laneRec X (j 0) (j 1).val).z := by
  rw [rd_z, H.tz, H.sz]
  exact joined_at (e := .f32) _ _ (fun r l => (laneRec X r l).z) (fun i => congrArg Acc.z (tc_rec X i)) (fun i => congrArg Acc.z (sc_rec X i)) j
theorem i_at (j : S32x544.Idx) : after host0.1 V (main_v4 : DevRef τ sig) j = (laneRec X (j 0) (j 1).val).i := by
  rw [rd_v4, H.ti, H.si]
  exact joined_at (F := F) (e := .i32) _ _ (fun r l => (laneRec X r l).i) (fun i => congrArg Acc.i (tc_rec X i)) (fun i => congrArg Acc.i (sc_rec X i)) j
end

theorem left_W2 {F : FTy → Type} [FloatOps F] (m : (ℓ : Loc nD τ sig) → Buf (Elt F) ℓ) (d : Dev nD) : Left (m (xLoc d)) (W2 m d) where
  x := (W2_ne m d _ (by decide) (by decide) (by decide)).trans (W1_x m d)
  tm := (W2_m m d).trans (by rw [show lg (V1 m) d = m (xLoc d) from W1_x m d])
  tz := (W2_z m d).trans (by rw [show lg (V1 m) d = m (xLoc d) from W1_x m d])
  ti := (W2_i m d).trans (by rw [show lg (V1 m) d = m (xLoc d) from W1_x m d])
  sm := (W2_ne m d _ (by decide) (by decide) (by decide)).trans (W1_m m d)
  sz := (W2_ne m d _ (by decide) (by decide) (by decide)).trans (W1_z m d)
  si := (W2_ne m d _ (by decide) (by decide) (by decide)).trans (W1_i m d)

/-- A column's score in a row of the logits `xr`. -/
def rowScore (xr : ℕ → ℝ) (r : Fin 32) (c : ℕ) : ℝ := xr c + gum (ctr r c)

/-- The counter the host computes of a candidate's column. -/
theorem host_ctr (r : Fin 32) (c : ℕ) :
    IntOp.addi (IntOp.addi (IntOp.muli (BitVec.ofNat 32 r.val) 1000000#32) (BitVec.ofNat 32 c)) 42#32 = ctr r c := by
  have e := ctr_eq r.val (BitVec.ofNat 32 c)
  rw [Nat.zero_mul, Nat.zero_add] at e
  exact e

theorem toNat_col {c : ℕ} (h : c < 1000000) : (BitVec.ofNat 32 c).toNat = c := by
  rw [BitVec.toNat_ofNat]; exact Nat.mod_eq_of_lt (by omega)

theorem select_oeq (x y : EReal) (p q : BitVec 32) : Scalar.select (FloatOps.cmpf (F := Ideal) (φ := .f32) .oeq x y) p q = if x = y then p else q := by
  show Scalar.select (Ideal.cmp .oeq x y) p q = _
  unfold Ideal.cmp Scalar.select
  by_cases h : x = y <;> simp [h]

/-- Every lane's record holds the first greatest of its columns. -/
theorem lanes_at {X : S32x1000000.Idx → Ideal .f32} {V : Valuation τ sig (Elt Ideal)} (H : Left X V) (xr : Fin 32 → ℕ → ℝ)
    (hx : ∀ r n, rowOf X r n = (xr r n : EReal)) (i : S32x544.Idx) :
    ∃ (mm zz : ℝ) (b : ℕ), after host0.1 V (main_v2 : DevRef τ sig) i = (mm : EReal) ∧
      after host0.1 V (main_v3 : DevRef τ sig) i = (zz : EReal) ∧ 0 < zz ∧
      after host0.1 V (main_v4 : DevRef τ sig) i = BitVec.ofNat 32 (laneCol (i 1).val b) ∧ b < laneN (i 1).val ∧
      (∀ k < laneN (i 1).val, rowScore (xr (i 0)) (i 0) (laneCol (i 1).val k) ≤ rowScore (xr (i 0)) (i 0) (laneCol (i 1).val b)) ∧
      ∀ k < b, rowScore (xr (i 0)) (i 0) (laneCol (i 1).val k) < rowScore (xr (i 0)) (i 0) (laneCol (i 1).val b) := by
  obtain ⟨mm, hm, hz, b, hb, -, -, hi, hall, hfirst⟩ := laneRec_holds X (i 0) (xr (i 0)) (hx (i 0)) (i 1).val
  simp only [score_gum] at hall hfirst
  refine ⟨mm, _, b, (m_at H i).trans hm, (z_at H i).trans hz, ?_, (i_at H i).trans hi, hb, hall, hfirst⟩
  exact Finset.sum_pos (fun k _ => Real.exp_pos _) ⟨0, Finset.mem_range.mpr (laneN_pos _)⟩

/-- The largest logit the host reads over a row's lanes. -/
theorem rowMax_at (V : Valuation τ sig (Elt Ideal)) (mm : S32x544.Idx → ℝ)
    (hm : ∀ i, after host0.1 V (main_v2 : DevRef τ sig) i = (mm i : EReal)) (r : Fin 32) :
    ∃ M : ℝ, after host0.1 V (main_v5 : DevRef τ sig) (rowIx r) = (M : EReal) := by
  rw [rd_v5]
  generalize after host0.1 V (main_v2 : DevRef τ sig) = A at hm ⊢
  exact row_max_real (n := 544) _ h_S_ (by norm_num) _ (constant (F := Ideal) S_ .f32 0xFF800000#32) neg_inf_val (rowIx r) mm hm

/-- The sum the host takes over a row's lanes. -/
theorem rowSum_at (V : Valuation τ sig (Elt Ideal)) (mm zz : S32x544.Idx → ℝ) (M : Fin 32 → ℝ)
    (hm : ∀ i, after host0.1 V (main_v2 : DevRef τ sig) i = (mm i : EReal))
    (hz : ∀ i, after host0.1 V (main_v3 : DevRef τ sig) i = (zz i : EReal)) (hzp : ∀ i, 0 < zz i)
    (hM : ∀ r, after host0.1 V (main_v5 : DevRef τ sig) (rowIx r) = (M r : EReal)) (r : Fin 32) :
    ∃ L : ℝ, 0 < L ∧ after host0.1 V (main_v11 : DevRef τ sig) (rowIx r) = (L : EReal) := by
  rw [rd_v11]
  generalize after host0.1 V (main_v2 : DevRef τ sig) = A at hm ⊢
  generalize after host0.1 V (main_v3 : DevRef τ sig) = B at hz ⊢
  generalize after host0.1 V (main_v5 : DevRef τ sig) = C at hM ⊢
  refine row_sum_real (n := 544) _ h_S_ (by norm_num) _ (constant (F := Ideal) S_ .f32 0x00000000#32) Ideal.ofBits_zero_f32 (rowIx r)
    (fun i => zz i * Real.exp (mm i - M (i 0))) (fun i => mul_pos (hzp i) (Real.exp_pos _)) fun i => ?_
  show FloatOps.mulf (F := Ideal) (φ := .f32) (B i) (FloatOps.hostUnary .exp
    (FloatOps.subf (A i) (broadcastInDim S32x544 ![0, 1] bcast_S32x1_S32x544_0_1 (broadcastInDim S32x1 ![0] bcast_S32_S32x1_0 C) i))) = _
  rw [hz, hm, p_row (α := Ideal .f32) C bcast_S32_S32x1_0 bcast_S32x1_S32x544_0_1 i, hM (i 0), e_sub, h_exp, e_mul]

/-- A candidate's logit. -/
theorem cand_at {X : S32x1000000.Idx → Ideal .f32} {V : Valuation τ sig (Elt Ideal)} (H : Left X V) (w : S32x544.Idx → ℕ)
    (hw : ∀ i, w i < 1000000) (hi : ∀ i, after host0.1 V (main_v4 : DevRef τ sig) i = BitVec.ofNat 32 (w i)) (i : S32x544.Idx) :
    after host0.1 V (main_v12 : DevRef τ sig) i = rowOf X (i 0) (w i) := by
  rw [v12_at V (fun i => BitVec.ofNat 32 (w i)) (funext hi) (fun i => by rw [toNat_col (hw i)]; exact hw i) i, H.x]
  unfold rowOf
  refine congrArg X (funext fun a => ?_)
  match a with
  | ⟨0, _⟩ => rfl
  | ⟨1, _⟩ =>
    apply Fin.ext
    show (BitVec.ofNat 32 (w i)).toNat = w i % 1000000
    rw [toNat_col (hw i), Nat.mod_eq_of_lt (hw i)]

/-- A lane's value in the race: its candidate's score, less what the row's columns share. -/
theorem race_at (V : Valuation τ sig (Elt Ideal)) (i : S32x544.Idx) (w : ℕ) (x M L : ℝ) (hL : 0 < L)
    (h4 : after host0.1 V (main_v4 : DevRef τ sig) i = BitVec.ofNat 32 w)
    (h5 : after host0.1 V (main_v5 : DevRef τ sig) (rowIx (i 0)) = (M : EReal))
    (h11 : after host0.1 V (main_v11 : DevRef τ sig) (rowIx (i 0)) = (L : EReal))
    (h12 : after host0.1 V (main_v12 : DevRef τ sig) i = (x : EReal)) :
    after host4.1 (after host3.1 (after host2.1 (after host1.1 (after host0.1 V)))) (main_v205 : DevRef τ sig) i
      = ((x + gum (ctr (i 0) w) - (M + Real.log L) : ℝ) : EReal) := by
  have h183 : after host3.1 (after host2.1 (after host1.1 (after host0.1 V))) (main_v183 : DevRef τ sig) i
      = IntOp.shrui .vector (word (ctr (i 0) w)) 9#32 := by
    rw [rd_183, rd_v21, h4, host_ctr (i 0) _]
  refine (rd_v205 _ i _ h183 (rd_53 _)).trans ?_
  rw [keep5, keep11, keep12, h5, h11, h12]
  unfold raceVal
  rw [gum_val, soft_val _ _ _ hL, e_add]
  refine congrArg (fun t : ℝ => (t : EReal)) ?_
  ring

/-- The host's pick on a row: of the lanes whose value is the row's greatest, the least column. -/
theorem pick_at (R : S32x544.Idx → Ideal .f32) (I : S32x544.Idx → BitVec 32) (w : S32x544.Idx → ℕ) (S : S32x544.Idx → ℝ) (T : ℝ)
    (j : S32.Idx) (c : ℕ) (hc : c < 1000000) (hw : ∀ i, w i < 1000000) (hI : ∀ i, I i = BitVec.ofNat 32 (w i))
    (hR : ∀ i, R i = (S i : EReal)) (hle : ∀ i : S32x544.Idx, i 0 = j 0 → S i ≤ T)
    (heq : ∀ i : S32x544.Idx, i 0 = j 0 → S i = T → c ≤ w i)
    (i0 : S32x544.Idx) (h0 : i0 0 = j 0) (hS0 : S i0 = T) (hw0 : w i0 = c) :
    Host.reduce IntOp.minsi
      (select (cmpf (F := Ideal) (φ := .f32) .oeq R (broadcastInDim S32x544 ![0, 1] bcast_S32x1_S32x544_0_1 (broadcastInDim S32x1 ![0] bcast_S32_S32x1_0
          (Host.reduce (FloatOps.maximumf (F := Ideal) (φ := .f32)) R (constant (F := Ideal) S_ .f32 0xFF800000#32) reducesTo_S32x544_S32_d1 h_S_))))
        I (broadcastInDim S32x544 ![] bcast_S_S32x544 (constantI S_ 32 1073741824#32)))
      (constantI S_ 32 2147483647#32) reducesTo_S32x544_S32_d1 h_S_ j = BitVec.ofNat 32 c := by
  have hred : Host.reduce (FloatOps.maximumf (F := Ideal) (φ := .f32)) R (constant (F := Ideal) S_ .f32 0xFF800000#32) reducesTo_S32x544_S32_d1 h_S_ j
      = (T : EReal) := by
    refine row_max (n := 544) _ h_S_ _ (constant (F := Ideal) S_ .f32 0xFF800000#32) neg_inf_val j _ (fun i hij => ?_) i0 h0 ?_
    · rw [hR]
      exact EReal.coe_le_coe_iff.mpr (hle i hij)
    · rw [hR, hS0]
  have hrow : rowIx (j 0) = j := funext fun a => by obtain rfl : a = 0 := Subsingleton.elim _ _; rfl
  have hsel : ∀ i : S32x544.Idx, i 0 = j 0 → (select (cmpf (F := Ideal) (φ := .f32) .oeq R
        (broadcastInDim S32x544 ![0, 1] bcast_S32x1_S32x544_0_1 (broadcastInDim S32x1 ![0] bcast_S32_S32x1_0
          (Host.reduce (FloatOps.maximumf (F := Ideal) (φ := .f32)) R (constant (F := Ideal) S_ .f32 0xFF800000#32) reducesTo_S32x544_S32_d1 h_S_))))
        I (broadcastInDim S32x544 ![] bcast_S_S32x544 (constantI S_ 32 1073741824#32))) i
      = if S i = T then BitVec.ofNat 32 (w i) else 1073741824#32 := by
    generalize Host.reduce (FloatOps.maximumf (F := Ideal) (φ := .f32)) R (constant (F := Ideal) S_ .f32 0xFF800000#32) reducesTo_S32x544_S32_d1 h_S_ = G at hred
    intro i hij
    have hG : broadcastInDim S32x544 ![0, 1] bcast_S32x1_S32x544_0_1 (broadcastInDim S32x1 ![0] bcast_S32_S32x1_0 G) i = (T : EReal) := by
      refine (p_row (α := Ideal .f32) G bcast_S32_S32x1_0 bcast_S32x1_S32x544_0_1 i).trans ?_
      exact ((congrArg G ((congrArg rowIx hij).trans hrow))).trans hred
    refine (show _ = Scalar.select (FloatOps.cmpf (F := Ideal) (φ := .f32) .oeq (R i)
      (broadcastInDim S32x544 ![0, 1] bcast_S32x1_S32x544_0_1 (broadcastInDim S32x1 ![0] bcast_S32_S32x1_0 G) i)) (I i) 1073741824#32 from rfl).trans ?_
    rw [hG, hR, hI, select_oeq]
    simp only [EReal.coe_eq_coe_iff]
  generalize select (cmpf (F := Ideal) (φ := .f32) .oeq R
        (broadcastInDim S32x544 ![0, 1] bcast_S32x1_S32x544_0_1 (broadcastInDim S32x1 ![0] bcast_S32_S32x1_0
          (Host.reduce (FloatOps.maximumf (F := Ideal) (φ := .f32)) R (constant (F := Ideal) S_ .f32 0xFF800000#32) reducesTo_S32x544_S32_d1 h_S_))))
        I (broadcastInDim S32x544 ![] bcast_S_S32x544 (constantI S_ 32 1073741824#32)) = Q at hsel ⊢
  have hbig : (1073741824#32 : BitVec 32).toNat = 1073741824 := by decide
  apply BitVec.eq_of_toNat_eq
  rw [toNat_col hc]
  refine row_min (n := 544) _ h_S_ _ (constantI S_ 32 2147483647#32) rfl j c hc (fun i hij => ?_) (fun i hij => ?_) i0 h0 ?_
  · rw [hsel i hij]
    split_ifs
    · rw [toNat_col (hw i)]; have := hw i; omega
    · rw [hbig]; norm_num
  · rw [hsel i hij]
    split_ifs with he
    · rw [toNat_col (hw i)]; exact heq i hij he
    · rw [hbig]; omega
  · rw [hsel i0 h0, if_pos hS0, hw0, toNat_col hc]

/-- The result on a row is the first column whose score is greatest. -/
theorem kernel_val {X : S32x1000000.Idx → Ideal .f32} {V : Valuation τ sig (Elt Ideal)} (H : Left X V) (xr : Fin 32 → ℕ → ℝ)
    (hx : ∀ r n, rowOf X r n = (xr r n : EReal)) (j : S32.Idx) (c : ℕ) (hc : c < 1000000)
    (hmax : ∀ k < 1000000, rowScore (xr (j 0)) (j 0) k ≤ rowScore (xr (j 0)) (j 0) c)
    (hfst : ∀ k < c, rowScore (xr (j 0)) (j 0) k < rowScore (xr (j 0)) (j 0) c) :
    after host4.1 (after host3.1 (after host2.1 (after host1.1 (after host0.1 V)))) (main_v211 : DevRef τ sig) j = BitVec.ofNat 32 c := by
  choose mm zz b hm hz hzp hi hb hall hfirst using lanes_at H xr hx
  have col_lt : ∀ i : S32x544.Idx, laneCol (i 1).val (b i) < 1000000 := fun i => laneCol_lt (i 1).isLt (hb i)
  choose M hM using rowMax_at V mm hm
  choose L hLp hL using rowSum_at V mm zz M hm hz hzp hM
  have h12 := cand_at H (fun i => laneCol (i 1).val (b i)) col_lt hi
  have h205 : ∀ i : S32x544.Idx, after host4.1 (after host3.1 (after host2.1 (after host1.1 (after host0.1 V)))) (main_v205 : DevRef τ sig) i
      = ((rowScore (xr (i 0)) (i 0) (laneCol (i 1).val (b i)) - (M (i 0) + Real.log (L (i 0))) : ℝ) : EReal) := fun i =>
    race_at V i _ _ _ _ (hLp (i 0)) (hi i) (hM (i 0)) (hL (i 0)) ((h12 i).trans (hx (i 0) _))
  -- the lane of the first greatest column
  obtain ⟨l, hl, k, hk, hlk⟩ := laneCol_cover hc
  let i0 : S32x544.Idx := fun | ⟨0, _⟩ => j 0 | ⟨1, _⟩ => (⟨l, hl⟩ : Fin 544)
  have hi0 : laneCol l (b i0) = c := by
    have hb0 : b i0 < laneN l := hb i0
    have h1 : rowScore (xr (j 0)) (j 0) (laneCol l k) ≤ rowScore (xr (j 0)) (j 0) (laneCol l (b i0)) := hall i0 k hk
    rw [hlk] at h1
    have h2 : c ≤ laneCol l (b i0) := by
      by_contra hlt
      exact absurd (hfst _ (not_le.mp hlt)) (not_lt.mpr h1)
    have h3 : b i0 ≤ k := by
      by_contra hlt
      have h4 : rowScore (xr (j 0)) (j 0) (laneCol l k) < rowScore (xr (j 0)) (j 0) (laneCol l (b i0)) := hfirst i0 k (not_le.mp hlt)
      rw [hlk] at h4
      exact absurd h4 (not_lt.mpr (hmax _ (col_lt i0)))
    have h5 := laneCol_mono (l := l) hl h3
    rw [hlk] at h5
    exact le_antisymm h5 h2
  refine (congrFun (rd_v211 _) j).trans ?_
  rw [keep4]
  generalize after host4.1 (after host3.1 (after host2.1 (after host1.1 (after host0.1 V)))) (main_v205 : DevRef τ sig) = R at h205 ⊢
  generalize after host0.1 V (main_v4 : DevRef τ sig) = I at hi ⊢
  refine pick_at R I (fun i => laneCol (i 1).val (b i)) _ (rowScore (xr (j 0)) (j 0) c - (M (j 0) + Real.log (L (j 0)))) j c hc col_lt hi h205
    (fun i hij => ?_) (fun i hij he => ?_) i0 rfl ?_ hi0
  · rw [hij]
    exact sub_le_sub_right (hmax _ (col_lt i)) _
  · rw [hij, sub_left_inj] at he
    by_contra hlt
    exact absurd he (hfst _ (not_le.mp hlt)).ne
  · show rowScore (xr (j 0)) (j 0) (laneCol l (b i0)) - (M (j 0) + Real.log (L (j 0))) = _
    rw [hi0]

end Cert.Proof

end
-- ==== Proof.RefWord.lean ====
/- The reference's random words: its threefry, read at one column, is the kernel's. -/
module

public import proofs.«01_k».proof.Proof.RefRun
public import proofs.«01_k».proof.Proof.Point

@[expose] public section

set_option synthInstance.maxSize 4096
set_option maxRecDepth 65536

noncomputable section

namespace Cert.Proof

open Idealize.ShloMosaic

/-- A mixing round as the reference writes it. -/
def mixR (r r' : BitVec 32) (p : BitVec 32 × BitVec 32) : BitVec 32 × BitVec 32 :=
  (IntOp.addi p.1 p.2, IntOp.xori (IntOp.addi p.1 p.2) (rotl r r' p.2))

/-- The key's words and the round's number, added. -/
def injectR (a b c : BitVec 32) (p : BitVec 32 × BitVec 32) : BitVec 32 × BitVec 32 :=
  (IntOp.addi p.1 a, IntOp.addi (IntOp.addi p.2 b) c)

def mixAR (p : BitVec 32 × BitVec 32) : BitVec 32 × BitVec 32 :=
  mixR 6#32 26#32 (mixR 26#32 6#32 (mixR 15#32 17#32 (mixR 13#32 19#32 p)))

def mixBR (p : BitVec 32 × BitVec 32) : BitVec 32 × BitVec 32 :=
  mixR 24#32 8#32 (mixR 16#32 16#32 (mixR 29#32 3#32 (mixR 17#32 15#32 p)))

/-- The third key word. -/
def key3 (k0 k1 : BitVec 32) : BitVec 32 := IntOp.xori (IntOp.xori k0 k1) 466688986#32

/-- The reference's word of the counter `(hi, lo)` under the key `(k0, k1)`. -/
def wordR (k0 k1 hi lo : BitVec 32) : BitVec 32 :=
  let p := injectR (key3 k0 k1) k0 5#32 (mixAR (injectR k1 (key3 k0 k1) 4#32 (mixBR (injectR k0 k1 3#32 (mixAR
    (injectR (key3 k0 k1) k0 2#32 (mixBR (injectR k1 (key3 k0 k1) 1#32 (mixAR (IntOp.addi hi k0, IntOp.addi lo k1))))))))))
  IntOp.xori p.1 p.2

theorem mixR_eq (r r' : BitVec 32) (p) : mixR r r' p = mix r r' p := by
  unfold mixR mix IntOp.xori
  rw [BitVec.xor_comm]

theorem mixAR_eq (p) : mixAR p = mixA p := by unfold mixAR mixA; simp only [mixR_eq]
theorem mixBR_eq (p) : mixBR p = mixB p := by unfold mixBR mixB; simp only [mixR_eq]
theorem injectR_eq (a b c : BitVec 32) (p) : injectR a b c p = inject a (b + c) p := by
  unfold injectR inject IntOp.addi
  rw [BitVec.add_assoc]
theorem mixA_zero (c : BitVec 32) : mixA (0#32, c) = mixA0 c := by
  unfold mixA mixA0
  have e : mix 13#32 19#32 (0#32, c) = (c, IntOp.xori (rotl 13#32 19#32 c) c) := by
    unfold mix IntOp.addi
    simp only [BitVec.zero_add]
  rw [e]

theorem wordR_eq (lo : BitVec 32) : wordR 0#32 42#32 0#32 lo = word (lo + 42#32) := by
  unfold wordR
  simp only [mixAR_eq, mixBR_eq, injectR_eq]
  rw [show key3 0#32 42#32 = 466689008#32 by decide, show (466689008#32 + 1#32 : BitVec 32) = 466689009#32 by decide,
    show (0#32 + 2#32 : BitVec 32) = 2#32 by decide, show (42#32 + 3#32 : BitVec 32) = 45#32 by decide,
    show (466689008#32 + 4#32 : BitVec 32) = 466689012#32 by decide, show (0#32 + 5#32 : BitVec 32) = 5#32 by decide,
    show IntOp.addi 0#32 0#32 = 0#32 by decide, mixA_zero]
  rfl

namespace Ref

open Cert.ReferenceIdeal Cert.ReferenceIdeal.Gen
open Idealize.ShloMosaic.TcCoe
open Idealize.ShloMosaic.StableHlo (after)

variable {F : FTy → Type} [FloatOps F] [∀ e, Nonempty (Elt F e)]

/-- The empty index. -/
abbrev ixe : S_.Idx := fun a => a.elim0

theorem rd_bits (V : Valuation τ sig (Elt F)) (j : S32x1000000.Idx) :
    after ref0.1 V (main_v36 : DevRef τ sig) j = wordR (after ref0.1 V (main_v21 : DevRef τ sig) ixe) (after ref0.1 V (main_v23 : DevRef τ sig) ixe)
      (after ref0.1 V (main_v34 : DevRef τ sig) j) (after ref0.1 V (main_v33 : DevRef τ sig) j) := by
  after_reads_simp
  simp -implicitDefEqProofs only [StableHlo.TRef.toBuf, StableHlo.TRef.ofBuf, cast_cast, cast_eq]
  dsimp only [wordR, injectR, mixAR, mixBR, mixR, key3, rotl]
  clean_types
  simp (disch := decide) only [p_addi, p_xori, p_ori, p_shli, p_shrui, p_bc, p_constI, s_shli, s_shrui, id_eq]

end Ref

end Cert.Proof

end
-- ==== Proof.RefTail.lean ====
/- The reference's values, read: each column's counter, its score and the argmax. -/
module

public import proofs.«01_k».proof.Proof.RefWord
public import Idealize.ShloMosaic.Lib.Pipeline.Value

@[expose] public section

set_option synthInstance.maxSize 4096
set_option maxRecDepth 65536

noncomputable section

namespace Cert.Proof.Ref

open Cert.ReferenceIdeal Cert.ReferenceIdeal.Gen
open Idealize.ShloMosaic
open Idealize.ShloMosaic.TcCoe
open Idealize.ShloMosaic.StableHlo (after)

variable {F : FTy → Type} [FloatOps F] [∀ e, Nonempty (Elt F e)]

theorem p_rowR {α : Type} (x : S32.Idx → α) (h1) (h2) (j : S32x1000000.Idx) :
    broadcastInDim S32x1000000 ![0, 1] h2 (broadcastInDim S32x1 ![0] h1 x) j = x (rowIx (j 0)) := by
  unfold broadcastInDim
  refine congrArg x (funext fun a => ?_)
  obtain rfl : a = 0 := Subsingleton.elim _ _
  apply Fin.ext
  rfl

theorem rd_v15 (V : Valuation τ sig (Elt F)) : after ref0.1 V (main_v15 : DevRef τ sig) = fun _ => 0#32 := by
  after_reads_simp
  funext j
  rfl

theorem rd_v18 (V : Valuation τ sig (Elt F)) : after ref0.1 V (main_v18 : DevRef τ sig) = fun _ => 42#32 := by
  after_reads_simp
  funext j
  show IntOp.andi 42#32 4294967295#32 = 42#32
  decide

theorem rd_v34 (V : Valuation τ sig (Elt F)) (j : S32x1000000.Idx) : after ref0.1 V (main_v33 : DevRef τ sig) j
    = BitVec.setWidth 32 (IntOp.addi (IntOp.muli 1000000#64 (BitVec.ofNat 64 (j 0).val)) (IntOp.muli 1#64 (BitVec.ofNat 64 (j 1).val))) := by
  after_reads_simp
  rfl

theorem rd_v33 (V : Valuation τ sig (Elt F)) (j : S32x1000000.Idx) : after ref0.1 V (main_v34 : DevRef τ sig) j
    = BitVec.setWidth 32 (IntOp.shrui .host (IntOp.addi (IntOp.muli 1000000#64 (BitVec.ofNat 64 (j 0).val)) (IntOp.muli 1#64 (BitVec.ofNat 64 (j 1).val))) 32#64) := by
  after_reads_simp
  rfl

theorem rd_v2 (V : Valuation τ sig (Elt F)) : after ref0.1 V (main_v2 : DevRef τ sig)
    = Host.reduce FloatOps.maximumf (after ref0.1 V (main_v1 : DevRef τ sig)) (constant S_ .f32 0xFF800000#32) reducesTo_S32x1000000_S32_d1 h_S_ := by
  after_reads_simp

theorem rd_v1 (V : Valuation τ sig (Elt F)) (j : S32x1000000.Idx) : after ref0.1 V (main_v1 : DevRef τ sig) j
    = FloatOps.hostDivf (V (main_arg0 : DevRef τ sig) j) (FloatOps.ofBits .f32 0x3F800000#32) := by
  after_reads_simp
  rfl

theorem rd_v8 (V : Valuation τ sig (Elt F)) (j : S32x1000000.Idx) : after ref0.1 V (main_v8 : DevRef τ sig) j
    = FloatOps.hostUnary .exp (FloatOps.subf (after ref0.1 V (main_v1 : DevRef τ sig) j)
      (FloatOps.maximumf (FloatOps.ofBits .f32 0xFF800000#32) (after ref0.1 V (main_v2 : DevRef τ sig) (rowIx (j 0))))) := by
  refine Eq.trans ?_ (congrArg (fun y : F .f32 => FloatOps.hostUnary .exp (FloatOps.subf (after ref0.1 V (main_v1 : DevRef τ sig) j) y))
    (p_rowR (α := F .f32) (maximumf (broadcastInDim S32 ![] bcast_S_S32 (constant S_ .f32 0xFF800000#32)) (after ref0.1 V (main_v2 : DevRef τ sig)))
      bcast_S32_S32x1_0 bcast_S32x1_S32x1000000_0_1 j))
  after_reads_simp
  rfl

theorem rd_v9 (V : Valuation τ sig (Elt F)) : after ref0.1 V (main_v9 : DevRef τ sig)
    = Host.reduceAdd (after ref0.1 V (main_v8 : DevRef τ sig)) (constant S_ .f32 0x00000000#32) reducesTo_S32x1000000_S32_d1 h_S_ := by
  after_reads_simp

theorem rd_v12 (V : Valuation τ sig (Elt F)) (j : S32x1000000.Idx) : after ref0.1 V (main_v12 : DevRef τ sig) j
    = FloatOps.hostDivf (after ref0.1 V (main_v8 : DevRef τ sig) j) (after ref0.1 V (main_v9 : DevRef τ sig) (rowIx (j 0))) := by
  refine Eq.trans ?_ (congrArg (fun y : F .f32 => FloatOps.hostDivf (after ref0.1 V (main_v8 : DevRef τ sig) j) y)
    (p_rowR (α := F .f32) (after ref0.1 V (main_v9 : DevRef τ sig)) bcast_S32_S32x1_0 bcast_S32x1_S32x1000000_0_1 j))
  after_reads_simp
  rfl

theorem up15 (V : Valuation τ sig (Elt F)) : StableHlo.upto ref0.1 V 26 (main_v15 : DevRef τ sig) = fun _ => 0#32 := by
  after_reads_simp
  funext j
  rfl

theorem up18 (V : Valuation τ sig (Elt F)) : StableHlo.upto ref0.1 V 26 (main_v18 : DevRef τ sig) = fun _ => 42#32 := by
  after_reads_simp
  funext j
  show IntOp.andi 42#32 4294967295#32 = 42#32
  decide

/-- The first place of a one-element vector. -/
def ix0 : S1.Idx := fun | ⟨0, _⟩ => (0 : Fin 1)
/-- The two places of the key. -/
def ixk (k : Fin 2) : S2.Idx := fun | ⟨0, _⟩ => k

theorem key_at (k : Fin 2) (o : Fin 1 → ℕ) (h) (hc) (ho : o 0 = k.val) (y : S2.Idx → BitVec 32) :
    shapeCast S_ (extractStridedSlice S1 o y h) hc ixe = y (ixk k) := by
  refine (shapeCast_apply _ hc ixe ix0 ?_).trans ?_
  · have a : (S_.rowMajor ixe).val < 1 := (S_.rowMajor ixe).isLt
    have b : (S1.rowMajor ix0).val < 1 := (S1.rowMajor ix0).isLt
    omega
  · unfold extractStridedSlice
    refine congrArg y (funext fun a => ?_)
    obtain rfl : a = 0 := Subsingleton.elim _ _
    apply Fin.ext
    show o 0 + 0 = k.val
    omega

theorem rd_v21 (V : Valuation τ sig (Elt F)) : after ref0.1 V (main_v21 : DevRef τ sig) ixe = 0#32 := by
  after_reads_simp
  rw [up15, up18]
  refine (key_at 0 _ _ _ rfl _).trans ?_
  refine concatenate_pair_apply_left (t := S2) (s₁ := S1) (s₂ := S1) 0 (fun _ => 0#32) (fun _ => 42#32) _ _ rfl ix0 ?_
  intro b
  obtain rfl : b = 0 := Subsingleton.elim _ _
  rfl

theorem rd_v23 (V : Valuation τ sig (Elt F)) : after ref0.1 V (main_v23 : DevRef τ sig) ixe = 42#32 := by
  after_reads_simp
  rw [up15, up18]
  refine (key_at 1 _ _ _ rfl _).trans ?_
  refine concatenate_pair_apply_right (t := S2) (s₁ := S1) (s₂ := S1) 0 (fun _ => 0#32) (fun _ => 42#32) _ _ rfl rfl ix0 ?_ rfl
  intro b hb
  exact absurd (Subsingleton.elim (α := Fin 1) _ _) hb

theorem rd_v45 (V : Valuation τ sig (Elt F)) (j : S32x1000000.Idx) (b : BitVec 32) (h : after ref0.1 V (main_v36 : DevRef τ sig) j = b) :
    after ref0.1 V (main_v45 : DevRef τ sig) j = FloatOps.mulf (unitOf b) (FloatOps.ofBits .f32 0x3F800000#32) := by
  subst h
  unfold unitOf
  after_reads_simp
  rfl

/-- A column's value in the reference's argmax. -/
theorem rd_v55 (W : Valuation τ sig (Elt F)) (j : S32x1000000.Idx) : after ref1.1 W (main_v55 : DevRef τ sig) j
    = FloatOps.addf (FloatOps.hostNegf (FloatOps.hostUnary .log (FloatOps.hostNegf (FloatOps.hostUnary .log
      (FloatOps.maximumf (FloatOps.ofBits .f32 0x00800000#32) (FloatOps.addf (W (main_v45 : DevRef τ sig) j) (FloatOps.ofBits .f32 0x00800000#32)))))))
      (FloatOps.hostUnary .log (W (main_v12 : DevRef τ sig) j)) := by
  after_reads_simp
  rfl

theorem rd_v56 (W : Valuation τ sig (Elt F)) : after ref1.1 W (main_v56 : DevRef τ sig)
    = fun j => (Host.argReduce reducer_argmax_f32_i32 (after ref1.1 W (main_v55 : DevRef τ sig)) (iotaInDim S32x1000000 32 1)
        (constant S_ .f32 0xFF800000#32) (constantI S_ 32 0#32) reducesTo_S32x1000000_S32_d1 h_S_ j).2 := by
  after_reads_simp
  simp -implicitDefEqProofs only [StableHlo.TRef.toBuf, StableHlo.TRef.ofBuf, cast_cast, cast_eq]

/-- The counter's two words: none high, the flat position low. -/
theorem flat_words (r c : ℕ) (hr : r < 32) (hc : c < 1000000) :
    BitVec.setWidth 32 (IntOp.addi (IntOp.muli 1000000#64 (BitVec.ofNat 64 r)) (IntOp.muli 1#64 (BitVec.ofNat 64 c))) = BitVec.ofNat 32 (r * 1000000 + c)
    ∧ BitVec.setWidth 32 (IntOp.shrui .host (IntOp.addi (IntOp.muli 1000000#64 (BitVec.ofNat 64 r)) (IntOp.muli 1#64 (BitVec.ofNat 64 c))) 32#64) = 0#32 := by
  have e : IntOp.addi (IntOp.muli 1000000#64 (BitVec.ofNat 64 r)) (IntOp.muli 1#64 (BitVec.ofNat 64 c)) = BitVec.ofNat 64 (r * 1000000 + c) := by
    show 1000000#64 * BitVec.ofNat 64 r + 1#64 * BitVec.ofNat 64 c = _
    rw [BitVec.one_mul, BitVec.ofNat_add, BitVec.ofNat_mul, BitVec.mul_comm]
  rw [e]
  refine ⟨?_, ?_⟩
  · apply BitVec.eq_of_toNat_eq
    rw [BitVec.toNat_setWidth, BitVec.toNat_ofNat, BitVec.toNat_ofNat]
    have : (r * 1000000 + c) % 2 ^ 64 = r * 1000000 + c := Nat.mod_eq_of_lt (by omega)
    rw [this]
  · show BitVec.setWidth 32 (BitVec.ofNat 64 (r * 1000000 + c) >>> (32 : ℕ)) = 0#32
    apply BitVec.eq_of_toNat_eq
    rw [BitVec.toNat_setWidth, BitVec.toNat_ushiftRight, BitVec.toNat_ofNat, Nat.shiftRight_eq_div_pow]
    have e2 : (r * 1000000 + c) % 2 ^ 64 = r * 1000000 + c := Nat.mod_eq_of_lt (by omega)
    rw [e2, Nat.div_eq_of_lt (by omega)]; rfl

/-- A column's random word. -/
theorem bits_at (V : Valuation τ sig (Elt F)) (j : S32x1000000.Idx) :
    after ref0.1 V (main_v36 : DevRef τ sig) j = word (BitVec.ofNat 32 ((j 0).val * 1000000 + (j 1).val) + 42#32) := by
  have e := flat_words (j 0).val (j 1).val (j 0).isLt (j 1).isLt
  rw [rd_bits, rd_v21, rd_v23, rd_v34, rd_v33, e.1, e.2, wordR_eq]

end Cert.Proof.Ref
-- ==== Proof.RefVal.lean ====
/- The reference's result over the extended reals: the first column whose score is greatest. -/
module

public import proofs.«01_k».proof.Proof.RefTail
public import proofs.«01_k».proof.Proof.RowFold
public import proofs.«01_k».proof.Proof.RefRun

@[expose] public section

set_option maxRecDepth 65536

noncomputable section

namespace Cert.Proof.Ref

open Cert.ReferenceIdeal Cert.ReferenceIdeal.Gen
open Idealize.ShloMosaic
open Idealize.ShloMosaic.TcCoe
open Idealize.ShloMosaic.StableHlo (after)

theorem one_val : FloatOps.ofBits (F := Ideal) .f32 0x3F800000#32 = ((1 : ℝ) : EReal) := Ideal.ofBits_one_f32
theorem neg_inf_val : Ideal.ofBits .f32 0xFF800000#32 = ⊥ := by simp [Ideal.ofBits, Ideal.ieee]

theorem cmp_gt (x y : EReal) : (FloatOps.cmpf (F := Ideal) (φ := .f32) .ogt x y) = if y < x then 1#1 else 0#1 := by
  show Ideal.cmp .ogt x y = _
  unfold Ideal.cmp
  by_cases h : y < x <;> simp [h]
theorem cmp_ne (x : EReal) : (FloatOps.cmpf (F := Ideal) (φ := .f32) .une x x) = 0#1 := by
  show Ideal.cmp .une x x = _
  unfold Ideal.cmp
  simp
theorem cmp_eq (x y : EReal) : (FloatOps.cmpf (F := Ideal) (φ := .f32) .oeq x y) = if x = y then 1#1 else 0#1 := by
  show Ideal.cmp .oeq x y = _
  unfold Ideal.cmp
  by_cases h : x = y <;> simp [h]

/-- The argmax's body is one step of the search for the first greatest. -/
theorem reducer_eq : reducer_argmax_f32_i32 (F := Ideal) = pick := by
  funext a b
  obtain ⟨a1, a2⟩ := a
  obtain ⟨b1, b2⟩ := b
  unfold reducer_argmax_f32_i32 pick
  simp only [cmp_gt, cmp_ne, cmp_eq]
  have hs : IntOp.cmpi .slt a2 b2 = if a2.slt b2 = true then 1#1 else 0#1 := by
    show BitVec.ofBool (a2.slt b2) = _
    cases a2.slt b2 <;> rfl
  rw [hs]
  unfold Scalar.select IntOp.ori IntOp.andi
  by_cases h1 : b1 < a1 <;> by_cases h2 : a1 = b1 <;> by_cases h3 : a2.slt b2 = true <;> simp [h1, h2, h3]

/-- A column's word, as the reference counts it. -/
theorem ref_ctr (r : Fin 32) (c : ℕ) : BitVec.ofNat 32 (r.val * 1000000 + c) + 42#32 = BitVec.ofNat 32 (r.val * 1000000 + 42) + BitVec.ofNat 32 c := by
  rw [BitVec.ofNat_add, BitVec.ofNat_add, BitVec.add_assoc, BitVec.add_assoc, BitVec.add_comm (BitVec.ofNat 32 c)]

/-- The result on a row is the first column whose score is greatest. -/
theorem ref_val (V : Valuation τ sig (Elt Ideal)) (xr : Fin 32 → ℕ → ℝ)
    (hx : ∀ i : S32x1000000.Idx, V (main_arg0 : DevRef τ sig) i = (xr (i 0) (i 1).val : EReal)) (j : S32.Idx) (c : ℕ) (hc : c < 1000000)
    (S : Fin 32 → ℕ → ℝ) (hS : ∀ r k, S r k = xr r k + gum (BitVec.ofNat 32 (r.val * 1000000 + 42) + BitVec.ofNat 32 k))
    (hmax : ∀ k < 1000000, S (j 0) k ≤ S (j 0) c) (hfst : ∀ k < c, S (j 0) k < S (j 0) c) :
    after refOps V (main_v56 : DevRef τ sig) j = BitVec.ofNat 32 c := by
  have h1 : ∀ i : S32x1000000.Idx, after ref0.1 V (main_v1 : DevRef τ sig) i = (xr (i 0) (i 1).val : EReal) := fun i => by
    rw [rd_v1, hx, one_val, h_div _ _ one_pos, div_one]
  obtain ⟨M, hM⟩ : ∃ M : Fin 32 → ℝ, ∀ r, after ref0.1 V (main_v2 : DevRef τ sig) (rowIx r) = (M r : EReal) := by
    have : ∀ r : Fin 32, ∃ M : ℝ, after ref0.1 V (main_v2 : DevRef τ sig) (rowIx r) = (M : EReal) := fun r => by
      rw [rd_v2]
      exact row_max_real (n := 1000000) _ h_S_ (by norm_num) _ (constant (F := Ideal) S_ .f32 0xFF800000#32) neg_inf_val (rowIx r) _ h1
    exact ⟨fun r => (this r).choose, fun r => (this r).choose_spec⟩
  have h8 : ∀ i : S32x1000000.Idx, after ref0.1 V (main_v8 : DevRef τ sig) i = ((Real.exp (xr (i 0) (i 1).val - M (i 0)) : ℝ) : EReal) := fun i => by
    have e : FloatOps.maximumf (F := Ideal) (φ := .f32) (FloatOps.ofBits .f32 0xFF800000#32) (M (i 0) : EReal) = (M (i 0) : EReal) := by
      rw [show FloatOps.ofBits (F := Ideal) .f32 0xFF800000#32 = (⊥ : EReal) from neg_inf_val]
      exact max_eq_right bot_le
    rw [rd_v8, h1, hM (i 0), e, e_sub, h_exp]
  obtain ⟨L, hLp, hL⟩ : ∃ L : Fin 32 → ℝ, (∀ r, 0 < L r) ∧ ∀ r, after ref0.1 V (main_v9 : DevRef τ sig) (rowIx r) = (L r : EReal) := by
    have : ∀ r : Fin 32, ∃ L : ℝ, 0 < L ∧ after ref0.1 V (main_v9 : DevRef τ sig) (rowIx r) = (L : EReal) := fun r => by
      rw [rd_v9]
      exact row_sum_real (n := 1000000) _ h_S_ (by norm_num) _ (constant (F := Ideal) S_ .f32 0x00000000#32) Ideal.ofBits_zero_f32 (rowIx r)
        _ (fun i => Real.exp_pos _) h8
    exact ⟨fun r => (this r).choose, fun r => (this r).choose_spec.1, fun r => (this r).choose_spec.2⟩
  have h55 : ∀ i : S32x1000000.Idx, after ref1.1 (after ref0.1 V) (main_v55 : DevRef τ sig) i
      = ((S (i 0) (i 1).val - (M (i 0) + Real.log (L (i 0))) : ℝ) : EReal) := fun i => by
    have e : FloatOps.mulf (F := Ideal) (φ := .f32) (unitOf (word (BitVec.ofNat 32 ((i 0).val * 1000000 + (i 1).val) + 42#32))) (FloatOps.ofBits .f32 0x3F800000#32)
        = unitOf (word (BitVec.ofNat 32 ((i 0).val * 1000000 + (i 1).val) + 42#32)) := by
      rw [unitOf_val, one_val, e_mul, mul_one]
    rw [rd_v55, rd_v45 V i _ (bits_at V i), e, gum_val, rd_v12, h8, hL (i 0)]
    have e2 := soft_val (xr (i 0) (i 1).val) (M (i 0)) (L (i 0)) (hLp (i 0))
    rw [e_sub, h_exp] at e2
    rw [e2, e_add, hS (i 0) (i 1).val, ref_ctr (i 0) (i 1).val]
    congr 1
    ring
  have happ : after refOps V = after ref1.1 (after ref0.1 V) := StableHlo.after_append _ _ _
  rw [happ, rd_v56]
  show (Host.argReduce reducer_argmax_f32_i32 (after ref1.1 (after ref0.1 V) (main_v55 : DevRef τ sig)) (iotaInDim S32x1000000 32 1)
        (constant (F := Ideal) S_ .f32 0xFF800000#32) (constantI S_ 32 0#32) reducesTo_S32x1000000_S32_d1 h_S_ j).2 = _
  rw [Ideal.argReduce_eq_reduce2, Host.reduce2_eq_foldl_fiber, reducer_eq]
  let i0 : S32x1000000.Idx := fun | ⟨0, _⟩ => j 0 | ⟨1, _⟩ => (⟨c, hc⟩ : Fin 1000000)
  have hlist : (Host.argReduceFiber (after ref1.1 (after ref0.1 V) (main_v55 : DevRef τ sig)) (iotaInDim S32x1000000 32 1) reducesTo_S32x1000000_S32_d1 j).foldl pick
      (constant (F := Ideal) S_ .f32 0xFF800000#32 (Shape.Idx.first h_S_), constantI S_ 32 0#32 (Shape.Idx.first h_S_))
      = (((S (j 0) c - (M (j 0) + Real.log (L (j 0))) : ℝ) : EReal), BitVec.ofNat 32 c) := by
    refine foldl_pick _ _ _ (Or.inr (Or.inl ?_)) (fun p hp => ?_) (Or.inr ?_)
    · show Ideal.ofBits .f32 0xFF800000#32 < _
      rw [neg_inf_val]
      exact EReal.bot_lt_coe _
    · unfold Host.argReduceFiber at hp
      obtain ⟨n, hn, rfl⟩ := List.mem_map.mp hp
      have hd := (drop_iff (n := 1000000) reducesTo_S32x1000000_S32_d1 _ j).mp (of_decide_eq_true (List.mem_filter.mp hn).2)
      generalize S32x1000000.rowMajor.symm n = i at hd
      have hi : (i 1).val < 1000000 := (i 1).isLt
      rw [h55, hd]
      show Beaten (_, BitVec.ofNat 32 (i 1).val) _
      by_cases heq : (i 1).val = c
      · left; rw [heq]
      · right
        by_cases hS' : S (j 0) (i 1).val < S (j 0) c
        · left
          exact EReal.coe_lt_coe_iff.mpr (sub_lt_sub_right hS' _)
        · right
          have e := le_antisymm (hmax _ hi) (not_lt.mp hS')
          refine ⟨by show ((_ : ℝ) : EReal) = _; rw [e], ?_⟩
          have hlt : c < (i 1).val := by
            by_contra hge
            exact hS' (hfst _ (by omega))
          show (BitVec.ofNat 32 c).slt (BitVec.ofNat 32 (i 1).val) = true
          have t1 : (BitVec.ofNat 32 c).toNat = c := by rw [BitVec.toNat_ofNat]; exact Nat.mod_eq_of_lt (by omega)
          have t2 : (BitVec.ofNat 32 (i 1).val).toNat = (i 1).val := by rw [BitVec.toNat_ofNat]; exact Nat.mod_eq_of_lt (by omega)
          rw [BitVec.slt_eq_decide, BitVec.toInt_eq_toNat_of_lt (by omega), BitVec.toInt_eq_toNat_of_lt (by omega), t1, t2]
          exact decide_eq_true (by exact_mod_cast hlt)
    · have es : (main_v55 : DevRef τ sig).ty.shape.rowMajor.symm (S32x1000000.rowMajor i0) = i0 := Equiv.symm_apply_apply _ _
      unfold Host.argReduceFiber
      refine List.mem_map.mpr ⟨S32x1000000.rowMajor i0, List.mem_filter.mpr ⟨List.mem_finRange _, ?_⟩, ?_⟩
      · rw [es]
        exact decide_eq_true ((drop_iff (n := 1000000) reducesTo_S32x1000000_S32_d1 i0 j).mpr rfl)
      · rw [es, h55]
        rfl
  exact congrArg Prod.snd hlist

end Cert.Proof.Ref

end
-- ==== Proof.Value.lean ====
/- The two programs' results compared: on every row, the first column whose score is greatest. -/
module

public import proofs.«01_k».proof.Defs
public import proofs.«01_k».proof.Proof.Race
public import proofs.«01_k».proof.Proof.RefVal
public import Idealize.ShloMosaic.Lib.ReduceAll

@[expose] public section

set_option maxRecDepth 65536

noncomputable section

namespace Cert.Proof

open Idealize.ShloMosaic Idealize.SL.Sem
open Idealize.ShloMosaic.TcCoe
open Idealize.ShloMosaic.StableHlo (after launchContents)

/-- The shape facts of the precondition. -/
instance pre_facts : Cert.Pre_finite_logits.Facts where
  bcast_S_S32x1000000 := by decide
  reducesTo_S32x1000000_S_d0_1 := by decide
  h_S_ := by decide

theorem inf_val : Ideal.ofBits .f32 0x7F800000#32 = ⊤ := by simp [Ideal.ofBits, Ideal.ieee]

theorem lt_of_cmp (x y : EReal) (h : Ideal.cmp .olt x y = 1#1) : x < y := by
  unfold Ideal.cmp at h
  by_contra hlt
  simp [hlt] at h

/-- A logit of which the precondition holds is a real number. -/
theorem real_of_pre (X : Cert.KernelIdeal.S32x1000000.Idx → Ideal .f32)
    (h : Cert.Pre_finite_logits.fn (F := Ideal) X = fun _ => 1#1) (i : Cert.KernelIdeal.S32x1000000.Idx) :
    X i = ((EReal.toReal (X i) : ℝ) : EReal) := by
  haveI : Subsingleton Cert.Pre_finite_logits.S_.Idx := ⟨fun a b => funext fun k => k.elim0⟩
  have h1 := Host.reduce_andi_all _ _ _ _ _ (congrFun h (fun k : Fin 0 => k.elim0)) i
  have h2 : max (X i) (-(X i)) < (⊤ : EReal) := by
    rw [← inf_val]
    exact lt_of_cmp _ _ h1
  have h3 := max_lt_iff.mp h2
  refine (EReal.coe_toReal h3.1.ne fun hb => ?_).symm
  rw [hb] at h3
  exact absurd h3.2 (by simp)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From the same finite logits the two programs end with the same samples. -/
theorem same_samples (d : Dev Cert.KernelIdeal.nD)
    (hfin : ∀ i : Cert.KernelIdeal.S32x1000000.Idx, m (xLoc d) i = ((EReal.toReal (m (xLoc d) i) : ℝ) : EReal))
    (h : launchContents m' d (Cert.ReferenceIdeal.main_arg0 : DevRef Cert.ReferenceIdeal.τ Cert.ReferenceIdeal.sig) = m (xLoc d))
    (j : Cert.KernelIdeal.S32.Idx) :
    after Ref.refOps (launchContents m' d) (Cert.ReferenceIdeal.main_v56 : DevRef Cert.ReferenceIdeal.τ Cert.ReferenceIdeal.sig) j
      = W3 m d (Cert.KernelIdeal.main_v211 : DevRef Cert.KernelIdeal.τ Cert.KernelIdeal.sig) j := by
  let xr : Fin 32 → ℕ → ℝ := fun r n => EReal.toReal (rowOf (F := Ideal) (m (xLoc d)) r n)
  have hx : ∀ r n, rowOf (F := Ideal) (m (xLoc d)) r n = (xr r n : EReal) := fun r n => hfin _
  obtain ⟨c, hc, hmax, hfst⟩ := exists_first (rowScore (xr (j 0)) (j 0)) 1000000 (by norm_num)
  refine (Ref.ref_val (launchContents m' d) xr (fun i => ?_) j c hc (fun r k => rowScore (xr r) r k) (fun r k => rfl) hmax hfst).trans ?_
  · rw [h]
    refine Eq.trans ?_ (hx (i 0) (i 1).val)
    unfold rowOf
    refine congrArg (m (xLoc d)) (funext fun a => ?_)
    match a with
    | ⟨0, _⟩ => rfl
    | ⟨1, _⟩ =>
      apply Fin.ext
      show (i 1).val = (i 1).val % 1000000
      exact (Nat.mod_eq_of_lt (i 1).isLt).symm
  · unfold W3 hostOps
    rw [StableHlo.after_append, StableHlo.after_append, StableHlo.after_append, StableHlo.after_append]
    exact (kernel_val (left_W2 m d) xr hx j c hc hmax hfst).symm

end

theorem value : Cert.algebraic_KernelIdeal_ReferenceIdeal_pre_finite_logits (hPre_finite_logits := pre_facts) := fun m ρ m' ρ' hpre hsame =>
  ⟨fun d => W3 m d (Cert.KernelIdeal.main_v211 : DevRef Cert.KernelIdeal.τ Cert.KernelIdeal.sig),
    (θ_run Cert.KernelIdeal.defs _ _).mono (fun _ h d => ⟨(h.1 d).2, (h.1 d).1⟩) (run_main (F := Ideal) m ρ),
    (θ_run Cert.ReferenceIdeal.defs _ _).mono (fun _ h d => ⟨(h.1 d).2.trans
      (funext fun j => same_samples m m' d (real_of_pre _ (hpre d)) (hsame d) j), (h.1 d).1⟩) (Ref.run_ref (F := Ideal) m' ρ')⟩

end Cert.Proof

end
-- ==== Proof.lean ====
/- The claims: the frames of the three programs, the idealization's rewrites, and the equality of the samples. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Main
public import proofs.«01_k».proof.Proof.RefRun
public import proofs.«01_k».proof.Proof.Same
public import proofs.«01_k».proof.Proof.Value

@[expose] public section

set_option maxRecDepth 65536

noncomputable section

namespace Cert.Proof

open Idealize.ShloMosaic Idealize.SL.Sem

theorem frame_PI : Cert.quiescent_KernelIdeal := fun m ρ _ =>
  (θ_run Cert.KernelIdeal.defs _ _).mono (fun _ h => ⟨fun c => (h.1 c).1, h.2⟩) (run_main (F := Ideal) m ρ)

theorem frame_RI : Cert.quiescent_ReferenceIdeal := fun m ρ _ =>
  (θ_run Cert.ReferenceIdeal.defs _ _).mono (fun _ h => ⟨fun c => (h.1 c).1, h.2⟩) (Ref.run_ref (F := Ideal) m ρ)

theorem claim : Cert.Claim := ⟨Cert.Kernel.Gen.facts, Cert.KernelIdeal.Gen.facts, Cert.ReferenceIdeal.Gen.facts, pre_facts,
  frame_P, frame_PI, fun m ρ _ => frame_PI m ρ trivial, frame_RI, fun m ρ _ => frame_RI m ρ trivial, trivial, value⟩

end Cert.Proof

end
